-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![512, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S512x512 : Shape := ⟨2, ![512, 512]⟩
abbrev S256x256 : Shape := ⟨2, ![256, 256]⟩
abbrev S192x256 : Shape := ⟨2, ![192, 256]⟩
abbrev S384x256 : Shape := ⟨2, ![384, 256]⟩
abbrev S96x256 : Shape := ⟨2, ![96, 256]⟩
abbrev S32x256 : Shape := ⟨2, ![32, 256]⟩
abbrev S1 : Shape := ⟨1, ![1]⟩
abbrev S4 : Shape := ⟨1, ![4]⟩
abbrev S_ : Shape := ⟨0, ![]⟩
abbrev S128x256 : Shape := ⟨2, ![128, 256]⟩
abbrev S64x256 : Shape := ⟨2, ![64, 256]⟩

abbrev nBuf : Space → Nat
  | .hbm => 8
  | .vmem => 16
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x256, .f32⟩
  | .hbm, ⟨3, _⟩ => ⟨S256x512, .f32⟩
  | .hbm, ⟨4, _⟩ => ⟨S512x256, .f32⟩
  | .hbm, ⟨5, _⟩ => ⟨S256x512, .f32⟩
  | .hbm, ⟨6, _⟩ => ⟨S512x256, .f32⟩
  | .hbm, ⟨7, _⟩ => ⟨S512x256, .f32⟩
  | .local _ .vmem, ⟨0, _⟩ => ⟨S512x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S512x256, .f32⟩
  | .local _ .vmem, ⟨8, _⟩ => ⟨S512x512, .f32⟩
  | .local _ .vmem, ⟨9, _⟩ => ⟨S512x512, .bf16⟩
  | .local _ .vmem, ⟨10, _⟩ => ⟨S256x256, .f32⟩
  | .local _ .vmem, ⟨11, _⟩ => ⟨S192x256, .f32⟩
  | .local _ .vmem, ⟨12, _⟩ => ⟨S192x256, .f32⟩
  | .local _ .vmem, ⟨13, _⟩ => ⟨S384x256, .f32⟩
  | .local _ .vmem, ⟨14, _⟩ => ⟨S96x256, .f32⟩
  | .local _ .vmem, ⟨15, _⟩ => ⟨S32x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v13 : BitVec 32 := Scalar.addi v2 c1_i32_5
  let c2_i32_6 : BitVec 32 := 2#32
  let c2_i32 : BitVec 32 := 2#32
  let v3 : BitVec 32 := Scalar.remsi v2 c2_i32
  let v14 : BitVec 32 := Scalar.muli c2_i32_6 v3
  let v15 : BitVec 32 := Scalar.subi v13 v14
  let c1_i32_9 : BitVec 32 := 1#32
  let v23 : BitVec 32 := Scalar.muli v15 c1_i32_9
  let v24 : BitVec 32 := Scalar.addi c0_i32 v23
  v24.toNat
def k0_dev2 (d0 : Dev nD) : Nat :=
  let c0_i32_17 : BitVec 32 := 0#32
  let c8_i32_13 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v32 : BitVec 32 := Scalar.muli c8_i32_13 v4
  let c2_i32_14 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c1_i32_10 : BitVec 32 := 1#32
  let v25 : BitVec 32 := Scalar.addi v6 c1_i32_10
  let c4_i32 : BitVec 32 := 4#32
  let v26 : BitVec 32 := Scalar.remsi v25 c4_i32
  let v33 : BitVec 32 := Scalar.muli c2_i32_14 v26
  let v34 : BitVec 32 := Scalar.addi v32 v33
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_11 : BitVec 32 := 2#32
  let v27 : BitVec 32 := Scalar.remsi v26 c2_i32_11
  let v28 : BitVec 32 := Scalar.addi v11 v27
  let c2_i32_12 : BitVec 32 := 2#32
  let v29 : BitVec 32 := Scalar.muli c2_i32_12 v11
  let v30 : BitVec 32 := Scalar.muli v29 v27
  let v31 : BitVec 32 := Scalar.subi v28 v30
  let v35 : BitVec 32 := Scalar.addi v34 v31
  let c1_i32_16 : BitVec 32 := 1#32
  let v36 : BitVec 32 := Scalar.muli v35 c1_i32_16
  let v37 : BitVec 32 := Scalar.addi c0_i32_17 v36
  v37.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_20 : BitVec 32 := 8#32
  let c8_i32 : BitVec 32 := 8#32
  let v4 : BitVec 32 := Scalar.divsi v2 c8_i32
  let c1_i32_18 : BitVec 32 := 1#32
  let v38 : BitVec 32 := Scalar.addi v4 c1_i32_18
  let c4_i32_19 : BitVec 32 := 4#32
  let v39 : BitVec 32 := Scalar.remsi v38 c4_i32_19
  let v40 : BitVec 32 := Scalar.muli c8_i32_20 v39
  let v41 : BitVec 32 := Scalar.addi v12 v40
  let c1_i32_22 : BitVec 32 := 1#32
  let v42 : BitVec 32 := Scalar.muli v41 c1_i32_22
  let v43 : BitVec 32 := Scalar.addi c0_i32_23 v42
  v43.toNat
def k0_dev4 (d0 : Dev nD) : Nat :=
  let c0_i32_32 : BitVec 32 := 0#32
  let c8_i32_28 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v51 : BitVec 32 := Scalar.muli c8_i32_28 v4
  let c2_i32_29 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c2_i32_24 : BitVec 32 := 2#32
  let v44 : BitVec 32 := Scalar.addi v6 c2_i32_24
  let c4_i32_25 : BitVec 32 := 4#32
  let v45 : BitVec 32 := Scalar.remsi v44 c4_i32_25
  let v52 : BitVec 32 := Scalar.muli c2_i32_29 v45
  let v53 : BitVec 32 := Scalar.addi v51 v52
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_26 : BitVec 32 := 2#32
  let v46 : BitVec 32 := Scalar.remsi v45 c2_i32_26
  let v47 : BitVec 32 := Scalar.addi v11 v46
  let c2_i32_27 : BitVec 32 := 2#32
  let v48 : BitVec 32 := Scalar.muli c2_i32_27 v11
  let v49 : BitVec 32 := Scalar.muli v48 v46
  let v50 : BitVec 32 := Scalar.subi v47 v49
  let v54 : BitVec 32 := Scalar.addi v53 v50
  let c1_i32_31 : BitVec 32 := 1#32
  let v55 : BitVec 32 := Scalar.muli v54 c1_i32_31
  let v56 : BitVec 32 := Scalar.addi c0_i32_32 v55
  v56.toNat
def k0_dev5 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_35 : BitVec 32 := 8#32
  let c8_i32 : BitVec 32 := 8#32
  let v4 : BitVec 32 := Scalar.divsi v2 c8_i32
  let c2_i32_33 : BitVec 32 := 2#32
  let v57 : BitVec 32 := Scalar.addi v4 c2_i32_33
  let c4_i32_34 : BitVec 32 := 4#32
  let v58 : BitVec 32 := Scalar.remsi v57 c4_i32_34
  let v59 : BitVec 32 := Scalar.muli c8_i32_35 v58
  let v60 : BitVec 32 := Scalar.addi v12 v59
  let c1_i32_37 : BitVec 32 := 1#32
  let v61 : BitVec 32 := Scalar.muli v60 c1_i32_37
  let v62 : BitVec 32 := Scalar.addi c0_i32_38 v61
  v62.toNat
def k0_dev6 (d0 : Dev nD) : Nat :=
  let c0_i32_46 : BitVec 32 := 0#32
  let c8_i32_42 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v70 : BitVec 32 := Scalar.muli c8_i32_42 v4
  let c2_i32_43 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c3_i32 : BitVec 32 := 3#32
  let v63 : BitVec 32 := Scalar.addi v6 c3_i32
  let c4_i32_39 : BitVec 32 := 4#32
  let v64 : BitVec 32 := Scalar.remsi v63 c4_i32_39
  let v71 : BitVec 32 := Scalar.muli c2_i32_43 v64
  let v72 : BitVec 32 := Scalar.addi v70 v71
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_40 : BitVec 32 := 2#32
  let v65 : BitVec 32 := Scalar.remsi v64 c2_i32_40
  let v66 : BitVec 32 := Scalar.addi v11 v65
  let c2_i32_41 : BitVec 32 := 2#32
  let v67 : BitVec 32 := Scalar.muli c2_i32_41 v11
  let v68 : BitVec 32 := Scalar.muli v67 v65
  let v69 : BitVec 32 := Scalar.subi v66 v68
  let v73 : BitVec 32 := Scalar.addi v72 v69
  let c1_i32_45 : BitVec 32 := 1#32
  let v74 : BitVec 32 := Scalar.muli v73 c1_i32_45
  let v75 : BitVec 32 := Scalar.addi c0_i32_46 v74
  v75.toNat
def k0_dev7 (d0 : Dev nD) : Nat :=
  let c0_i32_52 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_49 : BitVec 32 := 8#32
  let c8_i32 : BitVec 32 := 8#32
  let v4 : BitVec 32 := Scalar.divsi v2 c8_i32
  let c3_i32_47 : BitVec 32 := 3#32
  let v76 : BitVec 32 := Scalar.addi v4 c3_i32_47
  let c4_i32_48 : BitVec 32 := 4#32
  let v77 : BitVec 32 := Scalar.remsi v76 c4_i32_48
  let v78 : BitVec 32 := Scalar.muli c8_i32_49 v77
  let v79 : BitVec 32 := Scalar.addi v12 v78
  let c1_i32_51 : BitVec 32 := 1#32
  let v80 : BitVec 32 := Scalar.muli v79 c1_i32_51
  let v81 : BitVec 32 := Scalar.addi c0_i32_52 v80
  v81.toNat
def k0_off1 (d0 : Dev nD) : Fin 2 → Nat :=
  let c1_i32_58 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let c8_i32_0 : BitVec 32 := 8#32
  let v5 : BitVec 32 := Scalar.remsi v2 c8_i32_0
  let c2_i32_1 : BitVec 32 := 2#32
  let v6 : BitVec 32 := Scalar.divsi v5 c2_i32_1
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let v90 : BitVec 32 := Scalar.subi c1_i32_58 v11
  let c256_i32_59 : BitVec 32 := 256#32
  let v91 : BitVec 32 := Scalar.muli v90 c256_i32_59
  let c0_i32_64 : BitVec 32 := 0#32
  ![v91.toNat, 0]
def k0_dev8 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v13 : BitVec 32 := Scalar.addi v2 c1_i32_5
  let c2_i32_6 : BitVec 32 := 2#32
  let c2_i32 : BitVec 32 := 2#32
  let v3 : BitVec 32 := Scalar.remsi v2 c2_i32
  let v14 : BitVec 32 := Scalar.muli c2_i32_6 v3
  let v15 : BitVec 32 := Scalar.subi v13 v14
  let c1_i32_62 : BitVec 32 := 1#32
  let v92 : BitVec 32 := Scalar.muli v15 c1_i32_62
  let v93 : BitVec 32 := Scalar.addi c0_i32_63 v92
  v93.toNat
def k0_off2 (d0 : Dev nD) (c1_i32_65 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v5 : BitVec 32 := Scalar.remsi v2 c8_i32_0
  let c2_i32_1 : BitVec 32 := 2#32
  let v6 : BitVec 32 := Scalar.divsi v5 c2_i32_1
  let v99 : BitVec 32 := Scalar.addi v6 c1_i32_65
  let c4_i32_66 : BitVec 32 := 4#32
  let v100 : BitVec 32 := Scalar.remsi v99 c4_i32_66
  let c128_i32_67 : BitVec 32 := 128#32
  let v101 : BitVec 32 := Scalar.muli v100 c128_i32_67
  let c256_i32_78 : BitVec 32 := 256#32
  ![v101.toNat, 256]
def k0_dev9 (d0 : Dev nD) : Nat :=
  let c0_i32_75 : BitVec 32 := 0#32
  let c8_i32_70 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v107 : BitVec 32 := Scalar.muli c8_i32_70 v4
  let c2_i32_71 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c1_i32_65 : BitVec 32 := 1#32
  let v99 : BitVec 32 := Scalar.addi v6 c1_i32_65
  let c4_i32_66 : BitVec 32 := 4#32
  let v100 : BitVec 32 := Scalar.remsi v99 c4_i32_66
  let v108 : BitVec 32 := Scalar.muli c2_i32_71 v100
  let v109 : BitVec 32 := Scalar.addi v107 v108
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_68 : BitVec 32 := 2#32
  let v102 : BitVec 32 := Scalar.remsi v100 c2_i32_68
  let v103 : BitVec 32 := Scalar.addi v11 v102
  let c2_i32_69 : BitVec 32 := 2#32
  let v104 : BitVec 32 := Scalar.muli c2_i32_69 v11
  let v105 : BitVec 32 := Scalar.muli v104 v102
  let v106 : BitVec 32 := Scalar.subi v103 v105
  let v110 : BitVec 32 := Scalar.addi v109 v106
  let c1_i32_74 : BitVec 32 := 1#32
  let v111 : BitVec 32 := Scalar.muli v110 c1_i32_74
  let v112 : BitVec 32 := Scalar.addi c0_i32_75 v111
  v112.toNat
def k0_dev10 (d0 : Dev nD) : Nat :=
  let c0_i32_89 : BitVec 32 := 0#32
  let c8_i32_84 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v127 : BitVec 32 := Scalar.muli c8_i32_84 v4
  let c2_i32_85 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c2_i32_79 : BitVec 32 := 2#32
  let v119 : BitVec 32 := Scalar.addi v6 c2_i32_79
  let c4_i32_80 : BitVec 32 := 4#32
  let v120 : BitVec 32 := Scalar.remsi v119 c4_i32_80
  let v128 : BitVec 32 := Scalar.muli c2_i32_85 v120
  let v129 : BitVec 32 := Scalar.addi v127 v128
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_82 : BitVec 32 := 2#32
  let v122 : BitVec 32 := Scalar.remsi v120 c2_i32_82
  let v123 : BitVec 32 := Scalar.addi v11 v122
  let c2_i32_83 : BitVec 32 := 2#32
  let v124 : BitVec 32 := Scalar.muli c2_i32_83 v11
  let v125 : BitVec 32 := Scalar.muli v124 v122
  let v126 : BitVec 32 := Scalar.subi v123 v125
  let v130 : BitVec 32 := Scalar.addi v129 v126
  let c1_i32_88 : BitVec 32 := 1#32
  let v131 : BitVec 32 := Scalar.muli v130 c1_i32_88
  let v132 : BitVec 32 := Scalar.addi c0_i32_89 v131
  v132.toNat
def k0_dev11 (d0 : Dev nD) : Nat :=
  let c0_i32_103 : BitVec 32 := 0#32
  let c8_i32_98 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v147 : BitVec 32 := Scalar.muli c8_i32_98 v4
  let c2_i32_99 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c3_i32_93 : BitVec 32 := 3#32
  let v139 : BitVec 32 := Scalar.addi v6 c3_i32_93
  let c4_i32_94 : BitVec 32 := 4#32
  let v140 : BitVec 32 := Scalar.remsi v139 c4_i32_94
  let v148 : BitVec 32 := Scalar.muli c2_i32_99 v140
  let v149 : BitVec 32 := Scalar.addi v147 v148
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_96 : BitVec 32 := 2#32
  let v142 : BitVec 32 := Scalar.remsi v140 c2_i32_96
  let v143 : BitVec 32 := Scalar.addi v11 v142
  let c2_i32_97 : BitVec 32 := 2#32
  let v144 : BitVec 32 := Scalar.muli c2_i32_97 v11
  let v145 : BitVec 32 := Scalar.muli v144 v142
  let v146 : BitVec 32 := Scalar.subi v143 v145
  let v150 : BitVec 32 := Scalar.addi v149 v146
  let c1_i32_102 : BitVec 32 := 1#32
  let v151 : BitVec 32 := Scalar.muli v150 c1_i32_102
  let v152 : BitVec 32 := Scalar.addi c0_i32_103 v151
  v152.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let c8_i32_0 : BitVec 32 := 8#32
  let v5 : BitVec 32 := Scalar.remsi v2 c8_i32_0
  let c2_i32_1 : BitVec 32 := 2#32
  let v6 : BitVec 32 := Scalar.divsi v5 c2_i32_1
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c256_i32 : BitVec 32 := 256#32
  let v16 : BitVec 32 := Scalar.muli v11 c256_i32
  let v167 : Index := Scalar.indexCast v16
  let c0_116 : Index := 0#32
  ![v167.toNat, 0]
def k0_off4 (d0 : Dev nD) (c1_i32_120 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let c8_i32_0 : BitVec 32 := 8#32
  let v5 : BitVec 32 := Scalar.remsi v2 c8_i32_0
  let c2_i32_1 : BitVec 32 := 2#32
  let v6 : BitVec 32 := Scalar.divsi v5 c2_i32_1
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c256_i32 : BitVec 32 := 256#32
  let v16 : BitVec 32 := Scalar.muli v11 c256_i32
  let v175 : BitVec 32 := Scalar.addi v6 c1_i32_120
  let c4_i32_121 : BitVec 32 := 4#32
  let v176 : BitVec 32 := Scalar.remsi v175 c4_i32_121
  let c64_i32_122 : BitVec 32 := 64#32
  let v177 : BitVec 32 := Scalar.muli v176 c64_i32_122
  let v178 : BitVec 32 := Scalar.addi v16 v177
  let c0_i32_133 : BitVec 32 := 0#32
  ![v178.toNat, 0]
def k0_dev12 (d0 : Dev nD) : Nat :=
  let c0_i32_130 : BitVec 32 := 0#32
  let c8_i32_125 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v184 : BitVec 32 := Scalar.muli c8_i32_125 v4
  let c2_i32_126 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c1_i32_120 : BitVec 32 := 1#32
  let v175 : BitVec 32 := Scalar.addi v6 c1_i32_120
  let c4_i32_121 : BitVec 32 := 4#32
  let v176 : BitVec 32 := Scalar.remsi v175 c4_i32_121
  let v185 : BitVec 32 := Scalar.muli c2_i32_126 v176
  let v186 : BitVec 32 := Scalar.addi v184 v185
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_123 : BitVec 32 := 2#32
  let v179 : BitVec 32 := Scalar.remsi v176 c2_i32_123
  let v180 : BitVec 32 := Scalar.addi v11 v179
  let c2_i32_124 : BitVec 32 := 2#32
  let v181 : BitVec 32 := Scalar.muli c2_i32_124 v11
  let v182 : BitVec 32 := Scalar.muli v181 v179
  let v183 : BitVec 32 := Scalar.subi v180 v182
  let v187 : BitVec 32 := Scalar.addi v186 v183
  let c1_i32_129 : BitVec 32 := 1#32
  let v188 : BitVec 32 := Scalar.muli v187 c1_i32_129
  let v189 : BitVec 32 := Scalar.addi c0_i32_130 v188
  v189.toNat
def k0_dev13 (d0 : Dev nD) : Nat :=
  let c0_i32_144 : BitVec 32 := 0#32
  let c8_i32_139 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v205 : BitVec 32 := Scalar.muli c8_i32_139 v4
  let c2_i32_140 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c2_i32_134 : BitVec 32 := 2#32
  let v196 : BitVec 32 := Scalar.addi v6 c2_i32_134
  let c4_i32_135 : BitVec 32 := 4#32
  let v197 : BitVec 32 := Scalar.remsi v196 c4_i32_135
  let v206 : BitVec 32 := Scalar.muli c2_i32_140 v197
  let v207 : BitVec 32 := Scalar.addi v205 v206
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_137 : BitVec 32 := 2#32
  let v200 : BitVec 32 := Scalar.remsi v197 c2_i32_137
  let v201 : BitVec 32 := Scalar.addi v11 v200
  let c2_i32_138 : BitVec 32 := 2#32
  let v202 : BitVec 32 := Scalar.muli c2_i32_138 v11
  let v203 : BitVec 32 := Scalar.muli v202 v200
  let v204 : BitVec 32 := Scalar.subi v201 v203
  let v208 : BitVec 32 := Scalar.addi v207 v204
  let c1_i32_143 : BitVec 32 := 1#32
  let v209 : BitVec 32 := Scalar.muli v208 c1_i32_143
  let v210 : BitVec 32 := Scalar.addi c0_i32_144 v209
  v210.toNat
def k0_dev14 (d0 : Dev nD) : Nat :=
  let c0_i32_158 : BitVec 32 := 0#32
  let c8_i32_153 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v226 : BitVec 32 := Scalar.muli c8_i32_153 v4
  let c2_i32_154 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c3_i32_148 : BitVec 32 := 3#32
  let v217 : BitVec 32 := Scalar.addi v6 c3_i32_148
  let c4_i32_149 : BitVec 32 := 4#32
  let v218 : BitVec 32 := Scalar.remsi v217 c4_i32_149
  let v227 : BitVec 32 := Scalar.muli c2_i32_154 v218
  let v228 : BitVec 32 := Scalar.addi v226 v227
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_151 : BitVec 32 := 2#32
  let v221 : BitVec 32 := Scalar.remsi v218 c2_i32_151
  let v222 : BitVec 32 := Scalar.addi v11 v221
  let c2_i32_152 : BitVec 32 := 2#32
  let v223 : BitVec 32 := Scalar.muli c2_i32_152 v11
  let v224 : BitVec 32 := Scalar.muli v223 v221
  let v225 : BitVec 32 := Scalar.subi v222 v224
  let v229 : BitVec 32 := Scalar.addi v228 v225
  let c1_i32_157 : BitVec 32 := 1#32
  let v230 : BitVec 32 := Scalar.muli v229 c1_i32_157
  let v231 : BitVec 32 := Scalar.addi c0_i32_158 v230
  v231.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v5 : BitVec 32 := Scalar.remsi v2 c8_i32_0
  let c2_i32_1 : BitVec 32 := 2#32
  let v6 : BitVec 32 := Scalar.divsi v5 c2_i32_1
  let c128_i32 : BitVec 32 := 128#32
  let v19 : BitVec 32 := Scalar.muli v6 c128_i32
  let v268 : Index := Scalar.indexCast v19
  let c256 : Index := 256#32
  ![v268.toNat, 256]
def k0_off6 (d0 : Dev nD) (c1_i32_213 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v5 : BitVec 32 := Scalar.remsi v2 c8_i32_0
  let c2_i32_1 : BitVec 32 := 2#32
  let v6 : BitVec 32 := Scalar.divsi v5 c2_i32_1
  let c128_i32 : BitVec 32 := 128#32
  let v19 : BitVec 32 := Scalar.muli v6 c128_i32
  let c8_i32 : BitVec 32 := 8#32
  let v4 : BitVec 32 := Scalar.divsi v2 c8_i32
  let v280 : BitVec 32 := Scalar.addi v4 c1_i32_213
  let c4_i32_214 : BitVec 32 := 4#32
  let v281 : BitVec 32 := Scalar.remsi v280 c4_i32_214
  let c32_i32_215 : BitVec 32 := 32#32
  let v282 : BitVec 32 := Scalar.muli v281 c32_i32_215
  let v283 : BitVec 32 := Scalar.addi v19 v282
  let c256_i32_223 : BitVec 32 := 256#32
  ![v283.toNat, 256]
def k0_dev15 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_216 : BitVec 32 := 8#32
  let c8_i32 : BitVec 32 := 8#32
  let v4 : BitVec 32 := Scalar.divsi v2 c8_i32
  let c1_i32_213 : BitVec 32 := 1#32
  let v280 : BitVec 32 := Scalar.addi v4 c1_i32_213
  let c4_i32_214 : BitVec 32 := 4#32
  let v281 : BitVec 32 := Scalar.remsi v280 c4_i32_214
  let v284 : BitVec 32 := Scalar.muli c8_i32_216 v281
  let v285 : BitVec 32 := Scalar.addi v12 v284
  let c1_i32_219 : BitVec 32 := 1#32
  let v286 : BitVec 32 := Scalar.muli v285 c1_i32_219
  let v287 : BitVec 32 := Scalar.addi c0_i32_220 v286
  v287.toNat
def k0_dev16 (d0 : Dev nD) : Nat :=
  let c0_i32_231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_227 : BitVec 32 := 8#32
  let c8_i32 : BitVec 32 := 8#32
  let v4 : BitVec 32 := Scalar.divsi v2 c8_i32
  let c2_i32_224 : BitVec 32 := 2#32
  let v294 : BitVec 32 := Scalar.addi v4 c2_i32_224
  let c4_i32_225 : BitVec 32 := 4#32
  let v295 : BitVec 32 := Scalar.remsi v294 c4_i32_225
  let v298 : BitVec 32 := Scalar.muli c8_i32_227 v295
  let v299 : BitVec 32 := Scalar.addi v12 v298
  let c1_i32_230 : BitVec 32 := 1#32
  let v300 : BitVec 32 := Scalar.muli v299 c1_i32_230
  let v301 : BitVec 32 := Scalar.addi c0_i32_231 v300
  v301.toNat
def k0_dev17 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_238 : BitVec 32 := 8#32
  let c8_i32 : BitVec 32 := 8#32
  let v4 : BitVec 32 := Scalar.divsi v2 c8_i32
  let c3_i32_235 : BitVec 32 := 3#32
  let v308 : BitVec 32 := Scalar.addi v4 c3_i32_235
  let c4_i32_236 : BitVec 32 := 4#32
  let v309 : BitVec 32 := Scalar.remsi v308 c4_i32_236
  let v312 : BitVec 32 := Scalar.muli c8_i32_238 v309
  let v313 : BitVec 32 := Scalar.addi v12 v312
  let c1_i32_241 : BitVec 32 := 1#32
  let v314 : BitVec 32 := Scalar.muli v313 c1_i32_241
  let v315 : BitVec 32 := Scalar.addi c0_i32_242 v314
  v315.toNat
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let c8_i32_0 : BitVec 32 := 8#32
  let v5 : BitVec 32 := Scalar.remsi v2 c8_i32_0
  let c2_i32_1 : BitVec 32 := 2#32
  let v6 : BitVec 32 := Scalar.divsi v5 c2_i32_1
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c256_i32 : BitVec 32 := 256#32
  let v16 : BitVec 32 := Scalar.muli v11 c256_i32
  let c64_i32 : BitVec 32 := 64#32
  let v17 : BitVec 32 := Scalar.muli v6 c64_i32
  let v18 : BitVec 32 := Scalar.addi v16 v17
  let v352 : Index := Scalar.indexCast v18
  let c0_291 : Index := 0#32
  ![v352.toNat, 0]
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let c8_i32_0 : BitVec 32 := 8#32
  let v5 : BitVec 32 := Scalar.remsi v2 c8_i32_0
  let c2_i32_1 : BitVec 32 := 2#32
  let v6 : BitVec 32 := Scalar.divsi v5 c2_i32_1
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c256_i32 : BitVec 32 := 256#32
  let v16 : BitVec 32 := Scalar.muli v11 c256_i32
  let c64_i32 : BitVec 32 := 64#32
  let v17 : BitVec 32 := Scalar.muli v6 c64_i32
  let v18 : BitVec 32 := Scalar.addi v16 v17
  let c0_i32_307 : BitVec 32 := 0#32
  ![v18.toNat, 0]
def k0_dev18 (d0 : Dev nD) : Nat :=
  let c0_i32_304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_300 : BitVec 32 := 8#32
  let c8_i32 : BitVec 32 := 8#32
  let v4 : BitVec 32 := Scalar.divsi v2 c8_i32
  let c1_i32_298 : BitVec 32 := 1#32
  let v364 : BitVec 32 := Scalar.addi v4 c1_i32_298
  let c4_i32_299 : BitVec 32 := 4#32
  let v365 : BitVec 32 := Scalar.remsi v364 c4_i32_299
  let v366 : BitVec 32 := Scalar.muli c8_i32_300 v365
  let v367 : BitVec 32 := Scalar.addi v12 v366
  let c1_i32_303 : BitVec 32 := 1#32
  let v368 : BitVec 32 := Scalar.muli v367 c1_i32_303
  let v369 : BitVec 32 := Scalar.addi c0_i32_304 v368
  v369.toNat
def k0_dev19 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_310 : BitVec 32 := 8#32
  let c8_i32 : BitVec 32 := 8#32
  let v4 : BitVec 32 := Scalar.divsi v2 c8_i32
  let c2_i32_308 : BitVec 32 := 2#32
  let v376 : BitVec 32 := Scalar.addi v4 c2_i32_308
  let c4_i32_309 : BitVec 32 := 4#32
  let v377 : BitVec 32 := Scalar.remsi v376 c4_i32_309
  let v378 : BitVec 32 := Scalar.muli c8_i32_310 v377
  let v379 : BitVec 32 := Scalar.addi v12 v378
  let c1_i32_313 : BitVec 32 := 1#32
  let v380 : BitVec 32 := Scalar.muli v379 c1_i32_313
  let v381 : BitVec 32 := Scalar.addi c0_i32_314 v380
  v381.toNat
def k0_dev20 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_320 : BitVec 32 := 8#32
  let c8_i32 : BitVec 32 := 8#32
  let v4 : BitVec 32 := Scalar.divsi v2 c8_i32
  let c3_i32_318 : BitVec 32 := 3#32
  let v388 : BitVec 32 := Scalar.addi v4 c3_i32_318
  let c4_i32_319 : BitVec 32 := 4#32
  let v389 : BitVec 32 := Scalar.remsi v388 c4_i32_319
  let v390 : BitVec 32 := Scalar.muli c8_i32_320 v389
  let v391 : BitVec 32 := Scalar.addi v12 v390
  let c1_i32_323 : BitVec 32 := 1#32
  let v392 : BitVec 32 := Scalar.muli v391 c1_i32_323
  let v393 : BitVec 32 := Scalar.addi c0_i32_324 v392
  v393.toNat
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v5 : BitVec 32 := Scalar.remsi v2 c8_i32_0
  let c2_i32_1 : BitVec 32 := 2#32
  let v6 : BitVec 32 := Scalar.divsi v5 c2_i32_1
  let c128_i32 : BitVec 32 := 128#32
  let v19 : BitVec 32 := Scalar.muli v6 c128_i32
  let c8_i32 : BitVec 32 := 8#32
  let v4 : BitVec 32 := Scalar.divsi v2 c8_i32
  let c32_i32_7 : BitVec 32 := 32#32
  let v20 : BitVec 32 := Scalar.muli v4 c32_i32_7
  let v21 : BitVec 32 := Scalar.addi v19 v20
  let v430 : Index := Scalar.indexCast v21
  let c256_373 : Index := 256#32
  ![v430.toNat, 256]
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v5 : BitVec 32 := Scalar.remsi v2 c8_i32_0
  let c2_i32_1 : BitVec 32 := 2#32
  let v6 : BitVec 32 := Scalar.divsi v5 c2_i32_1
  let c128_i32 : BitVec 32 := 128#32
  let v19 : BitVec 32 := Scalar.muli v6 c128_i32
  let c8_i32 : BitVec 32 := 8#32
  let v4 : BitVec 32 := Scalar.divsi v2 c8_i32
  let c32_i32_7 : BitVec 32 := 32#32
  let v20 : BitVec 32 := Scalar.muli v4 c32_i32_7
  let v21 : BitVec 32 := Scalar.addi v19 v20
  let c256_i32_384 : BitVec 32 := 256#32
  ![v21.toNat, 256]
def k0_dev21 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v13 : BitVec 32 := Scalar.addi v2 c1_i32_5
  let c2_i32_6 : BitVec 32 := 2#32
  let c2_i32 : BitVec 32 := 2#32
  let v3 : BitVec 32 := Scalar.remsi v2 c2_i32
  let v14 : BitVec 32 := Scalar.muli c2_i32_6 v3
  let v15 : BitVec 32 := Scalar.subi v13 v14
  let c1_i32_382 : BitVec 32 := 1#32
  let v442 : BitVec 32 := Scalar.muli v15 c1_i32_382
  let v443 : BitVec 32 := Scalar.addi c0_i32_383 v442
  v443.toNat
def k0_dev22 (d0 : Dev nD) : Nat :=
  let c0_i32_448 : BitVec 32 := 0#32
  let c8_i32_443 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v501 : BitVec 32 := Scalar.muli c8_i32_443 v4
  let c2_i32_444 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c1_i32_439 : BitVec 32 := 1#32
  let v494 : BitVec 32 := Scalar.addi v6 c1_i32_439
  let c4_i32_440 : BitVec 32 := 4#32
  let v495 : BitVec 32 := Scalar.remsi v494 c4_i32_440
  let v502 : BitVec 32 := Scalar.muli c2_i32_444 v495
  let v503 : BitVec 32 := Scalar.addi v501 v502
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_441 : BitVec 32 := 2#32
  let v496 : BitVec 32 := Scalar.remsi v495 c2_i32_441
  let v497 : BitVec 32 := Scalar.addi v11 v496
  let c2_i32_442 : BitVec 32 := 2#32
  let v498 : BitVec 32 := Scalar.muli c2_i32_442 v11
  let v499 : BitVec 32 := Scalar.muli v498 v496
  let v500 : BitVec 32 := Scalar.subi v497 v499
  let v504 : BitVec 32 := Scalar.addi v503 v500
  let c1_i32_447 : BitVec 32 := 1#32
  let v505 : BitVec 32 := Scalar.muli v504 c1_i32_447
  let v506 : BitVec 32 := Scalar.addi c0_i32_448 v505
  v506.toNat
def k0_dev23 (d0 : Dev nD) : Nat :=
  let c0_i32_460 : BitVec 32 := 0#32
  let c8_i32_455 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v520 : BitVec 32 := Scalar.muli c8_i32_455 v4
  let c2_i32_456 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c2_i32_451 : BitVec 32 := 2#32
  let v513 : BitVec 32 := Scalar.addi v6 c2_i32_451
  let c4_i32_452 : BitVec 32 := 4#32
  let v514 : BitVec 32 := Scalar.remsi v513 c4_i32_452
  let v521 : BitVec 32 := Scalar.muli c2_i32_456 v514
  let v522 : BitVec 32 := Scalar.addi v520 v521
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_453 : BitVec 32 := 2#32
  let v515 : BitVec 32 := Scalar.remsi v514 c2_i32_453
  let v516 : BitVec 32 := Scalar.addi v11 v515
  let c2_i32_454 : BitVec 32 := 2#32
  let v517 : BitVec 32 := Scalar.muli c2_i32_454 v11
  let v518 : BitVec 32 := Scalar.muli v517 v515
  let v519 : BitVec 32 := Scalar.subi v516 v518
  let v523 : BitVec 32 := Scalar.addi v522 v519
  let c1_i32_459 : BitVec 32 := 1#32
  let v524 : BitVec 32 := Scalar.muli v523 c1_i32_459
  let v525 : BitVec 32 := Scalar.addi c0_i32_460 v524
  v525.toNat
def k0_dev24 (d0 : Dev nD) : Nat :=
  let c0_i32_472 : BitVec 32 := 0#32
  let c8_i32_467 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v539 : BitVec 32 := Scalar.muli c8_i32_467 v4
  let c2_i32_468 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c3_i32_463 : BitVec 32 := 3#32
  let v532 : BitVec 32 := Scalar.addi v6 c3_i32_463
  let c4_i32_464 : BitVec 32 := 4#32
  let v533 : BitVec 32 := Scalar.remsi v532 c4_i32_464
  let v540 : BitVec 32 := Scalar.muli c2_i32_468 v533
  let v541 : BitVec 32 := Scalar.addi v539 v540
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_465 : BitVec 32 := 2#32
  let v534 : BitVec 32 := Scalar.remsi v533 c2_i32_465
  let v535 : BitVec 32 := Scalar.addi v11 v534
  let c2_i32_466 : BitVec 32 := 2#32
  let v536 : BitVec 32 := Scalar.muli c2_i32_466 v11
  let v537 : BitVec 32 := Scalar.muli v536 v534
  let v538 : BitVec 32 := Scalar.subi v535 v537
  let v542 : BitVec 32 := Scalar.addi v541 v538
  let c1_i32_471 : BitVec 32 := 1#32
  let v543 : BitVec 32 := Scalar.muli v542 c1_i32_471
  let v544 : BitVec 32 := Scalar.addi c0_i32_472 v543
  v544.toNat
def k0_dev25 (d0 : Dev nD) : Nat :=
  let c0_i32_495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_491 : BitVec 32 := 8#32
  let c8_i32 : BitVec 32 := 8#32
  let v4 : BitVec 32 := Scalar.divsi v2 c8_i32
  let c1_i32_489 : BitVec 32 := 1#32
  let v570 : BitVec 32 := Scalar.addi v4 c1_i32_489
  let c4_i32_490 : BitVec 32 := 4#32
  let v571 : BitVec 32 := Scalar.remsi v570 c4_i32_490
  let v572 : BitVec 32 := Scalar.muli c8_i32_491 v571
  let v573 : BitVec 32 := Scalar.addi v12 v572
  let c1_i32_494 : BitVec 32 := 1#32
  let v574 : BitVec 32 := Scalar.muli v573 c1_i32_494
  let v575 : BitVec 32 := Scalar.addi c0_i32_495 v574
  v575.toNat
def k0_dev26 (d0 : Dev nD) : Nat :=
  let c0_i32_504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_500 : BitVec 32 := 8#32
  let c8_i32 : BitVec 32 := 8#32
  let v4 : BitVec 32 := Scalar.divsi v2 c8_i32
  let c2_i32_498 : BitVec 32 := 2#32
  let v582 : BitVec 32 := Scalar.addi v4 c2_i32_498
  let c4_i32_499 : BitVec 32 := 4#32
  let v583 : BitVec 32 := Scalar.remsi v582 c4_i32_499
  let v584 : BitVec 32 := Scalar.muli c8_i32_500 v583
  let v585 : BitVec 32 := Scalar.addi v12 v584
  let c1_i32_503 : BitVec 32 := 1#32
  let v586 : BitVec 32 := Scalar.muli v585 c1_i32_503
  let v587 : BitVec 32 := Scalar.addi c0_i32_504 v586
  v587.toNat
def k0_dev27 (d0 : Dev nD) : Nat :=
  let c0_i32_513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_509 : BitVec 32 := 8#32
  let c8_i32 : BitVec 32 := 8#32
  let v4 : BitVec 32 := Scalar.divsi v2 c8_i32
  let c3_i32_507 : BitVec 32 := 3#32
  let v594 : BitVec 32 := Scalar.addi v4 c3_i32_507
  let c4_i32_508 : BitVec 32 := 4#32
  let v595 : BitVec 32 := Scalar.remsi v594 c4_i32_508
  let v596 : BitVec 32 := Scalar.muli c8_i32_509 v595
  let v597 : BitVec 32 := Scalar.addi v12 v596
  let c1_i32_512 : BitVec 32 := 1#32
  let v598 : BitVec 32 := Scalar.muli v597 c1_i32_512
  let v599 : BitVec 32 := Scalar.addi c0_i32_513 v598
  v599.toNat
def k0_off11 (d0 : Dev nD) (c1_i32_517 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let c8_i32_0 : BitVec 32 := 8#32
  let v5 : BitVec 32 := Scalar.remsi v2 c8_i32_0
  let c2_i32_1 : BitVec 32 := 2#32
  let v6 : BitVec 32 := Scalar.divsi v5 c2_i32_1
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c256_i32 : BitVec 32 := 256#32
  let v16 : BitVec 32 := Scalar.muli v11 c256_i32
  let c4_i32_516 : BitVec 32 := 4#32
  let v606 : BitVec 32 := Scalar.addi v6 c4_i32_516
  let v607 : BitVec 32 := Scalar.subi v606 c1_i32_517
  let c4_i32_518 : BitVec 32 := 4#32
  let v608 : BitVec 32 := Scalar.remsi v607 c4_i32_518
  let c64_i32_519 : BitVec 32 := 64#32
  let v609 : BitVec 32 := Scalar.muli v608 c64_i32_519
  let v610 : BitVec 32 := Scalar.addi v16 v609
  let c0_i32_524 : BitVec 32 := 0#32
  ![v610.toNat, 0]
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let c8_i32_0 : BitVec 32 := 8#32
  let v5 : BitVec 32 := Scalar.remsi v2 c8_i32_0
  let c2_i32_1 : BitVec 32 := 2#32
  let v6 : BitVec 32 := Scalar.divsi v5 c2_i32_1
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c256_i32 : BitVec 32 := 256#32
  let v16 : BitVec 32 := Scalar.muli v11 c256_i32
  let c0_i32_565 : BitVec 32 := 0#32
  ![v16.toNat, 0]
def k0_dev28 (d0 : Dev nD) : Nat :=
  let c0_i32_564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v13 : BitVec 32 := Scalar.addi v2 c1_i32_5
  let c2_i32_6 : BitVec 32 := 2#32
  let c2_i32 : BitVec 32 := 2#32
  let v3 : BitVec 32 := Scalar.remsi v2 c2_i32
  let v14 : BitVec 32 := Scalar.muli c2_i32_6 v3
  let v15 : BitVec 32 := Scalar.subi v13 v14
  let c1_i32_563 : BitVec 32 := 1#32
  let v651 : BitVec 32 := Scalar.muli v15 c1_i32_563
  let v652 : BitVec 32 := Scalar.addi c0_i32_564 v651
  v652.toNat
def k0_off13 (d0 : Dev nD) (c1_i32_568 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v5 : BitVec 32 := Scalar.remsi v2 c8_i32_0
  let c2_i32_1 : BitVec 32 := 2#32
  let v6 : BitVec 32 := Scalar.divsi v5 c2_i32_1
  let c128_i32 : BitVec 32 := 128#32
  let v19 : BitVec 32 := Scalar.muli v6 c128_i32
  let c8_i32 : BitVec 32 := 8#32
  let v4 : BitVec 32 := Scalar.divsi v2 c8_i32
  let c4_i32_567 : BitVec 32 := 4#32
  let v659 : BitVec 32 := Scalar.addi v4 c4_i32_567
  let v660 : BitVec 32 := Scalar.subi v659 c1_i32_568
  let c4_i32_569 : BitVec 32 := 4#32
  let v661 : BitVec 32 := Scalar.remsi v660 c4_i32_569
  let c32_i32_570 : BitVec 32 := 32#32
  let v662 : BitVec 32 := Scalar.muli v661 c32_i32_570
  let v663 : BitVec 32 := Scalar.addi v19 v662
  let c256_i32_575 : BitVec 32 := 256#32
  ![v663.toNat, 256]
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v5 : BitVec 32 := Scalar.remsi v2 c8_i32_0
  let c2_i32_1 : BitVec 32 := 2#32
  let v6 : BitVec 32 := Scalar.divsi v5 c2_i32_1
  let c128_i32 : BitVec 32 := 128#32
  let v19 : BitVec 32 := Scalar.muli v6 c128_i32
  let c256_i32_622 : BitVec 32 := 256#32
  ![v19.toNat, 256]
def k0_dev29 (d0 : Dev nD) : Nat :=
  let c0_i32_621 : BitVec 32 := 0#32
  let c8_i32_616 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v711 : BitVec 32 := Scalar.muli c8_i32_616 v4
  let c2_i32_617 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c1_i32_612 : BitVec 32 := 1#32
  let v704 : BitVec 32 := Scalar.addi v6 c1_i32_612
  let c4_i32_613 : BitVec 32 := 4#32
  let v705 : BitVec 32 := Scalar.remsi v704 c4_i32_613
  let v712 : BitVec 32 := Scalar.muli c2_i32_617 v705
  let v713 : BitVec 32 := Scalar.addi v711 v712
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_614 : BitVec 32 := 2#32
  let v706 : BitVec 32 := Scalar.remsi v705 c2_i32_614
  let v707 : BitVec 32 := Scalar.addi v11 v706
  let c2_i32_615 : BitVec 32 := 2#32
  let v708 : BitVec 32 := Scalar.muli c2_i32_615 v11
  let v709 : BitVec 32 := Scalar.muli v708 v706
  let v710 : BitVec 32 := Scalar.subi v707 v709
  let v714 : BitVec 32 := Scalar.addi v713 v710
  let c1_i32_620 : BitVec 32 := 1#32
  let v715 : BitVec 32 := Scalar.muli v714 c1_i32_620
  let v716 : BitVec 32 := Scalar.addi c0_i32_621 v715
  v716.toNat
def k0_dev30 (d0 : Dev nD) : Nat :=
  let c0_i32_633 : BitVec 32 := 0#32
  let c8_i32_628 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v730 : BitVec 32 := Scalar.muli c8_i32_628 v4
  let c2_i32_629 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c2_i32_624 : BitVec 32 := 2#32
  let v723 : BitVec 32 := Scalar.addi v6 c2_i32_624
  let c4_i32_625 : BitVec 32 := 4#32
  let v724 : BitVec 32 := Scalar.remsi v723 c4_i32_625
  let v731 : BitVec 32 := Scalar.muli c2_i32_629 v724
  let v732 : BitVec 32 := Scalar.addi v730 v731
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_626 : BitVec 32 := 2#32
  let v725 : BitVec 32 := Scalar.remsi v724 c2_i32_626
  let v726 : BitVec 32 := Scalar.addi v11 v725
  let c2_i32_627 : BitVec 32 := 2#32
  let v727 : BitVec 32 := Scalar.muli c2_i32_627 v11
  let v728 : BitVec 32 := Scalar.muli v727 v725
  let v729 : BitVec 32 := Scalar.subi v726 v728
  let v733 : BitVec 32 := Scalar.addi v732 v729
  let c1_i32_632 : BitVec 32 := 1#32
  let v734 : BitVec 32 := Scalar.muli v733 c1_i32_632
  let v735 : BitVec 32 := Scalar.addi c0_i32_633 v734
  v735.toNat
def k0_dev31 (d0 : Dev nD) : Nat :=
  let c0_i32_645 : BitVec 32 := 0#32
  let c8_i32_640 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v749 : BitVec 32 := Scalar.muli c8_i32_640 v4
  let c2_i32_641 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c3_i32_636 : BitVec 32 := 3#32
  let v742 : BitVec 32 := Scalar.addi v6 c3_i32_636
  let c4_i32_637 : BitVec 32 := 4#32
  let v743 : BitVec 32 := Scalar.remsi v742 c4_i32_637
  let v750 : BitVec 32 := Scalar.muli c2_i32_641 v743
  let v751 : BitVec 32 := Scalar.addi v749 v750
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_638 : BitVec 32 := 2#32
  let v744 : BitVec 32 := Scalar.remsi v743 c2_i32_638
  let v745 : BitVec 32 := Scalar.addi v11 v744
  let c2_i32_639 : BitVec 32 := 2#32
  let v746 : BitVec 32 := Scalar.muli c2_i32_639 v11
  let v747 : BitVec 32 := Scalar.muli v746 v744
  let v748 : BitVec 32 := Scalar.subi v745 v747
  let v752 : BitVec 32 := Scalar.addi v751 v748
  let c1_i32_644 : BitVec 32 := 1#32
  let v753 : BitVec 32 := Scalar.muli v752 c1_i32_644
  let v754 : BitVec 32 := Scalar.addi c0_i32_645 v753
  v754.toNat
def k0_off15 (d0 : Dev nD) (c1_i32_662 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v5 : BitVec 32 := Scalar.remsi v2 c8_i32_0
  let c2_i32_1 : BitVec 32 := 2#32
  let v6 : BitVec 32 := Scalar.divsi v5 c2_i32_1
  let c4_i32_661 : BitVec 32 := 4#32
  let v773 : BitVec 32 := Scalar.addi v6 c4_i32_661
  let v774 : BitVec 32 := Scalar.subi v773 c1_i32_662
  let c4_i32_663 : BitVec 32 := 4#32
  let v775 : BitVec 32 := Scalar.remsi v774 c4_i32_663
  let c128_i32_664 : BitVec 32 := 128#32
  let v776 : BitVec 32 := Scalar.muli v775 c128_i32_664
  let c256_i32_669 : BitVec 32 := 256#32
  ![v776.toNat, 256]
def k0_dev32 (d0 : Dev nD) : Nat :=
  let c0_i32_721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v13 : BitVec 32 := Scalar.addi v2 c1_i32_5
  let c2_i32_6 : BitVec 32 := 2#32
  let c2_i32 : BitVec 32 := 2#32
  let v3 : BitVec 32 := Scalar.remsi v2 c2_i32
  let v14 : BitVec 32 := Scalar.muli c2_i32_6 v3
  let v15 : BitVec 32 := Scalar.subi v13 v14
  let c1_i32_720 : BitVec 32 := 1#32
  let v828 : BitVec 32 := Scalar.muli v15 c1_i32_720
  let v829 : BitVec 32 := Scalar.addi c0_i32_721 v828
  v829.toNat
def k0_dev33 (d0 : Dev nD) : Nat :=
  let c0_i32_733 : BitVec 32 := 0#32
  let c8_i32_728 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v843 : BitVec 32 := Scalar.muli c8_i32_728 v4
  let c2_i32_729 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c1_i32_723 : BitVec 32 := 1#32
  let v835 : BitVec 32 := Scalar.addi v6 c1_i32_723
  let c4_i32_724 : BitVec 32 := 4#32
  let v836 : BitVec 32 := Scalar.remsi v835 c4_i32_724
  let v844 : BitVec 32 := Scalar.muli c2_i32_729 v836
  let v845 : BitVec 32 := Scalar.addi v843 v844
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_726 : BitVec 32 := 2#32
  let v838 : BitVec 32 := Scalar.remsi v836 c2_i32_726
  let v839 : BitVec 32 := Scalar.addi v11 v838
  let c2_i32_727 : BitVec 32 := 2#32
  let v840 : BitVec 32 := Scalar.muli c2_i32_727 v11
  let v841 : BitVec 32 := Scalar.muli v840 v838
  let v842 : BitVec 32 := Scalar.subi v839 v841
  let v846 : BitVec 32 := Scalar.addi v845 v842
  let c1_i32_732 : BitVec 32 := 1#32
  let v847 : BitVec 32 := Scalar.muli v846 c1_i32_732
  let v848 : BitVec 32 := Scalar.addi c0_i32_733 v847
  v848.toNat
def k0_dev34 (d0 : Dev nD) : Nat :=
  let c0_i32_747 : BitVec 32 := 0#32
  let c8_i32_742 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v863 : BitVec 32 := Scalar.muli c8_i32_742 v4
  let c2_i32_743 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c2_i32_737 : BitVec 32 := 2#32
  let v855 : BitVec 32 := Scalar.addi v6 c2_i32_737
  let c4_i32_738 : BitVec 32 := 4#32
  let v856 : BitVec 32 := Scalar.remsi v855 c4_i32_738
  let v864 : BitVec 32 := Scalar.muli c2_i32_743 v856
  let v865 : BitVec 32 := Scalar.addi v863 v864
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_740 : BitVec 32 := 2#32
  let v858 : BitVec 32 := Scalar.remsi v856 c2_i32_740
  let v859 : BitVec 32 := Scalar.addi v11 v858
  let c2_i32_741 : BitVec 32 := 2#32
  let v860 : BitVec 32 := Scalar.muli c2_i32_741 v11
  let v861 : BitVec 32 := Scalar.muli v860 v858
  let v862 : BitVec 32 := Scalar.subi v859 v861
  let v866 : BitVec 32 := Scalar.addi v865 v862
  let c1_i32_746 : BitVec 32 := 1#32
  let v867 : BitVec 32 := Scalar.muli v866 c1_i32_746
  let v868 : BitVec 32 := Scalar.addi c0_i32_747 v867
  v868.toNat
def k0_dev35 (d0 : Dev nD) : Nat :=
  let c0_i32_761 : BitVec 32 := 0#32
  let c8_i32_756 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v883 : BitVec 32 := Scalar.muli c8_i32_756 v4
  let c2_i32_757 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c3_i32_751 : BitVec 32 := 3#32
  let v875 : BitVec 32 := Scalar.addi v6 c3_i32_751
  let c4_i32_752 : BitVec 32 := 4#32
  let v876 : BitVec 32 := Scalar.remsi v875 c4_i32_752
  let v884 : BitVec 32 := Scalar.muli c2_i32_757 v876
  let v885 : BitVec 32 := Scalar.addi v883 v884
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_754 : BitVec 32 := 2#32
  let v878 : BitVec 32 := Scalar.remsi v876 c2_i32_754
  let v879 : BitVec 32 := Scalar.addi v11 v878
  let c2_i32_755 : BitVec 32 := 2#32
  let v880 : BitVec 32 := Scalar.muli c2_i32_755 v11
  let v881 : BitVec 32 := Scalar.muli v880 v878
  let v882 : BitVec 32 := Scalar.subi v879 v881
  let v886 : BitVec 32 := Scalar.addi v885 v882
  let c1_i32_760 : BitVec 32 := 1#32
  let v887 : BitVec 32 := Scalar.muli v886 c1_i32_760
  let v888 : BitVec 32 := Scalar.addi c0_i32_761 v887
  v888.toNat
def k0_dev36 (d0 : Dev nD) : Nat :=
  let c0_i32_788 : BitVec 32 := 0#32
  let c8_i32_783 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v920 : BitVec 32 := Scalar.muli c8_i32_783 v4
  let c2_i32_784 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c1_i32_778 : BitVec 32 := 1#32
  let v911 : BitVec 32 := Scalar.addi v6 c1_i32_778
  let c4_i32_779 : BitVec 32 := 4#32
  let v912 : BitVec 32 := Scalar.remsi v911 c4_i32_779
  let v921 : BitVec 32 := Scalar.muli c2_i32_784 v912
  let v922 : BitVec 32 := Scalar.addi v920 v921
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_781 : BitVec 32 := 2#32
  let v915 : BitVec 32 := Scalar.remsi v912 c2_i32_781
  let v916 : BitVec 32 := Scalar.addi v11 v915
  let c2_i32_782 : BitVec 32 := 2#32
  let v917 : BitVec 32 := Scalar.muli c2_i32_782 v11
  let v918 : BitVec 32 := Scalar.muli v917 v915
  let v919 : BitVec 32 := Scalar.subi v916 v918
  let v923 : BitVec 32 := Scalar.addi v922 v919
  let c1_i32_787 : BitVec 32 := 1#32
  let v924 : BitVec 32 := Scalar.muli v923 c1_i32_787
  let v925 : BitVec 32 := Scalar.addi c0_i32_788 v924
  v925.toNat
def k0_dev37 (d0 : Dev nD) : Nat :=
  let c0_i32_802 : BitVec 32 := 0#32
  let c8_i32_797 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v941 : BitVec 32 := Scalar.muli c8_i32_797 v4
  let c2_i32_798 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c2_i32_792 : BitVec 32 := 2#32
  let v932 : BitVec 32 := Scalar.addi v6 c2_i32_792
  let c4_i32_793 : BitVec 32 := 4#32
  let v933 : BitVec 32 := Scalar.remsi v932 c4_i32_793
  let v942 : BitVec 32 := Scalar.muli c2_i32_798 v933
  let v943 : BitVec 32 := Scalar.addi v941 v942
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_795 : BitVec 32 := 2#32
  let v936 : BitVec 32 := Scalar.remsi v933 c2_i32_795
  let v937 : BitVec 32 := Scalar.addi v11 v936
  let c2_i32_796 : BitVec 32 := 2#32
  let v938 : BitVec 32 := Scalar.muli c2_i32_796 v11
  let v939 : BitVec 32 := Scalar.muli v938 v936
  let v940 : BitVec 32 := Scalar.subi v937 v939
  let v944 : BitVec 32 := Scalar.addi v943 v940
  let c1_i32_801 : BitVec 32 := 1#32
  let v945 : BitVec 32 := Scalar.muli v944 c1_i32_801
  let v946 : BitVec 32 := Scalar.addi c0_i32_802 v945
  v946.toNat
def k0_dev38 (d0 : Dev nD) : Nat :=
  let c0_i32_816 : BitVec 32 := 0#32
  let c8_i32_811 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v962 : BitVec 32 := Scalar.muli c8_i32_811 v4
  let c2_i32_812 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c3_i32_806 : BitVec 32 := 3#32
  let v953 : BitVec 32 := Scalar.addi v6 c3_i32_806
  let c4_i32_807 : BitVec 32 := 4#32
  let v954 : BitVec 32 := Scalar.remsi v953 c4_i32_807
  let v963 : BitVec 32 := Scalar.muli c2_i32_812 v954
  let v964 : BitVec 32 := Scalar.addi v962 v963
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_809 : BitVec 32 := 2#32
  let v957 : BitVec 32 := Scalar.remsi v954 c2_i32_809
  let v958 : BitVec 32 := Scalar.addi v11 v957
  let c2_i32_810 : BitVec 32 := 2#32
  let v959 : BitVec 32 := Scalar.muli c2_i32_810 v11
  let v960 : BitVec 32 := Scalar.muli v959 v957
  let v961 : BitVec 32 := Scalar.subi v958 v960
  let v965 : BitVec 32 := Scalar.addi v964 v961
  let c1_i32_815 : BitVec 32 := 1#32
  let v966 : BitVec 32 := Scalar.muli v965 c1_i32_815
  let v967 : BitVec 32 := Scalar.addi c0_i32_816 v966
  v967.toNat
def k0_dev39 (d0 : Dev nD) : Nat :=
  let c0_i32_880 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_876 : BitVec 32 := 8#32
  let c8_i32 : BitVec 32 := 8#32
  let v4 : BitVec 32 := Scalar.divsi v2 c8_i32
  let c1_i32_873 : BitVec 32 := 1#32
  let v1016 : BitVec 32 := Scalar.addi v4 c1_i32_873
  let c4_i32_874 : BitVec 32 := 4#32
  let v1017 : BitVec 32 := Scalar.remsi v1016 c4_i32_874
  let v1020 : BitVec 32 := Scalar.muli c8_i32_876 v1017
  let v1021 : BitVec 32 := Scalar.addi v12 v1020
  let c1_i32_879 : BitVec 32 := 1#32
  let v1022 : BitVec 32 := Scalar.muli v1021 c1_i32_879
  let v1023 : BitVec 32 := Scalar.addi c0_i32_880 v1022
  v1023.toNat
def k0_dev40 (d0 : Dev nD) : Nat :=
  let c0_i32_891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_887 : BitVec 32 := 8#32
  let c8_i32 : BitVec 32 := 8#32
  let v4 : BitVec 32 := Scalar.divsi v2 c8_i32
  let c2_i32_884 : BitVec 32 := 2#32
  let v1030 : BitVec 32 := Scalar.addi v4 c2_i32_884
  let c4_i32_885 : BitVec 32 := 4#32
  let v1031 : BitVec 32 := Scalar.remsi v1030 c4_i32_885
  let v1034 : BitVec 32 := Scalar.muli c8_i32_887 v1031
  let v1035 : BitVec 32 := Scalar.addi v12 v1034
  let c1_i32_890 : BitVec 32 := 1#32
  let v1036 : BitVec 32 := Scalar.muli v1035 c1_i32_890
  let v1037 : BitVec 32 := Scalar.addi c0_i32_891 v1036
  v1037.toNat
def k0_dev41 (d0 : Dev nD) : Nat :=
  let c0_i32_902 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_898 : BitVec 32 := 8#32
  let c8_i32 : BitVec 32 := 8#32
  let v4 : BitVec 32 := Scalar.divsi v2 c8_i32
  let c3_i32_895 : BitVec 32 := 3#32
  let v1044 : BitVec 32 := Scalar.addi v4 c3_i32_895
  let c4_i32_896 : BitVec 32 := 4#32
  let v1045 : BitVec 32 := Scalar.remsi v1044 c4_i32_896
  let v1048 : BitVec 32 := Scalar.muli c8_i32_898 v1045
  let v1049 : BitVec 32 := Scalar.addi v12 v1048
  let c1_i32_901 : BitVec 32 := 1#32
  let v1050 : BitVec 32 := Scalar.muli v1049 c1_i32_901
  let v1051 : BitVec 32 := Scalar.addi c0_i32_902 v1050
  v1051.toNat
def k0_dev42 (d0 : Dev nD) : Nat :=
  let c0_i32_965 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_961 : BitVec 32 := 8#32
  let c8_i32 : BitVec 32 := 8#32
  let v4 : BitVec 32 := Scalar.divsi v2 c8_i32
  let c1_i32_959 : BitVec 32 := 1#32
  let v1100 : BitVec 32 := Scalar.addi v4 c1_i32_959
  let c4_i32_960 : BitVec 32 := 4#32
  let v1101 : BitVec 32 := Scalar.remsi v1100 c4_i32_960
  let v1102 : BitVec 32 := Scalar.muli c8_i32_961 v1101
  let v1103 : BitVec 32 := Scalar.addi v12 v1102
  let c1_i32_964 : BitVec 32 := 1#32
  let v1104 : BitVec 32 := Scalar.muli v1103 c1_i32_964
  let v1105 : BitVec 32 := Scalar.addi c0_i32_965 v1104
  v1105.toNat
def k0_dev43 (d0 : Dev nD) : Nat :=
  let c0_i32_975 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_971 : BitVec 32 := 8#32
  let c8_i32 : BitVec 32 := 8#32
  let v4 : BitVec 32 := Scalar.divsi v2 c8_i32
  let c2_i32_969 : BitVec 32 := 2#32
  let v1112 : BitVec 32 := Scalar.addi v4 c2_i32_969
  let c4_i32_970 : BitVec 32 := 4#32
  let v1113 : BitVec 32 := Scalar.remsi v1112 c4_i32_970
  let v1114 : BitVec 32 := Scalar.muli c8_i32_971 v1113
  let v1115 : BitVec 32 := Scalar.addi v12 v1114
  let c1_i32_974 : BitVec 32 := 1#32
  let v1116 : BitVec 32 := Scalar.muli v1115 c1_i32_974
  let v1117 : BitVec 32 := Scalar.addi c0_i32_975 v1116
  v1117.toNat
def k0_dev44 (d0 : Dev nD) : Nat :=
  let c0_i32_985 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_981 : BitVec 32 := 8#32
  let c8_i32 : BitVec 32 := 8#32
  let v4 : BitVec 32 := Scalar.divsi v2 c8_i32
  let c3_i32_979 : BitVec 32 := 3#32
  let v1124 : BitVec 32 := Scalar.addi v4 c3_i32_979
  let c4_i32_980 : BitVec 32 := 4#32
  let v1125 : BitVec 32 := Scalar.remsi v1124 c4_i32_980
  let v1126 : BitVec 32 := Scalar.muli c8_i32_981 v1125
  let v1127 : BitVec 32 := Scalar.addi v12 v1126
  let c1_i32_984 : BitVec 32 := 1#32
  let v1128 : BitVec 32 := Scalar.muli v1127 c1_i32_984
  let v1129 : BitVec 32 := Scalar.addi c0_i32_985 v1128
  v1129.toNat
def k0_dev45 (d0 : Dev nD) : Nat :=
  let c0_i32_1045 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v13 : BitVec 32 := Scalar.addi v2 c1_i32_5
  let c2_i32_6 : BitVec 32 := 2#32
  let c2_i32 : BitVec 32 := 2#32
  let v3 : BitVec 32 := Scalar.remsi v2 c2_i32
  let v14 : BitVec 32 := Scalar.muli c2_i32_6 v3
  let v15 : BitVec 32 := Scalar.subi v13 v14
  let c1_i32_1044 : BitVec 32 := 1#32
  let v1178 : BitVec 32 := Scalar.muli v15 c1_i32_1044
  let v1179 : BitVec 32 := Scalar.addi c0_i32_1045 v1178
  v1179.toNat
def k0_dev46 (d0 : Dev nD) : Nat :=
  let c0_i32_1110 : BitVec 32 := 0#32
  let c8_i32_1105 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v1237 : BitVec 32 := Scalar.muli c8_i32_1105 v4
  let c2_i32_1106 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c1_i32_1101 : BitVec 32 := 1#32
  let v1230 : BitVec 32 := Scalar.addi v6 c1_i32_1101
  let c4_i32_1102 : BitVec 32 := 4#32
  let v1231 : BitVec 32 := Scalar.remsi v1230 c4_i32_1102
  let v1238 : BitVec 32 := Scalar.muli c2_i32_1106 v1231
  let v1239 : BitVec 32 := Scalar.addi v1237 v1238
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_1103 : BitVec 32 := 2#32
  let v1232 : BitVec 32 := Scalar.remsi v1231 c2_i32_1103
  let v1233 : BitVec 32 := Scalar.addi v11 v1232
  let c2_i32_1104 : BitVec 32 := 2#32
  let v1234 : BitVec 32 := Scalar.muli c2_i32_1104 v11
  let v1235 : BitVec 32 := Scalar.muli v1234 v1232
  let v1236 : BitVec 32 := Scalar.subi v1233 v1235
  let v1240 : BitVec 32 := Scalar.addi v1239 v1236
  let c1_i32_1109 : BitVec 32 := 1#32
  let v1241 : BitVec 32 := Scalar.muli v1240 c1_i32_1109
  let v1242 : BitVec 32 := Scalar.addi c0_i32_1110 v1241
  v1242.toNat
def k0_dev47 (d0 : Dev nD) : Nat :=
  let c0_i32_1122 : BitVec 32 := 0#32
  let c8_i32_1117 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v1256 : BitVec 32 := Scalar.muli c8_i32_1117 v4
  let c2_i32_1118 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c2_i32_1113 : BitVec 32 := 2#32
  let v1249 : BitVec 32 := Scalar.addi v6 c2_i32_1113
  let c4_i32_1114 : BitVec 32 := 4#32
  let v1250 : BitVec 32 := Scalar.remsi v1249 c4_i32_1114
  let v1257 : BitVec 32 := Scalar.muli c2_i32_1118 v1250
  let v1258 : BitVec 32 := Scalar.addi v1256 v1257
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_1115 : BitVec 32 := 2#32
  let v1251 : BitVec 32 := Scalar.remsi v1250 c2_i32_1115
  let v1252 : BitVec 32 := Scalar.addi v11 v1251
  let c2_i32_1116 : BitVec 32 := 2#32
  let v1253 : BitVec 32 := Scalar.muli c2_i32_1116 v11
  let v1254 : BitVec 32 := Scalar.muli v1253 v1251
  let v1255 : BitVec 32 := Scalar.subi v1252 v1254
  let v1259 : BitVec 32 := Scalar.addi v1258 v1255
  let c1_i32_1121 : BitVec 32 := 1#32
  let v1260 : BitVec 32 := Scalar.muli v1259 c1_i32_1121
  let v1261 : BitVec 32 := Scalar.addi c0_i32_1122 v1260
  v1261.toNat
def k0_dev48 (d0 : Dev nD) : Nat :=
  let c0_i32_1134 : BitVec 32 := 0#32
  let c8_i32_1129 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v1275 : BitVec 32 := Scalar.muli c8_i32_1129 v4
  let c2_i32_1130 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c3_i32_1125 : BitVec 32 := 3#32
  let v1268 : BitVec 32 := Scalar.addi v6 c3_i32_1125
  let c4_i32_1126 : BitVec 32 := 4#32
  let v1269 : BitVec 32 := Scalar.remsi v1268 c4_i32_1126
  let v1276 : BitVec 32 := Scalar.muli c2_i32_1130 v1269
  let v1277 : BitVec 32 := Scalar.addi v1275 v1276
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_1127 : BitVec 32 := 2#32
  let v1270 : BitVec 32 := Scalar.remsi v1269 c2_i32_1127
  let v1271 : BitVec 32 := Scalar.addi v11 v1270
  let c2_i32_1128 : BitVec 32 := 2#32
  let v1272 : BitVec 32 := Scalar.muli c2_i32_1128 v11
  let v1273 : BitVec 32 := Scalar.muli v1272 v1270
  let v1274 : BitVec 32 := Scalar.subi v1271 v1273
  let v1278 : BitVec 32 := Scalar.addi v1277 v1274
  let c1_i32_1133 : BitVec 32 := 1#32
  let v1279 : BitVec 32 := Scalar.muli v1278 c1_i32_1133
  let v1280 : BitVec 32 := Scalar.addi c0_i32_1134 v1279
  v1280.toNat
def k0_dev49 (d0 : Dev nD) : Nat :=
  let c0_i32_1157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_1153 : BitVec 32 := 8#32
  let c8_i32 : BitVec 32 := 8#32
  let v4 : BitVec 32 := Scalar.divsi v2 c8_i32
  let c1_i32_1151 : BitVec 32 := 1#32
  let v1306 : BitVec 32 := Scalar.addi v4 c1_i32_1151
  let c4_i32_1152 : BitVec 32 := 4#32
  let v1307 : BitVec 32 := Scalar.remsi v1306 c4_i32_1152
  let v1308 : BitVec 32 := Scalar.muli c8_i32_1153 v1307
  let v1309 : BitVec 32 := Scalar.addi v12 v1308
  let c1_i32_1156 : BitVec 32 := 1#32
  let v1310 : BitVec 32 := Scalar.muli v1309 c1_i32_1156
  let v1311 : BitVec 32 := Scalar.addi c0_i32_1157 v1310
  v1311.toNat
def k0_dev50 (d0 : Dev nD) : Nat :=
  let c0_i32_1166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_1162 : BitVec 32 := 8#32
  let c8_i32 : BitVec 32 := 8#32
  let v4 : BitVec 32 := Scalar.divsi v2 c8_i32
  let c2_i32_1160 : BitVec 32 := 2#32
  let v1318 : BitVec 32 := Scalar.addi v4 c2_i32_1160
  let c4_i32_1161 : BitVec 32 := 4#32
  let v1319 : BitVec 32 := Scalar.remsi v1318 c4_i32_1161
  let v1320 : BitVec 32 := Scalar.muli c8_i32_1162 v1319
  let v1321 : BitVec 32 := Scalar.addi v12 v1320
  let c1_i32_1165 : BitVec 32 := 1#32
  let v1322 : BitVec 32 := Scalar.muli v1321 c1_i32_1165
  let v1323 : BitVec 32 := Scalar.addi c0_i32_1166 v1322
  v1323.toNat
def k0_dev51 (d0 : Dev nD) : Nat :=
  let c0_i32_1175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_1171 : BitVec 32 := 8#32
  let c8_i32 : BitVec 32 := 8#32
  let v4 : BitVec 32 := Scalar.divsi v2 c8_i32
  let c3_i32_1169 : BitVec 32 := 3#32
  let v1330 : BitVec 32 := Scalar.addi v4 c3_i32_1169
  let c4_i32_1170 : BitVec 32 := 4#32
  let v1331 : BitVec 32 := Scalar.remsi v1330 c4_i32_1170
  let v1332 : BitVec 32 := Scalar.muli c8_i32_1171 v1331
  let v1333 : BitVec 32 := Scalar.addi v12 v1332
  let c1_i32_1174 : BitVec 32 := 1#32
  let v1334 : BitVec 32 := Scalar.muli v1333 c1_i32_1174
  let v1335 : BitVec 32 := Scalar.addi c0_i32_1175 v1334
  v1335.toNat
def k0_dev52 (d0 : Dev nD) : Nat :=
  let c0_i32_1226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v13 : BitVec 32 := Scalar.addi v2 c1_i32_5
  let c2_i32_6 : BitVec 32 := 2#32
  let c2_i32 : BitVec 32 := 2#32
  let v3 : BitVec 32 := Scalar.remsi v2 c2_i32
  let v14 : BitVec 32 := Scalar.muli c2_i32_6 v3
  let v15 : BitVec 32 := Scalar.subi v13 v14
  let c1_i32_1225 : BitVec 32 := 1#32
  let v1387 : BitVec 32 := Scalar.muli v15 c1_i32_1225
  let v1388 : BitVec 32 := Scalar.addi c0_i32_1226 v1387
  v1388.toNat
def k0_dev53 (d0 : Dev nD) : Nat :=
  let c0_i32_1283 : BitVec 32 := 0#32
  let c8_i32_1278 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v1447 : BitVec 32 := Scalar.muli c8_i32_1278 v4
  let c2_i32_1279 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c1_i32_1274 : BitVec 32 := 1#32
  let v1440 : BitVec 32 := Scalar.addi v6 c1_i32_1274
  let c4_i32_1275 : BitVec 32 := 4#32
  let v1441 : BitVec 32 := Scalar.remsi v1440 c4_i32_1275
  let v1448 : BitVec 32 := Scalar.muli c2_i32_1279 v1441
  let v1449 : BitVec 32 := Scalar.addi v1447 v1448
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_1276 : BitVec 32 := 2#32
  let v1442 : BitVec 32 := Scalar.remsi v1441 c2_i32_1276
  let v1443 : BitVec 32 := Scalar.addi v11 v1442
  let c2_i32_1277 : BitVec 32 := 2#32
  let v1444 : BitVec 32 := Scalar.muli c2_i32_1277 v11
  let v1445 : BitVec 32 := Scalar.muli v1444 v1442
  let v1446 : BitVec 32 := Scalar.subi v1443 v1445
  let v1450 : BitVec 32 := Scalar.addi v1449 v1446
  let c1_i32_1282 : BitVec 32 := 1#32
  let v1451 : BitVec 32 := Scalar.muli v1450 c1_i32_1282
  let v1452 : BitVec 32 := Scalar.addi c0_i32_1283 v1451
  v1452.toNat
def k0_dev54 (d0 : Dev nD) : Nat :=
  let c0_i32_1295 : BitVec 32 := 0#32
  let c8_i32_1290 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v1466 : BitVec 32 := Scalar.muli c8_i32_1290 v4
  let c2_i32_1291 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c2_i32_1286 : BitVec 32 := 2#32
  let v1459 : BitVec 32 := Scalar.addi v6 c2_i32_1286
  let c4_i32_1287 : BitVec 32 := 4#32
  let v1460 : BitVec 32 := Scalar.remsi v1459 c4_i32_1287
  let v1467 : BitVec 32 := Scalar.muli c2_i32_1291 v1460
  let v1468 : BitVec 32 := Scalar.addi v1466 v1467
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_1288 : BitVec 32 := 2#32
  let v1461 : BitVec 32 := Scalar.remsi v1460 c2_i32_1288
  let v1462 : BitVec 32 := Scalar.addi v11 v1461
  let c2_i32_1289 : BitVec 32 := 2#32
  let v1463 : BitVec 32 := Scalar.muli c2_i32_1289 v11
  let v1464 : BitVec 32 := Scalar.muli v1463 v1461
  let v1465 : BitVec 32 := Scalar.subi v1462 v1464
  let v1469 : BitVec 32 := Scalar.addi v1468 v1465
  let c1_i32_1294 : BitVec 32 := 1#32
  let v1470 : BitVec 32 := Scalar.muli v1469 c1_i32_1294
  let v1471 : BitVec 32 := Scalar.addi c0_i32_1295 v1470
  v1471.toNat
def k0_dev55 (d0 : Dev nD) : Nat :=
  let c0_i32_1307 : BitVec 32 := 0#32
  let c8_i32_1302 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v1485 : BitVec 32 := Scalar.muli c8_i32_1302 v4
  let c2_i32_1303 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c3_i32_1298 : BitVec 32 := 3#32
  let v1478 : BitVec 32 := Scalar.addi v6 c3_i32_1298
  let c4_i32_1299 : BitVec 32 := 4#32
  let v1479 : BitVec 32 := Scalar.remsi v1478 c4_i32_1299
  let v1486 : BitVec 32 := Scalar.muli c2_i32_1303 v1479
  let v1487 : BitVec 32 := Scalar.addi v1485 v1486
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_1300 : BitVec 32 := 2#32
  let v1480 : BitVec 32 := Scalar.remsi v1479 c2_i32_1300
  let v1481 : BitVec 32 := Scalar.addi v11 v1480
  let c2_i32_1301 : BitVec 32 := 2#32
  let v1482 : BitVec 32 := Scalar.muli c2_i32_1301 v11
  let v1483 : BitVec 32 := Scalar.muli v1482 v1480
  let v1484 : BitVec 32 := Scalar.subi v1481 v1483
  let v1488 : BitVec 32 := Scalar.addi v1487 v1484
  let c1_i32_1306 : BitVec 32 := 1#32
  let v1489 : BitVec 32 := Scalar.muli v1488 c1_i32_1306
  let v1490 : BitVec 32 := Scalar.addi c0_i32_1307 v1489
  v1490.toNat
def k0_dev56 (d0 : Dev nD) : Nat :=
  let c0_i32_1383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v13 : BitVec 32 := Scalar.addi v2 c1_i32_5
  let c2_i32_6 : BitVec 32 := 2#32
  let c2_i32 : BitVec 32 := 2#32
  let v3 : BitVec 32 := Scalar.remsi v2 c2_i32
  let v14 : BitVec 32 := Scalar.muli c2_i32_6 v3
  let v15 : BitVec 32 := Scalar.subi v13 v14
  let c1_i32_1382 : BitVec 32 := 1#32
  let v1564 : BitVec 32 := Scalar.muli v15 c1_i32_1382
  let v1565 : BitVec 32 := Scalar.addi c0_i32_1383 v1564
  v1565.toNat
def k0_dev57 (d0 : Dev nD) : Nat :=
  let c0_i32_1395 : BitVec 32 := 0#32
  let c8_i32_1390 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v1579 : BitVec 32 := Scalar.muli c8_i32_1390 v4
  let c2_i32_1391 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c1_i32_1385 : BitVec 32 := 1#32
  let v1571 : BitVec 32 := Scalar.addi v6 c1_i32_1385
  let c4_i32_1386 : BitVec 32 := 4#32
  let v1572 : BitVec 32 := Scalar.remsi v1571 c4_i32_1386
  let v1580 : BitVec 32 := Scalar.muli c2_i32_1391 v1572
  let v1581 : BitVec 32 := Scalar.addi v1579 v1580
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_1388 : BitVec 32 := 2#32
  let v1574 : BitVec 32 := Scalar.remsi v1572 c2_i32_1388
  let v1575 : BitVec 32 := Scalar.addi v11 v1574
  let c2_i32_1389 : BitVec 32 := 2#32
  let v1576 : BitVec 32 := Scalar.muli c2_i32_1389 v11
  let v1577 : BitVec 32 := Scalar.muli v1576 v1574
  let v1578 : BitVec 32 := Scalar.subi v1575 v1577
  let v1582 : BitVec 32 := Scalar.addi v1581 v1578
  let c1_i32_1394 : BitVec 32 := 1#32
  let v1583 : BitVec 32 := Scalar.muli v1582 c1_i32_1394
  let v1584 : BitVec 32 := Scalar.addi c0_i32_1395 v1583
  v1584.toNat
def k0_dev58 (d0 : Dev nD) : Nat :=
  let c0_i32_1409 : BitVec 32 := 0#32
  let c8_i32_1404 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v1599 : BitVec 32 := Scalar.muli c8_i32_1404 v4
  let c2_i32_1405 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c2_i32_1399 : BitVec 32 := 2#32
  let v1591 : BitVec 32 := Scalar.addi v6 c2_i32_1399
  let c4_i32_1400 : BitVec 32 := 4#32
  let v1592 : BitVec 32 := Scalar.remsi v1591 c4_i32_1400
  let v1600 : BitVec 32 := Scalar.muli c2_i32_1405 v1592
  let v1601 : BitVec 32 := Scalar.addi v1599 v1600
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_1402 : BitVec 32 := 2#32
  let v1594 : BitVec 32 := Scalar.remsi v1592 c2_i32_1402
  let v1595 : BitVec 32 := Scalar.addi v11 v1594
  let c2_i32_1403 : BitVec 32 := 2#32
  let v1596 : BitVec 32 := Scalar.muli c2_i32_1403 v11
  let v1597 : BitVec 32 := Scalar.muli v1596 v1594
  let v1598 : BitVec 32 := Scalar.subi v1595 v1597
  let v1602 : BitVec 32 := Scalar.addi v1601 v1598
  let c1_i32_1408 : BitVec 32 := 1#32
  let v1603 : BitVec 32 := Scalar.muli v1602 c1_i32_1408
  let v1604 : BitVec 32 := Scalar.addi c0_i32_1409 v1603
  v1604.toNat
def k0_dev59 (d0 : Dev nD) : Nat :=
  let c0_i32_1423 : BitVec 32 := 0#32
  let c8_i32_1418 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v1619 : BitVec 32 := Scalar.muli c8_i32_1418 v4
  let c2_i32_1419 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c3_i32_1413 : BitVec 32 := 3#32
  let v1611 : BitVec 32 := Scalar.addi v6 c3_i32_1413
  let c4_i32_1414 : BitVec 32 := 4#32
  let v1612 : BitVec 32 := Scalar.remsi v1611 c4_i32_1414
  let v1620 : BitVec 32 := Scalar.muli c2_i32_1419 v1612
  let v1621 : BitVec 32 := Scalar.addi v1619 v1620
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_1416 : BitVec 32 := 2#32
  let v1614 : BitVec 32 := Scalar.remsi v1612 c2_i32_1416
  let v1615 : BitVec 32 := Scalar.addi v11 v1614
  let c2_i32_1417 : BitVec 32 := 2#32
  let v1616 : BitVec 32 := Scalar.muli c2_i32_1417 v11
  let v1617 : BitVec 32 := Scalar.muli v1616 v1614
  let v1618 : BitVec 32 := Scalar.subi v1615 v1617
  let v1622 : BitVec 32 := Scalar.addi v1621 v1618
  let c1_i32_1422 : BitVec 32 := 1#32
  let v1623 : BitVec 32 := Scalar.muli v1622 c1_i32_1422
  let v1624 : BitVec 32 := Scalar.addi c0_i32_1423 v1623
  v1624.toNat
def k0_dev60 (d0 : Dev nD) : Nat :=
  let c0_i32_1450 : BitVec 32 := 0#32
  let c8_i32_1445 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v1656 : BitVec 32 := Scalar.muli c8_i32_1445 v4
  let c2_i32_1446 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c1_i32_1440 : BitVec 32 := 1#32
  let v1647 : BitVec 32 := Scalar.addi v6 c1_i32_1440
  let c4_i32_1441 : BitVec 32 := 4#32
  let v1648 : BitVec 32 := Scalar.remsi v1647 c4_i32_1441
  let v1657 : BitVec 32 := Scalar.muli c2_i32_1446 v1648
  let v1658 : BitVec 32 := Scalar.addi v1656 v1657
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_1443 : BitVec 32 := 2#32
  let v1651 : BitVec 32 := Scalar.remsi v1648 c2_i32_1443
  let v1652 : BitVec 32 := Scalar.addi v11 v1651
  let c2_i32_1444 : BitVec 32 := 2#32
  let v1653 : BitVec 32 := Scalar.muli c2_i32_1444 v11
  let v1654 : BitVec 32 := Scalar.muli v1653 v1651
  let v1655 : BitVec 32 := Scalar.subi v1652 v1654
  let v1659 : BitVec 32 := Scalar.addi v1658 v1655
  let c1_i32_1449 : BitVec 32 := 1#32
  let v1660 : BitVec 32 := Scalar.muli v1659 c1_i32_1449
  let v1661 : BitVec 32 := Scalar.addi c0_i32_1450 v1660
  v1661.toNat
def k0_dev61 (d0 : Dev nD) : Nat :=
  let c0_i32_1464 : BitVec 32 := 0#32
  let c8_i32_1459 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v1677 : BitVec 32 := Scalar.muli c8_i32_1459 v4
  let c2_i32_1460 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c2_i32_1454 : BitVec 32 := 2#32
  let v1668 : BitVec 32 := Scalar.addi v6 c2_i32_1454
  let c4_i32_1455 : BitVec 32 := 4#32
  let v1669 : BitVec 32 := Scalar.remsi v1668 c4_i32_1455
  let v1678 : BitVec 32 := Scalar.muli c2_i32_1460 v1669
  let v1679 : BitVec 32 := Scalar.addi v1677 v1678
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_1457 : BitVec 32 := 2#32
  let v1672 : BitVec 32 := Scalar.remsi v1669 c2_i32_1457
  let v1673 : BitVec 32 := Scalar.addi v11 v1672
  let c2_i32_1458 : BitVec 32 := 2#32
  let v1674 : BitVec 32 := Scalar.muli c2_i32_1458 v11
  let v1675 : BitVec 32 := Scalar.muli v1674 v1672
  let v1676 : BitVec 32 := Scalar.subi v1673 v1675
  let v1680 : BitVec 32 := Scalar.addi v1679 v1676
  let c1_i32_1463 : BitVec 32 := 1#32
  let v1681 : BitVec 32 := Scalar.muli v1680 c1_i32_1463
  let v1682 : BitVec 32 := Scalar.addi c0_i32_1464 v1681
  v1682.toNat
def k0_dev62 (d0 : Dev nD) : Nat :=
  let c0_i32_1478 : BitVec 32 := 0#32
  let c8_i32_1473 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v1698 : BitVec 32 := Scalar.muli c8_i32_1473 v4
  let c2_i32_1474 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c3_i32_1468 : BitVec 32 := 3#32
  let v1689 : BitVec 32 := Scalar.addi v6 c3_i32_1468
  let c4_i32_1469 : BitVec 32 := 4#32
  let v1690 : BitVec 32 := Scalar.remsi v1689 c4_i32_1469
  let v1699 : BitVec 32 := Scalar.muli c2_i32_1474 v1690
  let v1700 : BitVec 32 := Scalar.addi v1698 v1699
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_1471 : BitVec 32 := 2#32
  let v1693 : BitVec 32 := Scalar.remsi v1690 c2_i32_1471
  let v1694 : BitVec 32 := Scalar.addi v11 v1693
  let c2_i32_1472 : BitVec 32 := 2#32
  let v1695 : BitVec 32 := Scalar.muli c2_i32_1472 v11
  let v1696 : BitVec 32 := Scalar.muli v1695 v1693
  let v1697 : BitVec 32 := Scalar.subi v1694 v1696
  let v1701 : BitVec 32 := Scalar.addi v1700 v1697
  let c1_i32_1477 : BitVec 32 := 1#32
  let v1702 : BitVec 32 := Scalar.muli v1701 c1_i32_1477
  let v1703 : BitVec 32 := Scalar.addi c0_i32_1478 v1702
  v1703.toNat
def k0_dev63 (d0 : Dev nD) : Nat :=
  let c0_i32_1542 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_1538 : BitVec 32 := 8#32
  let c8_i32 : BitVec 32 := 8#32
  let v4 : BitVec 32 := Scalar.divsi v2 c8_i32
  let c1_i32_1535 : BitVec 32 := 1#32
  let v1752 : BitVec 32 := Scalar.addi v4 c1_i32_1535
  let c4_i32_1536 : BitVec 32 := 4#32
  let v1753 : BitVec 32 := Scalar.remsi v1752 c4_i32_1536
  let v1756 : BitVec 32 := Scalar.muli c8_i32_1538 v1753
  let v1757 : BitVec 32 := Scalar.addi v12 v1756
  let c1_i32_1541 : BitVec 32 := 1#32
  let v1758 : BitVec 32 := Scalar.muli v1757 c1_i32_1541
  let v1759 : BitVec 32 := Scalar.addi c0_i32_1542 v1758
  v1759.toNat
def k0_dev64 (d0 : Dev nD) : Nat :=
  let c0_i32_1553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_1549 : BitVec 32 := 8#32
  let c8_i32 : BitVec 32 := 8#32
  let v4 : BitVec 32 := Scalar.divsi v2 c8_i32
  let c2_i32_1546 : BitVec 32 := 2#32
  let v1766 : BitVec 32 := Scalar.addi v4 c2_i32_1546
  let c4_i32_1547 : BitVec 32 := 4#32
  let v1767 : BitVec 32 := Scalar.remsi v1766 c4_i32_1547
  let v1770 : BitVec 32 := Scalar.muli c8_i32_1549 v1767
  let v1771 : BitVec 32 := Scalar.addi v12 v1770
  let c1_i32_1552 : BitVec 32 := 1#32
  let v1772 : BitVec 32 := Scalar.muli v1771 c1_i32_1552
  let v1773 : BitVec 32 := Scalar.addi c0_i32_1553 v1772
  v1773.toNat
def k0_dev65 (d0 : Dev nD) : Nat :=
  let c0_i32_1564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_1560 : BitVec 32 := 8#32
  let c8_i32 : BitVec 32 := 8#32
  let v4 : BitVec 32 := Scalar.divsi v2 c8_i32
  let c3_i32_1557 : BitVec 32 := 3#32
  let v1780 : BitVec 32 := Scalar.addi v4 c3_i32_1557
  let c4_i32_1558 : BitVec 32 := 4#32
  let v1781 : BitVec 32 := Scalar.remsi v1780 c4_i32_1558
  let v1784 : BitVec 32 := Scalar.muli c8_i32_1560 v1781
  let v1785 : BitVec 32 := Scalar.addi v12 v1784
  let c1_i32_1563 : BitVec 32 := 1#32
  let v1786 : BitVec 32 := Scalar.muli v1785 c1_i32_1563
  let v1787 : BitVec 32 := Scalar.addi c0_i32_1564 v1786
  v1787.toNat
def k0_dev66 (d0 : Dev nD) : Nat :=
  let c0_i32_1627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_1623 : BitVec 32 := 8#32
  let c8_i32 : BitVec 32 := 8#32
  let v4 : BitVec 32 := Scalar.divsi v2 c8_i32
  let c1_i32_1621 : BitVec 32 := 1#32
  let v1836 : BitVec 32 := Scalar.addi v4 c1_i32_1621
  let c4_i32_1622 : BitVec 32 := 4#32
  let v1837 : BitVec 32 := Scalar.remsi v1836 c4_i32_1622
  let v1838 : BitVec 32 := Scalar.muli c8_i32_1623 v1837
  let v1839 : BitVec 32 := Scalar.addi v12 v1838
  let c1_i32_1626 : BitVec 32 := 1#32
  let v1840 : BitVec 32 := Scalar.muli v1839 c1_i32_1626
  let v1841 : BitVec 32 := Scalar.addi c0_i32_1627 v1840
  v1841.toNat
def k0_dev67 (d0 : Dev nD) : Nat :=
  let c0_i32_1637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_1633 : BitVec 32 := 8#32
  let c8_i32 : BitVec 32 := 8#32
  let v4 : BitVec 32 := Scalar.divsi v2 c8_i32
  let c2_i32_1631 : BitVec 32 := 2#32
  let v1848 : BitVec 32 := Scalar.addi v4 c2_i32_1631
  let c4_i32_1632 : BitVec 32 := 4#32
  let v1849 : BitVec 32 := Scalar.remsi v1848 c4_i32_1632
  let v1850 : BitVec 32 := Scalar.muli c8_i32_1633 v1849
  let v1851 : BitVec 32 := Scalar.addi v12 v1850
  let c1_i32_1636 : BitVec 32 := 1#32
  let v1852 : BitVec 32 := Scalar.muli v1851 c1_i32_1636
  let v1853 : BitVec 32 := Scalar.addi c0_i32_1637 v1852
  v1853.toNat
def k0_dev68 (d0 : Dev nD) : Nat :=
  let c0_i32_1647 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_1643 : BitVec 32 := 8#32
  let c8_i32 : BitVec 32 := 8#32
  let v4 : BitVec 32 := Scalar.divsi v2 c8_i32
  let c3_i32_1641 : BitVec 32 := 3#32
  let v1860 : BitVec 32 := Scalar.addi v4 c3_i32_1641
  let c4_i32_1642 : BitVec 32 := 4#32
  let v1861 : BitVec 32 := Scalar.remsi v1860 c4_i32_1642
  let v1862 : BitVec 32 := Scalar.muli c8_i32_1643 v1861
  let v1863 : BitVec 32 := Scalar.addi v12 v1862
  let c1_i32_1646 : BitVec 32 := 1#32
  let v1864 : BitVec 32 := Scalar.muli v1863 c1_i32_1646
  let v1865 : BitVec 32 := Scalar.addi c0_i32_1647 v1864
  v1865.toNat
def k0_dev69 (d0 : Dev nD) : Nat :=
  let c0_i32_1707 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v13 : BitVec 32 := Scalar.addi v2 c1_i32_5
  let c2_i32_6 : BitVec 32 := 2#32
  let c2_i32 : BitVec 32 := 2#32
  let v3 : BitVec 32 := Scalar.remsi v2 c2_i32
  let v14 : BitVec 32 := Scalar.muli c2_i32_6 v3
  let v15 : BitVec 32 := Scalar.subi v13 v14
  let c1_i32_1706 : BitVec 32 := 1#32
  let v1914 : BitVec 32 := Scalar.muli v15 c1_i32_1706
  let v1915 : BitVec 32 := Scalar.addi c0_i32_1707 v1914
  v1915.toNat
def k0_dev70 (d0 : Dev nD) : Nat :=
  let c0_i32_1772 : BitVec 32 := 0#32
  let c8_i32_1767 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v1973 : BitVec 32 := Scalar.muli c8_i32_1767 v4
  let c2_i32_1768 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c1_i32_1763 : BitVec 32 := 1#32
  let v1966 : BitVec 32 := Scalar.addi v6 c1_i32_1763
  let c4_i32_1764 : BitVec 32 := 4#32
  let v1967 : BitVec 32 := Scalar.remsi v1966 c4_i32_1764
  let v1974 : BitVec 32 := Scalar.muli c2_i32_1768 v1967
  let v1975 : BitVec 32 := Scalar.addi v1973 v1974
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_1765 : BitVec 32 := 2#32
  let v1968 : BitVec 32 := Scalar.remsi v1967 c2_i32_1765
  let v1969 : BitVec 32 := Scalar.addi v11 v1968
  let c2_i32_1766 : BitVec 32 := 2#32
  let v1970 : BitVec 32 := Scalar.muli c2_i32_1766 v11
  let v1971 : BitVec 32 := Scalar.muli v1970 v1968
  let v1972 : BitVec 32 := Scalar.subi v1969 v1971
  let v1976 : BitVec 32 := Scalar.addi v1975 v1972
  let c1_i32_1771 : BitVec 32 := 1#32
  let v1977 : BitVec 32 := Scalar.muli v1976 c1_i32_1771
  let v1978 : BitVec 32 := Scalar.addi c0_i32_1772 v1977
  v1978.toNat
def k0_dev71 (d0 : Dev nD) : Nat :=
  let c0_i32_1784 : BitVec 32 := 0#32
  let c8_i32_1779 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v1992 : BitVec 32 := Scalar.muli c8_i32_1779 v4
  let c2_i32_1780 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c2_i32_1775 : BitVec 32 := 2#32
  let v1985 : BitVec 32 := Scalar.addi v6 c2_i32_1775
  let c4_i32_1776 : BitVec 32 := 4#32
  let v1986 : BitVec 32 := Scalar.remsi v1985 c4_i32_1776
  let v1993 : BitVec 32 := Scalar.muli c2_i32_1780 v1986
  let v1994 : BitVec 32 := Scalar.addi v1992 v1993
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_1777 : BitVec 32 := 2#32
  let v1987 : BitVec 32 := Scalar.remsi v1986 c2_i32_1777
  let v1988 : BitVec 32 := Scalar.addi v11 v1987
  let c2_i32_1778 : BitVec 32 := 2#32
  let v1989 : BitVec 32 := Scalar.muli c2_i32_1778 v11
  let v1990 : BitVec 32 := Scalar.muli v1989 v1987
  let v1991 : BitVec 32 := Scalar.subi v1988 v1990
  let v1995 : BitVec 32 := Scalar.addi v1994 v1991
  let c1_i32_1783 : BitVec 32 := 1#32
  let v1996 : BitVec 32 := Scalar.muli v1995 c1_i32_1783
  let v1997 : BitVec 32 := Scalar.addi c0_i32_1784 v1996
  v1997.toNat
def k0_dev72 (d0 : Dev nD) : Nat :=
  let c0_i32_1796 : BitVec 32 := 0#32
  let c8_i32_1791 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v2011 : BitVec 32 := Scalar.muli c8_i32_1791 v4
  let c2_i32_1792 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c3_i32_1787 : BitVec 32 := 3#32
  let v2004 : BitVec 32 := Scalar.addi v6 c3_i32_1787
  let c4_i32_1788 : BitVec 32 := 4#32
  let v2005 : BitVec 32 := Scalar.remsi v2004 c4_i32_1788
  let v2012 : BitVec 32 := Scalar.muli c2_i32_1792 v2005
  let v2013 : BitVec 32 := Scalar.addi v2011 v2012
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_1789 : BitVec 32 := 2#32
  let v2006 : BitVec 32 := Scalar.remsi v2005 c2_i32_1789
  let v2007 : BitVec 32 := Scalar.addi v11 v2006
  let c2_i32_1790 : BitVec 32 := 2#32
  let v2008 : BitVec 32 := Scalar.muli c2_i32_1790 v11
  let v2009 : BitVec 32 := Scalar.muli v2008 v2006
  let v2010 : BitVec 32 := Scalar.subi v2007 v2009
  let v2014 : BitVec 32 := Scalar.addi v2013 v2010
  let c1_i32_1795 : BitVec 32 := 1#32
  let v2015 : BitVec 32 := Scalar.muli v2014 c1_i32_1795
  let v2016 : BitVec 32 := Scalar.addi c0_i32_1796 v2015
  v2016.toNat
def k0_dev73 (d0 : Dev nD) : Nat :=
  let c0_i32_1819 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_1815 : BitVec 32 := 8#32
  let c8_i32 : BitVec 32 := 8#32
  let v4 : BitVec 32 := Scalar.divsi v2 c8_i32
  let c1_i32_1813 : BitVec 32 := 1#32
  let v2042 : BitVec 32 := Scalar.addi v4 c1_i32_1813
  let c4_i32_1814 : BitVec 32 := 4#32
  let v2043 : BitVec 32 := Scalar.remsi v2042 c4_i32_1814
  let v2044 : BitVec 32 := Scalar.muli c8_i32_1815 v2043
  let v2045 : BitVec 32 := Scalar.addi v12 v2044
  let c1_i32_1818 : BitVec 32 := 1#32
  let v2046 : BitVec 32 := Scalar.muli v2045 c1_i32_1818
  let v2047 : BitVec 32 := Scalar.addi c0_i32_1819 v2046
  v2047.toNat
def k0_dev74 (d0 : Dev nD) : Nat :=
  let c0_i32_1828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_1824 : BitVec 32 := 8#32
  let c8_i32 : BitVec 32 := 8#32
  let v4 : BitVec 32 := Scalar.divsi v2 c8_i32
  let c2_i32_1822 : BitVec 32 := 2#32
  let v2054 : BitVec 32 := Scalar.addi v4 c2_i32_1822
  let c4_i32_1823 : BitVec 32 := 4#32
  let v2055 : BitVec 32 := Scalar.remsi v2054 c4_i32_1823
  let v2056 : BitVec 32 := Scalar.muli c8_i32_1824 v2055
  let v2057 : BitVec 32 := Scalar.addi v12 v2056
  let c1_i32_1827 : BitVec 32 := 1#32
  let v2058 : BitVec 32 := Scalar.muli v2057 c1_i32_1827
  let v2059 : BitVec 32 := Scalar.addi c0_i32_1828 v2058
  v2059.toNat
def k0_dev75 (d0 : Dev nD) : Nat :=
  let c0_i32_1837 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4 : BitVec 32 := 8#32
  let v12 : BitVec 32 := Scalar.remsi v2 c8_i32_4
  let c8_i32_1833 : BitVec 32 := 8#32
  let c8_i32 : BitVec 32 := 8#32
  let v4 : BitVec 32 := Scalar.divsi v2 c8_i32
  let c3_i32_1831 : BitVec 32 := 3#32
  let v2066 : BitVec 32 := Scalar.addi v4 c3_i32_1831
  let c4_i32_1832 : BitVec 32 := 4#32
  let v2067 : BitVec 32 := Scalar.remsi v2066 c4_i32_1832
  let v2068 : BitVec 32 := Scalar.muli c8_i32_1833 v2067
  let v2069 : BitVec 32 := Scalar.addi v12 v2068
  let c1_i32_1836 : BitVec 32 := 1#32
  let v2070 : BitVec 32 := Scalar.muli v2069 c1_i32_1836
  let v2071 : BitVec 32 := Scalar.addi c0_i32_1837 v2070
  v2071.toNat
def k0_dev76 (d0 : Dev nD) : Nat :=
  let c0_i32_1888 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v13 : BitVec 32 := Scalar.addi v2 c1_i32_5
  let c2_i32_6 : BitVec 32 := 2#32
  let c2_i32 : BitVec 32 := 2#32
  let v3 : BitVec 32 := Scalar.remsi v2 c2_i32
  let v14 : BitVec 32 := Scalar.muli c2_i32_6 v3
  let v15 : BitVec 32 := Scalar.subi v13 v14
  let c1_i32_1887 : BitVec 32 := 1#32
  let v2123 : BitVec 32 := Scalar.muli v15 c1_i32_1887
  let v2124 : BitVec 32 := Scalar.addi c0_i32_1888 v2123
  v2124.toNat
def k0_dev77 (d0 : Dev nD) : Nat :=
  let c0_i32_1945 : BitVec 32 := 0#32
  let c8_i32_1940 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v2183 : BitVec 32 := Scalar.muli c8_i32_1940 v4
  let c2_i32_1941 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c1_i32_1936 : BitVec 32 := 1#32
  let v2176 : BitVec 32 := Scalar.addi v6 c1_i32_1936
  let c4_i32_1937 : BitVec 32 := 4#32
  let v2177 : BitVec 32 := Scalar.remsi v2176 c4_i32_1937
  let v2184 : BitVec 32 := Scalar.muli c2_i32_1941 v2177
  let v2185 : BitVec 32 := Scalar.addi v2183 v2184
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_1938 : BitVec 32 := 2#32
  let v2178 : BitVec 32 := Scalar.remsi v2177 c2_i32_1938
  let v2179 : BitVec 32 := Scalar.addi v11 v2178
  let c2_i32_1939 : BitVec 32 := 2#32
  let v2180 : BitVec 32 := Scalar.muli c2_i32_1939 v11
  let v2181 : BitVec 32 := Scalar.muli v2180 v2178
  let v2182 : BitVec 32 := Scalar.subi v2179 v2181
  let v2186 : BitVec 32 := Scalar.addi v2185 v2182
  let c1_i32_1944 : BitVec 32 := 1#32
  let v2187 : BitVec 32 := Scalar.muli v2186 c1_i32_1944
  let v2188 : BitVec 32 := Scalar.addi c0_i32_1945 v2187
  v2188.toNat
def k0_dev78 (d0 : Dev nD) : Nat :=
  let c0_i32_1957 : BitVec 32 := 0#32
  let c8_i32_1952 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v2202 : BitVec 32 := Scalar.muli c8_i32_1952 v4
  let c2_i32_1953 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c2_i32_1948 : BitVec 32 := 2#32
  let v2195 : BitVec 32 := Scalar.addi v6 c2_i32_1948
  let c4_i32_1949 : BitVec 32 := 4#32
  let v2196 : BitVec 32 := Scalar.remsi v2195 c4_i32_1949
  let v2203 : BitVec 32 := Scalar.muli c2_i32_1953 v2196
  let v2204 : BitVec 32 := Scalar.addi v2202 v2203
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_1950 : BitVec 32 := 2#32
  let v2197 : BitVec 32 := Scalar.remsi v2196 c2_i32_1950
  let v2198 : BitVec 32 := Scalar.addi v11 v2197
  let c2_i32_1951 : BitVec 32 := 2#32
  let v2199 : BitVec 32 := Scalar.muli c2_i32_1951 v11
  let v2200 : BitVec 32 := Scalar.muli v2199 v2197
  let v2201 : BitVec 32 := Scalar.subi v2198 v2200
  let v2205 : BitVec 32 := Scalar.addi v2204 v2201
  let c1_i32_1956 : BitVec 32 := 1#32
  let v2206 : BitVec 32 := Scalar.muli v2205 c1_i32_1956
  let v2207 : BitVec 32 := Scalar.addi c0_i32_1957 v2206
  v2207.toNat
def k0_dev79 (d0 : Dev nD) : Nat :=
  let c0_i32_1969 : BitVec 32 := 0#32
  let c8_i32_1964 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v4 : BitVec 32 := Scalar.divsi v2 c8_i32
  let v2221 : BitVec 32 := Scalar.muli c8_i32_1964 v4
  let c2_i32_1965 : BitVec 32 := 2#32
  let c8_i32_0 : BitVec 32 := 8#32
  let v5 : BitVec 32 := Scalar.remsi v2 c8_i32_0
  let c2_i32_1 : BitVec 32 := 2#32
  let v6 : BitVec 32 := Scalar.divsi v5 c2_i32_1
  let c3_i32_1960 : BitVec 32 := 3#32
  let v2214 : BitVec 32 := Scalar.addi v6 c3_i32_1960
  let c4_i32_1961 : BitVec 32 := 4#32
  let v2215 : BitVec 32 := Scalar.remsi v2214 c4_i32_1961
  let v2222 : BitVec 32 := Scalar.muli c2_i32_1965 v2215
  let v2223 : BitVec 32 := Scalar.addi v2221 v2222
  let c2_i32 : BitVec 32 := 2#32
  let v3 : BitVec 32 := Scalar.remsi v2 c2_i32
  let c2_i32_2 : BitVec 32 := 2#32
  let v7 : BitVec 32 := Scalar.remsi v6 c2_i32_2
  let v8 : BitVec 32 := Scalar.addi v3 v7
  let c2_i32_3 : BitVec 32 := 2#32
  let v9 : BitVec 32 := Scalar.muli c2_i32_3 v3
  let v10 : BitVec 32 := Scalar.muli v9 v7
  let v11 : BitVec 32 := Scalar.subi v8 v10
  let c2_i32_1962 : BitVec 32 := 2#32
  let v2216 : BitVec 32 := Scalar.remsi v2215 c2_i32_1962
  let v2217 : BitVec 32 := Scalar.addi v11 v2216
  let c2_i32_1963 : BitVec 32 := 2#32
  let v2218 : BitVec 32 := Scalar.muli c2_i32_1963 v11
  let v2219 : BitVec 32 := Scalar.muli v2218 v2216
  let v2220 : BitVec 32 := Scalar.subi v2217 v2219
  let v2224 : BitVec 32 := Scalar.addi v2223 v2220
  let c1_i32_1968 : BitVec 32 := 1#32
  let v2225 : BitVec 32 := Scalar.muli v2224 c1_i32_1968
  let v2226 : BitVec 32 := Scalar.addi c0_i32_1969 v2225
  v2226.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S512x8192 : Shape := ⟨2, ![512, 8192]⟩
abbrev S8192x512 : Shape := ⟨2, ![8192, 512]⟩
abbrev S512x512 : Shape := ⟨2, ![512, 512]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S8192x512, .f32⟩
  | .hbm, ⟨2, _⟩ => ⟨S512x8192, .f32⟩
  | .hbm, ⟨3, _⟩ => ⟨S8192x512, .f32⟩
  | .hbm, ⟨4, _⟩ => ⟨S512x8192, .f32⟩
  | .hbm, ⟨5, _⟩ => ⟨S8192x512, .f32⟩
  | .hbm, ⟨6, _⟩ => ⟨S512x8192, .f32⟩
  | .hbm, ⟨7, _⟩ => ⟨S512x512, .f32⟩
  | .hbm, ⟨8, _⟩ => ⟨S_, .f32⟩
  | .hbm, ⟨9, _⟩ => ⟨S512x512, .f32⟩
  | .hbm, ⟨10, _⟩ => ⟨S512x512, .f32⟩
  | .hbm, ⟨11, _⟩ => ⟨S512x8192, .f32⟩
  | .hbm, ⟨12, _⟩ => ⟨S512x512, .f32⟩
  | .hbm, ⟨13, _⟩ => ⟨S_, .f32⟩
  | .hbm, ⟨14, _⟩ => ⟨S512x512, .f32⟩
  | .hbm, ⟨15, _⟩ => ⟨S512x512, .f32⟩
  | .hbm, ⟨16, _⟩ => ⟨S512x8192, .f32⟩
  | .hbm, ⟨17, _⟩ => ⟨S512x512, .f32⟩
  | .hbm, ⟨18, _⟩ => ⟨S_, .f32⟩
  | .hbm, ⟨19, _⟩ => ⟨S512x512, .f32⟩
  | .hbm, ⟨20, _⟩ => ⟨S512x512, .f32⟩
  | .hbm, ⟨21, _⟩ => ⟨S512x8192, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Ops.lean ====
/-
# The kernel's body, layer by layer

The kernel runs three layers; every layer issues the same remote copies, waits, loads and stores. This module names the
twenty-four copies of a layer (`Kd`), writes one layer's operations once, and states that the printed body is the entry
handshake, the first product, and the three layers in turn (`body_eq`).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.MlpProof

open Cert.KernelIdeal Cert.KernelIdeal.Gen
open Idealize.ShloMosaic Idealize.SL.Sem
open Idealize.ShloMosaic.TcCoe

variable {F : FTy → Type} [FloatOps F]

/-- The copies of one layer: the reduction of the left half of the columns goes along x, y, z (`xa`, `ya`, `za`), that of
    the right half along y, z, x (`yb`, `zb`, `xb`); the results are gathered back along y, x (`gya`, `gxa`) and z, y
    (`gzb`, `gyb`). Along y and z there is one copy for each of the three other positions on the ring of four. -/
inductive Kd where
  | xa | yb (d : Fin 3) | ya (d : Fin 3) | zb (d : Fin 3) | za (d : Fin 3) | xb
  | gya (d : Fin 3) | gzb (d : Fin 3) | gxa | gyb (d : Fin 3)
  deriving DecidableEq

/-! ## The buffers -/

abbrev Mx : Memref sig .tc .vmem S512x256 .f32 := Memref.whole cc0_stg0_0
abbrev Mw0 : Memref sig .tc .vmem S256x512 .f32 := Memref.whole cc0_stg1_0
abbrev Mo0 : Memref sig .tc .vmem S512x256 .f32 := Memref.whole cc0_stg2_0
abbrev Mw1 : Memref sig .tc .vmem S256x512 .f32 := Memref.whole cc0_stg3_0
abbrev Mo1 : Memref sig .tc .vmem S512x256 .f32 := Memref.whole cc0_stg4_0
abbrev Mw2 : Memref sig .tc .vmem S256x512 .f32 := Memref.whole cc0_stg5_0
abbrev Mo2 : Memref sig .tc .vmem S512x256 .f32 := Memref.whole cc0_stg6_0
abbrev My : Memref sig .tc .vmem S512x256 .f32 := Memref.whole cc0_stg7_0
abbrev Ma : Memref sig .tc .vmem S512x512 .f32 := Memref.whole cc0_scratch0
abbrev Mh : Memref sig .tc .vmem S512x512 .bf16 := Memref.whole cc0_scratch1
abbrev Mxa : Memref sig .tc .vmem S256x256 .f32 := Memref.whole cc0_scratch2
abbrev Mya : Memref sig .tc .vmem S192x256 .f32 := Memref.whole cc0_scratch3
abbrev Mza : Memref sig .tc .vmem S192x256 .f32 := Memref.whole cc0_scratch4
abbrev Myb : Memref sig .tc .vmem S384x256 .f32 := Memref.whole cc0_scratch5
abbrev Mzb : Memref sig .tc .vmem S96x256 .f32 := Memref.whole cc0_scratch6
abbrev Mxb : Memref sig .tc .vmem S32x256 .f32 := Memref.whole cc0_scratch7

theorem hMh : Mh.IsWhole := Memref.isWhole_whole _

/-! ## The semaphores -/

abbrev barS : Sem sig := (SemArray.scalar (sig.barrier 0 rfl) : Sems sig S_).sem

/-- The number of the semaphore on which the sender of a copy counts it, among the kernel's own; -/
def sNum : Kd → Fin 62
  | .xa => 0 | .ya d => ⟨3 + d, by omega⟩ | .za d => ⟨11 + d, by omega⟩ | .gxa => 18 | .gya d => ⟨21 + d, by omega⟩ | .xb => 28
  | .yb d => ⟨31 + d, by omega⟩ | .zb d => ⟨39 + d, by omega⟩ | .gyb d => ⟨47 + d, by omega⟩ | .gzb d => ⟨55 + d, by omega⟩
/-- and of the one on which the receiver counts it. -/
def rNum : Kd → Fin 62
  | .xa => 1 | .ya d => ⟨7 + d, by omega⟩ | .za d => ⟨15 + d, by omega⟩ | .gxa => 19 | .gya d => ⟨25 + d, by omega⟩ | .xb => 29
  | .yb d => ⟨35 + d, by omega⟩ | .zb d => ⟨43 + d, by omega⟩ | .gyb d => ⟨51 + d, by omega⟩ | .gzb d => ⟨59 + d, by omega⟩

/-- The kernel's own semaphores in the order of its scratch operands. -/
def own (j : Fin 62) : DmaSem sig := (⟨8 + j.val, by omega⟩ : Fin 70)
abbrev sSem (k : Kd) : DmaSem sig := own (sNum k)
abbrev rSem (k : Kd) : DmaSem sig := own (rNum k)

/-! ## The operations -/

/-- The device a copy is sent to, as the program computes it. -/
def dv (c : Dev nD) : Kd → Dev nD
  | .xa => ⟨k0_dev8 c, k0_dev8_lt c⟩
  | .yb 0 => ⟨k0_dev9 c, k0_dev9_lt c⟩ | .yb 1 => ⟨k0_dev10 c, k0_dev10_lt c⟩ | .yb 2 => ⟨k0_dev11 c, k0_dev11_lt c⟩
  | .ya 0 => ⟨k0_dev12 c, k0_dev12_lt c⟩ | .ya 1 => ⟨k0_dev13 c, k0_dev13_lt c⟩ | .ya 2 => ⟨k0_dev14 c, k0_dev14_lt c⟩
  | .zb 0 => ⟨k0_dev15 c, k0_dev15_lt c⟩ | .zb 1 => ⟨k0_dev16 c, k0_dev16_lt c⟩ | .zb 2 => ⟨k0_dev17 c, k0_dev17_lt c⟩
  | .za 0 => ⟨k0_dev18 c, k0_dev18_lt c⟩ | .za 1 => ⟨k0_dev19 c, k0_dev19_lt c⟩ | .za 2 => ⟨k0_dev20 c, k0_dev20_lt c⟩
  | .xb => ⟨k0_dev21 c, k0_dev21_lt c⟩
  | .gya 0 => ⟨k0_dev22 c, k0_dev22_lt c⟩ | .gya 1 => ⟨k0_dev23 c, k0_dev23_lt c⟩ | .gya 2 => ⟨k0_dev24 c, k0_dev24_lt c⟩
  | .gzb 0 => ⟨k0_dev25 c, k0_dev25_lt c⟩ | .gzb 1 => ⟨k0_dev26 c, k0_dev26_lt c⟩ | .gzb 2 => ⟨k0_dev27 c, k0_dev27_lt c⟩
  | .gxa => ⟨k0_dev28 c, k0_dev28_lt c⟩
  | .gyb 0 => ⟨k0_dev29 c, k0_dev29_lt c⟩ | .gyb 1 => ⟨k0_dev30 c, k0_dev30_lt c⟩ | .gyb 2 => ⟨k0_dev31 c, k0_dev31_lt c⟩

/-- The shape of what a copy carries. -/
def shp : Kd → Shape
  | .xa => S256x256 | .yb _ => S128x256 | .ya _ => S64x256 | .zb _ => S32x256 | .za _ => S64x256 | .xb => S32x256
  | .gya _ => S64x256 | .gzb _ => S32x256 | .gxa => S256x256 | .gyb _ => S128x256

section Views
variable (c : Dev nD)

abbrev aXa : Memref sig .tc .vmem S256x256 .f32 := Ma.slice (Rect.unit (s := S512x512) (k0_off1 c) S256x256.size (k0_off1_inb c)) (fun _ => rfl)
abbrev aYb (d : Fin 3) : Memref sig .tc .vmem S128x256 .f32 :=
  Ma.slice (Rect.unit (s := S512x512) (k0_off2 c (BitVec.ofNat 32 (1 + d.val))) S128x256.size (k0_off2_inb c d)) (fun _ => rfl)
abbrev aYa (d : Fin 3) : Memref sig .tc .vmem S64x256 .f32 :=
  Ma.slice (Rect.unit (s := S512x512) (k0_off4 c (BitVec.ofNat 32 (1 + d.val))) S64x256.size (k0_off4_inb c d)) (fun _ => rfl)
abbrev aZb (d : Fin 3) : Memref sig .tc .vmem S32x256 .f32 :=
  Ma.slice (Rect.unit (s := S512x512) (k0_off6 c (BitVec.ofNat 32 (1 + d.val))) S32x256.size (k0_off6_inb c d)) (fun _ => rfl)
abbrev aZa : Memref sig .tc .vmem S64x256 .f32 := Ma.slice (Rect.unit (s := S512x512) (k0_off8 c) S64x256.size (k0_off8_inb c)) (fun _ => rfl)
abbrev aXb : Memref sig .tc .vmem S32x256 .f32 := Ma.slice (Rect.unit (s := S512x512) (k0_off10 c) S32x256.size (k0_off10_inb c)) (fun _ => rfl)
abbrev hYa : Memref sig .tc .vmem S64x256 .bf16 := Mh.slice (Rect.unit (s := S512x512) (k0_off8 c) S64x256.size (k0_off8_inb c)) (fun _ => rfl)
abbrev hZb : Memref sig .tc .vmem S32x256 .bf16 := Mh.slice (Rect.unit (s := S512x512) (k0_off10 c) S32x256.size (k0_off10_inb c)) (fun _ => rfl)
abbrev hXa : Memref sig .tc .vmem S256x256 .bf16 := Mh.slice (Rect.unit (s := S512x512) (k0_off12 c) S256x256.size (k0_off12_inb c)) (fun _ => rfl)
abbrev hYb : Memref sig .tc .vmem S128x256 .bf16 := Mh.slice (Rect.unit (s := S512x512) (k0_off14 c) S128x256.size (k0_off14_inb c)) (fun _ => rfl)
/-- The places in `h` where the gathers land, as the receiver names them. -/
abbrev gYa (d : Fin 3) : Memref sig .tc .vmem S64x256 .bf16 :=
  Mh.slice (Rect.unit (s := S512x512) (k0_off11 c (BitVec.ofNat 32 (1 + d.val))) S64x256.size (k0_off11_inb c d)) (fun _ => rfl)
abbrev gZb (d : Fin 3) : Memref sig .tc .vmem S32x256 .bf16 :=
  Mh.slice (Rect.unit (s := S512x512) (k0_off13 c (BitVec.ofNat 32 (1 + d.val))) S32x256.size (k0_off13_inb c d)) (fun _ => rfl)
abbrev gXa : Memref sig .tc .vmem S256x256 .bf16 := Mh.slice (Rect.unit (s := S512x512) (k0_off1 c) S256x256.size (k0_off1_inb c)) (fun _ => rfl)
abbrev gYb (d : Fin 3) : Memref sig .tc .vmem S128x256 .bf16 :=
  Mh.slice (Rect.unit (s := S512x512) (k0_off15 c (BitVec.ofNat 32 (1 + d.val))) S128x256.size (k0_off15_inb c d)) (fun _ => rfl)
end Views

theorem slot192 (s : Fin 3) : ∀ a, (![64 * s.val, 0] : Fin 2 → Nat) a + S64x256.size a ≤ S192x256.size a := by revert s; decide
theorem slot384 (s : Fin 3) : ∀ a, (![128 * s.val, 0] : Fin 2 → Nat) a + S128x256.size a ≤ S384x256.size a := by revert s; decide
theorem slot96 (s : Fin 3) : ∀ a, (![32 * s.val, 0] : Fin 2 → Nat) a + S32x256.size a ≤ S96x256.size a := by revert s; decide

abbrev rYa (s : Fin 3) : Memref sig .tc .vmem S64x256 .f32 := Mya.slice (Rect.unit (s := S192x256) ![64 * s.val, 0] S64x256.size (slot192 s)) (fun _ => rfl)
abbrev rZa (s : Fin 3) : Memref sig .tc .vmem S64x256 .f32 := Mza.slice (Rect.unit (s := S192x256) ![64 * s.val, 0] S64x256.size (slot192 s)) (fun _ => rfl)
abbrev rYb (s : Fin 3) : Memref sig .tc .vmem S128x256 .f32 := Myb.slice (Rect.unit (s := S384x256) ![128 * s.val, 0] S128x256.size (slot384 s)) (fun _ => rfl)
abbrev rZb (s : Fin 3) : Memref sig .tc .vmem S32x256 .f32 := Mzb.slice (Rect.unit (s := S96x256) ![32 * s.val, 0] S32x256.size (slot96 s)) (fun _ => rfl)

/-- The copy `k` of device `c` to device `n`. -/
def snd (c n : Dev nD) : Kd → Prog (TpuEff nD τ sig (Elt F) Λ₀ .tc) PUnit
  | .xa => Prog.lift (.enqueueDma (aXa c) (.remote (Dev.tc n) Mxa (.dma (sSem .xa))) (.dma (rSem .xa)) (View.wordExact_bits rfl) (Memref.isWhole_whole _).wordExact ⟨⟨rfl, Or.inl rfl⟩, trivial⟩)
  | .yb d => Prog.lift (.enqueueDma (aYb c d) (.remote (Dev.tc n) (rYb d.rev) (.dma (sSem (.yb d)))) (.dma (rSem (.yb d))) (View.wordExact_bits rfl) (View.wordExact_bits rfl) ⟨⟨rfl, Or.inl rfl⟩, trivial⟩)
  | .ya d => Prog.lift (.enqueueDma (aYa c d) (.remote (Dev.tc n) (rYa d.rev) (.dma (sSem (.ya d)))) (.dma (rSem (.ya d))) (View.wordExact_bits rfl) (View.wordExact_bits rfl) ⟨⟨rfl, Or.inl rfl⟩, trivial⟩)
  | .zb d => Prog.lift (.enqueueDma (aZb c d) (.remote (Dev.tc n) (rZb d.rev) (.dma (sSem (.zb d)))) (.dma (rSem (.zb d))) (View.wordExact_bits rfl) (View.wordExact_bits rfl) ⟨⟨rfl, Or.inl rfl⟩, trivial⟩)
  | .za d => Prog.lift (.enqueueDma (aZa c) (.remote (Dev.tc n) (rZa d.rev) (.dma (sSem (.za d)))) (.dma (rSem (.za d))) (View.wordExact_bits rfl) (View.wordExact_bits rfl) ⟨⟨rfl, Or.inl rfl⟩, trivial⟩)
  | .xb => Prog.lift (.enqueueDma (aXb c) (.remote (Dev.tc n) Mxb (.dma (sSem .xb))) (.dma (rSem .xb)) (View.wordExact_bits rfl) (Memref.isWhole_whole _).wordExact ⟨⟨rfl, Or.inl rfl⟩, trivial⟩)
  | .gya d => Prog.lift (.enqueueDma (hYa c) (.remote (Dev.tc n) (hYa c) (.dma (sSem (.gya d)))) (.dma (rSem (.gya d))) (hMh.wordExact_slice rfl _ (k0_off8_wordsbf16 c)) (hMh.wordExact_slice rfl _ (k0_off8_wordsbf16 c)) ⟨⟨rfl, Or.inl rfl⟩, trivial⟩)
  | .gzb d => Prog.lift (.enqueueDma (hZb c) (.remote (Dev.tc n) (hZb c) (.dma (sSem (.gzb d)))) (.dma (rSem (.gzb d))) (hMh.wordExact_slice rfl _ (k0_off10_wordsbf16 c)) (hMh.wordExact_slice rfl _ (k0_off10_wordsbf16 c)) ⟨⟨rfl, Or.inl rfl⟩, trivial⟩)
  | .gxa => Prog.lift (.enqueueDma (hXa c) (.remote (Dev.tc n) (hXa c) (.dma (sSem .gxa))) (.dma (rSem .gxa)) (hMh.wordExact_slice rfl _ (k0_off12_wordsbf16 c)) (hMh.wordExact_slice rfl _ (k0_off12_wordsbf16 c)) ⟨⟨rfl, Or.inl rfl⟩, trivial⟩)
  | .gyb d => Prog.lift (.enqueueDma (hYb c) (.remote (Dev.tc n) (hYb c) (.dma (sSem (.gyb d)))) (.dma (rSem (.gyb d))) (hMh.wordExact_slice rfl _ (k0_off14_wordsbf16 c)) (hMh.wordExact_slice rfl _ (k0_off14_wordsbf16 c)) ⟨⟨rfl, Or.inl rfl⟩, trivial⟩)

/-- The wait for the copy `k` device `c` receives: for the gathers the source operand is the device's own part. -/
def wtR (c : Dev nD) : Kd → Prog (TpuEff nD τ sig (Elt F) Λ₀ .tc) PUnit
  | .xa => Prog.lift (.waitDma2 (rSem .xa) (aXa c) Mxa (View.wordExact_bits rfl) (Memref.isWhole_whole _).wordExact)
  | .yb d => Prog.lift (.waitDma2 (rSem (.yb d)) (Ma.slice (Rect.unit (s := S512x512) ![0, 256] S128x256.size inb_S512x512_S128x256_0_256) (fun _ => rfl)) (rYb d.rev) (View.wordExact_bits rfl) (View.wordExact_bits rfl))
  | .ya d => Prog.lift (.waitDma2 (rSem (.ya d)) (Ma.slice (Rect.unit (s := S512x512) ![0, 0] S64x256.size inb_S512x512_S64x256_0_0) (fun _ => rfl)) (rYa d.rev) (View.wordExact_bits rfl) (View.wordExact_bits rfl))
  | .zb d => Prog.lift (.waitDma2 (rSem (.zb d)) (Ma.slice (Rect.unit (s := S512x512) ![0, 256] S32x256.size inb_S512x512_S32x256_0_256) (fun _ => rfl)) (rZb d.rev) (View.wordExact_bits rfl) (View.wordExact_bits rfl))
  | .za d => Prog.lift (.waitDma2 (rSem (.za d)) (Ma.slice (Rect.unit (s := S512x512) ![0, 0] S64x256.size inb_S512x512_S64x256_0_0) (fun _ => rfl)) (rZa d.rev) (View.wordExact_bits rfl) (View.wordExact_bits rfl))
  | .xb => Prog.lift (.waitDma2 (rSem .xb) (aXb c) Mxb (View.wordExact_bits rfl) (Memref.isWhole_whole _).wordExact)
  | .gya d => Prog.lift (.waitDma2 (rSem (.gya d)) (hYa c) (gYa c d) (hMh.wordExact_slice rfl _ (k0_off8_wordsbf16 c)) (hMh.wordExact_slice rfl _ (k0_off11_wordsbf16 c d)))
  | .gzb d => Prog.lift (.waitDma2 (rSem (.gzb d)) (hZb c) (gZb c d) (hMh.wordExact_slice rfl _ (k0_off10_wordsbf16 c)) (hMh.wordExact_slice rfl _ (k0_off13_wordsbf16 c d)))
  | .gxa => Prog.lift (.waitDma2 (rSem .gxa) (hXa c) (gXa c) (hMh.wordExact_slice rfl _ (k0_off12_wordsbf16 c)) (hMh.wordExact_slice rfl _ (k0_off1_wordsbf16 c)))
  | .gyb d => Prog.lift (.waitDma2 (rSem (.gyb d)) (hYb c) (gYb c d) (hMh.wordExact_slice rfl _ (k0_off14_wordsbf16 c)) (hMh.wordExact_slice rfl _ (k0_off15_wordsbf16 c d)))

/-- The wait for the copy `k` device `c` sent to have left. -/
def wtS (c : Dev nD) : Kd → Prog (TpuEff nD τ sig (Elt F) Λ₀ .tc) PUnit
  | .xa => Prog.lift (.waitDma2 (sSem .xa) Mxa (aXa c) (Memref.isWhole_whole _).wordExact (View.wordExact_bits rfl))
  | .yb d => Prog.lift (.waitDma2 (sSem (.yb d)) (rYb d.rev) (Ma.slice (Rect.unit (s := S512x512) ![0, 256] S128x256.size inb_S512x512_S128x256_0_256) (fun _ => rfl)) (View.wordExact_bits rfl) (View.wordExact_bits rfl))
  | .ya d => Prog.lift (.waitDma2 (sSem (.ya d)) (rYa d.rev) (Ma.slice (Rect.unit (s := S512x512) ![0, 0] S64x256.size inb_S512x512_S64x256_0_0) (fun _ => rfl)) (View.wordExact_bits rfl) (View.wordExact_bits rfl))
  | .zb d => Prog.lift (.waitDma2 (sSem (.zb d)) (rZb d.rev) (Ma.slice (Rect.unit (s := S512x512) ![0, 256] S32x256.size inb_S512x512_S32x256_0_256) (fun _ => rfl)) (View.wordExact_bits rfl) (View.wordExact_bits rfl))
  | .za d => Prog.lift (.waitDma2 (sSem (.za d)) (rZa d.rev) (Ma.slice (Rect.unit (s := S512x512) ![0, 0] S64x256.size inb_S512x512_S64x256_0_0) (fun _ => rfl)) (View.wordExact_bits rfl) (View.wordExact_bits rfl))
  | .xb => Prog.lift (.waitDma2 (sSem .xb) Mxb (aXb c) (Memref.isWhole_whole _).wordExact (View.wordExact_bits rfl))
  | .gya d => Prog.lift (.waitDma2 (sSem (.gya d)) (gYa c d) (hYa c) (hMh.wordExact_slice rfl _ (k0_off11_wordsbf16 c d)) (hMh.wordExact_slice rfl _ (k0_off8_wordsbf16 c)))
  | .gzb d => Prog.lift (.waitDma2 (sSem (.gzb d)) (gZb c d) (hZb c) (hMh.wordExact_slice rfl _ (k0_off13_wordsbf16 c d)) (hMh.wordExact_slice rfl _ (k0_off10_wordsbf16 c)))
  | .gxa => Prog.lift (.waitDma2 (sSem .gxa) (hXa c) (hXa c) (hMh.wordExact_slice rfl _ (k0_off12_wordsbf16 c)) (hMh.wordExact_slice rfl _ (k0_off12_wordsbf16 c)))
  | .gyb d => Prog.lift (.waitDma2 (sSem (.gyb d)) (gYb c d) (hYb c) (hMh.wordExact_slice rfl _ (k0_off15_wordsbf16 c d)) (hMh.wordExact_slice rfl _ (k0_off14_wordsbf16 c)))

/-- Three copies, one per position of the ring. -/
def snd3 (c : Dev nD) (k : Fin 3 → Kd) : Prog (TpuEff nD τ sig (Elt F) Λ₀ .tc) PUnit := do
  snd c (dv c (k 0)) (k 0)
  snd c (dv c (k 1)) (k 1)
  snd c (dv c (k 2)) (k 2)
/-- Their waits, the landing before the leaving. -/
def wt3 (c : Dev nD) (k : Fin 3 → Kd) : Prog (TpuEff nD τ sig (Elt F) Λ₀ .tc) PUnit := do
  wtR c (k 0)
  wtS c (k 0)
  wtR c (k 1)
  wtS c (k 1)
  wtR c (k 2)
  wtS c (k 2)

/-- `a`'s kept half of the left columns takes the half received along x. -/
def addXa (c : Dev nD) : Prog (TpuEff nD τ sig (Elt F) Λ₀ .tc) PUnit := do
  let a : Vec F S256x256 .f32 ← Prog.lift (.load Ma (Rect.unit (s := S512x512) (k0_off3 c) S256x256.size (k0_off3_inb c)).toLoadRect (View.loadsAt_vmem h_S256x256))
  let b : Vec F S256x256 .f32 ← Prog.lift (.load Mxa (Rect.unit (s := S256x256) ![0, 0] S256x256.size inb_S256x256_S256x256_0_0).toLoadRect (View.loadsAt_vmem h_S256x256))
  let _ : Vec F S256x256 .f32 ← Prog.lift (.load Ma (Rect.unit (s := S512x512) (k0_off3 c) S256x256.size (k0_off3_inb c)).toLoadRect (View.loadsAt_vmem h_S256x256))
  Prog.lift (.store Ma (Rect.unit (s := S512x512) (k0_off3 c) S256x256.size (k0_off3_inb c)) (k0_pay3 a b) Finset.univ (View.stores_vmem_bits_univ h_S256x256 rfl) (.inl rfl))

/-- `a`'s kept quarter of the right columns takes the three received along y. -/
def addYb (c : Dev nD) : Prog (TpuEff nD τ sig (Elt F) Λ₀ .tc) PUnit := do
  let a : Vec F S128x256 .f32 ← Prog.lift (.load Ma (Rect.unit (s := S512x512) (k0_off5 c) S128x256.size (k0_off5_inb c)).toLoadRect (View.loadsAt_vmem h_S128x256))
  let b0 : Vec F S128x256 .f32 ← Prog.lift (.load Myb (Rect.unit (s := S384x256) ![0, 0] S128x256.size inb_S384x256_S128x256_0_0).toLoadRect (View.loadsAt_vmem h_S128x256))
  let b1 : Vec F S128x256 .f32 ← Prog.lift (.load Myb (Rect.unit (s := S384x256) ![128, 0] S128x256.size inb_S384x256_S128x256_128_0).toLoadRect (View.loadsAt_vmem h_S128x256))
  let b2 : Vec F S128x256 .f32 ← Prog.lift (.load Myb (Rect.unit (s := S384x256) ![256, 0] S128x256.size inb_S384x256_S128x256_256_0).toLoadRect (View.loadsAt_vmem h_S128x256))
  let _ : Vec F S128x256 .f32 ← Prog.lift (.load Ma (Rect.unit (s := S512x512) (k0_off5 c) S128x256.size (k0_off5_inb c)).toLoadRect (View.loadsAt_vmem h_S128x256))
  Prog.lift (.store Ma (Rect.unit (s := S512x512) (k0_off5 c) S128x256.size (k0_off5_inb c)) (k0_pay4 a b0 b1 b2) Finset.univ (View.stores_vmem_bits_univ h_S128x256 rfl) (.inl rfl))

/-- `a`'s kept eighth of the left columns takes the three received along y. -/
def addYa (c : Dev nD) : Prog (TpuEff nD τ sig (Elt F) Λ₀ .tc) PUnit := do
  let a : Vec F S64x256 .f32 ← Prog.lift (.load Ma (Rect.unit (s := S512x512) (k0_off7 c) S64x256.size (k0_off7_inb c)).toLoadRect (View.loadsAt_vmem h_S64x256))
  let b0 : Vec F S64x256 .f32 ← Prog.lift (.load Mya (Rect.unit (s := S192x256) ![0, 0] S64x256.size inb_S192x256_S64x256_0_0).toLoadRect (View.loadsAt_vmem h_S64x256))
  let b1 : Vec F S64x256 .f32 ← Prog.lift (.load Mya (Rect.unit (s := S192x256) ![64, 0] S64x256.size inb_S192x256_S64x256_64_0).toLoadRect (View.loadsAt_vmem h_S64x256))
  let b2 : Vec F S64x256 .f32 ← Prog.lift (.load Mya (Rect.unit (s := S192x256) ![128, 0] S64x256.size inb_S192x256_S64x256_128_0).toLoadRect (View.loadsAt_vmem h_S64x256))
  let _ : Vec F S64x256 .f32 ← Prog.lift (.load Ma (Rect.unit (s := S512x512) (k0_off7 c) S64x256.size (k0_off7_inb c)).toLoadRect (View.loadsAt_vmem h_S64x256))
  Prog.lift (.store Ma (Rect.unit (s := S512x512) (k0_off7 c) S64x256.size (k0_off7_inb c)) (k0_pay5 a b0 b1 b2) Finset.univ (View.stores_vmem_bits_univ h_S64x256 rfl) (.inl rfl))

/-- `a`'s kept sixteenth of the right columns takes the three received along z. -/
def addZb (c : Dev nD) : Prog (TpuEff nD τ sig (Elt F) Λ₀ .tc) PUnit := do
  let a : Vec F S32x256 .f32 ← Prog.lift (.load Ma (Rect.unit (s := S512x512) (k0_off9 c) S32x256.size (k0_off9_inb c)).toLoadRect (View.loadsAt_vmem h_S32x256))
  let b0 : Vec F S32x256 .f32 ← Prog.lift (.load Mzb (Rect.unit (s := S96x256) ![0, 0] S32x256.size inb_S96x256_S32x256_0_0).toLoadRect (View.loadsAt_vmem h_S32x256))
  let b1 : Vec F S32x256 .f32 ← Prog.lift (.load Mzb (Rect.unit (s := S96x256) ![32, 0] S32x256.size inb_S96x256_S32x256_32_0).toLoadRect (View.loadsAt_vmem h_S32x256))
  let b2 : Vec F S32x256 .f32 ← Prog.lift (.load Mzb (Rect.unit (s := S96x256) ![64, 0] S32x256.size inb_S96x256_S32x256_64_0).toLoadRect (View.loadsAt_vmem h_S32x256))
  let _ : Vec F S32x256 .f32 ← Prog.lift (.load Ma (Rect.unit (s := S512x512) (k0_off9 c) S32x256.size (k0_off9_inb c)).toLoadRect (View.loadsAt_vmem h_S32x256))
  Prog.lift (.store Ma (Rect.unit (s := S512x512) (k0_off9 c) S32x256.size (k0_off9_inb c)) (k0_pay6 a b0 b1 b2) Finset.univ (View.stores_vmem_bits_univ h_S32x256 rfl) (.inl rfl))

/-- `h`'s own part of the left columns: what `a` and the three received along z sum to, below by zero, narrowed. -/
def reluA (c : Dev nD) : Prog (TpuEff nD τ sig (Elt F) Λ₀ .tc) PUnit := do
  let a : Vec F S64x256 .f32 ← Prog.lift (.load Ma (Rect.unit (s := S512x512) (k0_off7 c) S64x256.size (k0_off7_inb c)).toLoadRect (View.loadsAt_vmem h_S64x256))
  let b0 : Vec F S64x256 .f32 ← Prog.lift (.load Mza (Rect.unit (s := S192x256) ![0, 0] S64x256.size inb_S192x256_S64x256_0_0).toLoadRect (View.loadsAt_vmem h_S64x256))
  let b1 : Vec F S64x256 .f32 ← Prog.lift (.load Mza (Rect.unit (s := S192x256) ![64, 0] S64x256.size inb_S192x256_S64x256_64_0).toLoadRect (View.loadsAt_vmem h_S64x256))
  let b2 : Vec F S64x256 .f32 ← Prog.lift (.load Mza (Rect.unit (s := S192x256) ![128, 0] S64x256.size inb_S192x256_S64x256_128_0).toLoadRect (View.loadsAt_vmem h_S64x256))
  let _ : Vec F S64x256 .bf16 ← Prog.lift (.load Mh (Rect.unit (s := S512x512) (k0_off7 c) S64x256.size (k0_off7_inb c)).toLoadRect (View.loadsAt_vmem h_S64x256))
  Prog.lift (.store Mh (Rect.unit (s := S512x512) (k0_off7 c) S64x256.size (k0_off7_inb c)) (k0_pay7 a b0 b1 b2) Finset.univ (View.stores_vmem h_S64x256 (hMh.storeExact_slice rfl _ (k0_off7_packedbf16 c)) (fun _ => rfl)) (.inl rfl))

/-- `h`'s own part of the right columns, likewise, from `a` and what came along x. -/
def reluB (c : Dev nD) : Prog (TpuEff nD τ sig (Elt F) Λ₀ .tc) PUnit := do
  let a : Vec F S32x256 .f32 ← Prog.lift (.load Ma (Rect.unit (s := S512x512) (k0_off9 c) S32x256.size (k0_off9_inb c)).toLoadRect (View.loadsAt_vmem h_S32x256))
  let b : Vec F S32x256 .f32 ← Prog.lift (.load Mxb (Rect.unit (s := S32x256) ![0, 0] S32x256.size inb_S32x256_S32x256_0_0).toLoadRect (View.loadsAt_vmem h_S32x256))
  let _ : Vec F S32x256 .bf16 ← Prog.lift (.load Mh (Rect.unit (s := S512x512) (k0_off9 c) S32x256.size (k0_off9_inb c)).toLoadRect (View.loadsAt_vmem h_S32x256))
  Prog.lift (.store Mh (Rect.unit (s := S512x512) (k0_off9 c) S32x256.size (k0_off9_inb c)) (k0_pay8 a b) Finset.univ (View.stores_vmem h_S32x256 (hMh.storeExact_slice rfl _ (k0_off9_packedbf16 c)) (fun _ => rfl)) (.inl rfl))

/-- The reduction of a layer down to the device's own parts. -/
def redP (c : Dev nD) : Prog (TpuEff nD τ sig (Elt F) Λ₀ .tc) PUnit := do
  snd c (dv c .xa) .xa
  snd3 c .yb
  wtS c .xa
  wtR c .xa
  addXa c
  snd3 c .ya
  wt3 c .yb
  addYb c
  snd3 c .zb
  wt3 c .ya
  addYa c
  snd3 c .za
  wt3 c .zb
  addZb c
  snd c (dv c .xb) .xb
  wt3 c .za
  reluA c
/-- The gathering of `h`. -/
def gatP (c : Dev nD) : Prog (TpuEff nD τ sig (Elt F) Λ₀ .tc) PUnit := do
  snd3 c .gya
  wtS c .xb
  wtR c .xb
  reluB c
  snd3 c .gzb
  wt3 c .gya
  snd c (dv c .gxa) .gxa
  wt3 c .gzb
  snd3 c .gyb
  wtS c .gxa
  wtR c .gxa
  wt3 c .gyb

/-- The first layer's product. -/
def dot0 : Prog (TpuEff nD τ sig (Elt F) Λ₀ .tc) PUnit := do
  let x : Vec F S512x256 .f32 ← Prog.lift (.load Mx (Rect.unit (s := S512x256) ![0, 0] S512x256.size inb_S512x256_S512x256_0_0).toLoadRect (View.loadsAt_vmem h_S512x256))
  let w : Vec F S256x512 .f32 ← Prog.lift (.load Mw0 (Rect.unit (s := S256x512) ![0, 0] S256x512.size inb_S256x512_S256x512_0_0).toLoadRect (View.loadsAt_vmem h_S256x512))
  let _ : Vec F S512x512 .f32 ← Prog.lift (.load Ma (Rect.unit (s := S512x512) ![0, 0] S512x512.size inb_S512x512_S512x512_0_0).toLoadRect (View.loadsAt_vmem h_S512x512))
  Prog.lift (.store Ma (Rect.unit (s := S512x512) ![0, 0] S512x512.size inb_S512x512_S512x512_0_0) (k0_pay2 x w) Finset.univ (View.stores_vmem_bits_univ h_S512x512 rfl) (.inl rfl))
/-- A layer's last product and the next one's first. -/
def dotN (Mo : Memref sig .tc .vmem S512x256 .f32) (Mw : Memref sig .tc .vmem S256x512 .f32) : Prog (TpuEff nD τ sig (Elt F) Λ₀ .tc) PUnit := do
  let h : Vec F S512x512 .bf16 ← Prog.lift (.load Mh (Rect.unit (s := S512x512) ![0, 0] S512x512.size inb_S512x512_S512x512_0_0).toLoadRect (View.loadsAt_vmem h_S512x512))
  let o : Vec F S512x256 .f32 ← Prog.lift (.load Mo (Rect.unit (s := S512x256) ![0, 0] S512x256.size inb_S512x256_S512x256_0_0).toLoadRect (View.loadsAt_vmem h_S512x256))
  let w : Vec F S256x512 .f32 ← Prog.lift (.load Mw (Rect.unit (s := S256x512) ![0, 0] S256x512.size inb_S256x512_S256x512_0_0).toLoadRect (View.loadsAt_vmem h_S256x512))
  let _ : Vec F S512x512 .f32 ← Prog.lift (.load Ma (Rect.unit (s := S512x512) ![0, 0] S512x512.size inb_S512x512_S512x512_0_0).toLoadRect (View.loadsAt_vmem h_S512x512))
  Prog.lift (.store Ma (Rect.unit (s := S512x512) ![0, 0] S512x512.size inb_S512x512_S512x512_0_0) (k0_pay9 h o w) Finset.univ (View.stores_vmem_bits_univ h_S512x512 rfl) (.inl rfl))
/-- The last layer's last product, into the output. -/
def dotF : Prog (TpuEff nD τ sig (Elt F) Λ₀ .tc) PUnit := do
  let h : Vec F S512x512 .bf16 ← Prog.lift (.load Mh (Rect.unit (s := S512x512) ![0, 0] S512x512.size inb_S512x512_S512x512_0_0).toLoadRect (View.loadsAt_vmem h_S512x512))
  let o : Vec F S512x256 .f32 ← Prog.lift (.load Mo2 (Rect.unit (s := S512x256) ![0, 0] S512x256.size inb_S512x256_S512x256_0_0).toLoadRect (View.loadsAt_vmem h_S512x256))
  let _ : Vec F S512x256 .f32 ← Prog.lift (.load My (Rect.unit (s := S512x256) ![0, 0] S512x256.size inb_S512x256_S512x256_0_0).toLoadRect (View.loadsAt_vmem h_S512x256))
  Prog.lift (.store My (Rect.unit (s := S512x256) ![0, 0] S512x256.size inb_S512x256_S512x256_0_0) (k0_pay1 h o) Finset.univ (View.stores_vmem_bits_univ h_S512x256 rfl) (.inl rfl))

/-- The entry handshake: one signal to each of the seven peers, a wait for seven. -/
def barP (c : Dev nD) : Prog (TpuEff nD τ sig (Elt F) Λ₀ .tc) PUnit := do
  semSignalWord (⟨k0_dev1 c, k0_dev1_lt c⟩ : Dev nD) barS 1#32
  semSignalWord (⟨k0_dev2 c, k0_dev2_lt c⟩ : Dev nD) barS 1#32
  semSignalWord (⟨k0_dev3 c, k0_dev3_lt c⟩ : Dev nD) barS 1#32
  semSignalWord (⟨k0_dev4 c, k0_dev4_lt c⟩ : Dev nD) barS 1#32
  semSignalWord (⟨k0_dev5 c, k0_dev5_lt c⟩ : Dev nD) barS 1#32
  semSignalWord (⟨k0_dev6 c, k0_dev6_lt c⟩ : Dev nD) barS 1#32
  semSignalWord (⟨k0_dev7 c, k0_dev7_lt c⟩ : Dev nD) barS 1#32
  semWaitWord barS 7#32

/-- The body. -/
def bodyP : Prog (TpuEff nD τ sig (Elt F) Λ₀ .tc) PUnit := do
  let c : Dev nD ← Prog.lift .deviceId
  barP c
  dot0
  redP c
  gatP c
  dotN Mo0 Mw1
  redP c
  gatP c
  dotN Mo1 Mw2
  redP c
  gatP c
  dotF

end Cert.MlpProof
end
-- ==== Proof.Mesh.lean ====
/-
# The mesh

Thirty-two devices at the positions `(xc, yc, zc)` of a 2 × 4 × 4 mesh: the neighbours a device talks to, the offsets its
operations address in closed form, and who receives each copy.
-/
module

public import proofs.«01_k».proof.Proof.Ops

@[expose] public section

noncomputable section

namespace Cert.MlpProof

open Cert.KernelIdeal Cert.KernelIdeal.Gen
open Idealize.ShloMosaic Idealize.SL.Sem

/-! ## Positions and neighbours -/

def xc (c : Dev nD) : ℕ := (c.val % 2 + c.val % 8 / 2) % 2
def yc (c : Dev nD) : ℕ := c.val % 8 / 2
def zc (c : Dev nD) : ℕ := c.val / 8

theorem xc_lt (c : Dev nD) : xc c < 2 := Nat.mod_lt _ (by decide)
theorem yc_lt (c : Dev nD) : yc c < 4 := by unfold yc; omega
theorem zc_lt (c : Dev nD) : zc c < 4 := by
  have h : c.val < 32 := c.isLt
  unfold zc; omega

/-- The device at a position. -/
def at_ (x y z : ℕ) : Dev nD := (⟨8 * (z % 4) + 2 * (y % 4) + (x + y) % 2, by omega⟩ : Fin 32)

/-- The other device along x, and the devices `d + 1` further along y and along z. -/
def xp (c : Dev nD) : Dev nD := at_ (xc c + 1) (yc c) (zc c)
def yn (d : Fin 3) (c : Dev nD) : Dev nD := at_ (xc c) ((yc c + d.val + 1) % 4) (zc c)
def zn (d : Fin 3) (c : Dev nD) : Dev nD := at_ (xc c) (yc c) ((zc c + d.val + 1) % 4)

theorem xc_at (x y z : ℕ) (hx : x < 2) (hy : y < 4) : xc (at_ x y z) = x := by
  show ((8 * (z % 4) + 2 * (y % 4) + (x + y) % 2) % 2 + (8 * (z % 4) + 2 * (y % 4) + (x + y) % 2) % 8 / 2) % 2 = x
  omega
theorem yc_at (x y z : ℕ) (hy : y < 4) : yc (at_ x y z) = y := by
  show (8 * (z % 4) + 2 * (y % 4) + (x + y) % 2) % 8 / 2 = y
  omega
theorem zc_at (x y z : ℕ) (hz : z < 4) : zc (at_ x y z) = z := by
  show (8 * (z % 4) + 2 * (y % 4) + (x + y) % 2) / 8 = z
  omega
theorem at_pos : ∀ c : Dev nD, at_ (xc c) (yc c) (zc c) = c := by decide +kernel

@[simp] theorem xc_xp : ∀ c : Dev nD, xc (xp c) = 1 - xc c := by decide +kernel
@[simp] theorem yc_xp : ∀ c : Dev nD, yc (xp c) = yc c := by decide +kernel
@[simp] theorem zc_xp : ∀ c : Dev nD, zc (xp c) = zc c := by decide +kernel
@[simp] theorem xc_yn : ∀ (d : Fin 3) (c : Dev nD), xc (yn d c) = xc c := by decide +kernel
@[simp] theorem yc_yn : ∀ (d : Fin 3) (c : Dev nD), yc (yn d c) = (yc c + d.val + 1) % 4 := by decide +kernel
@[simp] theorem zc_yn : ∀ (d : Fin 3) (c : Dev nD), zc (yn d c) = zc c := by decide +kernel
@[simp] theorem xc_zn : ∀ (d : Fin 3) (c : Dev nD), xc (zn d c) = xc c := by decide +kernel
@[simp] theorem yc_zn : ∀ (d : Fin 3) (c : Dev nD), yc (zn d c) = yc c := by decide +kernel
@[simp] theorem zc_zn : ∀ (d : Fin 3) (c : Dev nD), zc (zn d c) = (zc c + d.val + 1) % 4 := by decide +kernel
@[simp] theorem xp_xp : ∀ c : Dev nD, xp (xp c) = c := by decide +kernel
@[simp] theorem yn_rev : ∀ (d : Fin 3) (c : Dev nD), yn d.rev (yn d c) = c := by decide +kernel
@[simp] theorem zn_rev : ∀ (d : Fin 3) (c : Dev nD), zn d.rev (zn d c) = c := by decide +kernel
@[simp] theorem yn_rev' : ∀ (d : Fin 3) (c : Dev nD), yn d (yn d.rev c) = c := by decide +kernel
@[simp] theorem zn_rev' : ∀ (d : Fin 3) (c : Dev nD), zn d (zn d.rev c) = c := by decide +kernel

/-! ## Who receives a copy -/

/-- The receiver of the copy `k` of a device, -/
def dst (k : Kd) (c : Dev nD) : Dev nD := match k with
  | .xa | .xb | .gxa => xp c
  | .yb d | .ya d | .gya d | .gyb d => yn d c
  | .zb d | .za d | .gzb d => zn d c
/-- and the sender of the copy `k` a device receives. -/
def src (k : Kd) (c : Dev nD) : Dev nD := match k with
  | .xa | .xb | .gxa => xp c
  | .yb d | .ya d | .gya d | .gyb d => yn d.rev c
  | .zb d | .za d | .gzb d => zn d.rev c

@[simp] theorem src_dst (k : Kd) (c : Dev nD) : src k (dst k c) = c := by cases k <;> simp [src, dst]
@[simp] theorem dst_src (k : Kd) (c : Dev nD) : dst k (src k c) = c := by cases k <;> simp [src, dst]

/-- A device's copy `k` against the device that receives it. -/
def dstEquiv (k : Kd) : Dev nD ≃ Dev nD := ⟨dst k, src k, src_dst k, dst_src k⟩

private theorem dv_xa : ∀ c : Dev nD, dv c .xa = xp c := by decide +kernel
private theorem dv_xb : ∀ c : Dev nD, dv c .xb = xp c := by decide +kernel
private theorem dv_gxa : ∀ c : Dev nD, dv c .gxa = xp c := by decide +kernel
private theorem dv_yb : ∀ (d : Fin 3) (c : Dev nD), dv c (.yb d) = yn d c := by decide +kernel
private theorem dv_ya : ∀ (d : Fin 3) (c : Dev nD), dv c (.ya d) = yn d c := by decide +kernel
private theorem dv_gya : ∀ (d : Fin 3) (c : Dev nD), dv c (.gya d) = yn d c := by decide +kernel
private theorem dv_gyb : ∀ (d : Fin 3) (c : Dev nD), dv c (.gyb d) = yn d c := by decide +kernel
private theorem dv_zb : ∀ (d : Fin 3) (c : Dev nD), dv c (.zb d) = zn d c := by decide +kernel
private theorem dv_za : ∀ (d : Fin 3) (c : Dev nD), dv c (.za d) = zn d c := by decide +kernel
private theorem dv_gzb : ∀ (d : Fin 3) (c : Dev nD), dv c (.gzb d) = zn d c := by decide +kernel

/-- The program's device chains compute the receivers. -/
theorem dv_eq (k : Kd) (c : Dev nD) : dv c k = dst k c := by
  cases k <;> simp only [dst, dv_xa, dv_xb, dv_gxa, dv_yb, dv_ya, dv_gya, dv_gyb, dv_zb, dv_za, dv_gzb]

/-- The peers of the entry handshake, in the program's order. -/
theorem dev1_eq : ∀ c : Dev nD, (⟨k0_dev1 c, k0_dev1_lt c⟩ : Dev nD) = xp c := by decide +kernel
theorem dev2_eq : ∀ c : Dev nD, (⟨k0_dev2 c, k0_dev2_lt c⟩ : Dev nD) = yn 0 c := by decide +kernel
theorem dev3_eq : ∀ c : Dev nD, (⟨k0_dev3 c, k0_dev3_lt c⟩ : Dev nD) = zn 0 c := by decide +kernel
theorem dev4_eq : ∀ c : Dev nD, (⟨k0_dev4 c, k0_dev4_lt c⟩ : Dev nD) = yn 1 c := by decide +kernel
theorem dev5_eq : ∀ c : Dev nD, (⟨k0_dev5 c, k0_dev5_lt c⟩ : Dev nD) = zn 1 c := by decide +kernel
theorem dev6_eq : ∀ c : Dev nD, (⟨k0_dev6 c, k0_dev6_lt c⟩ : Dev nD) = yn 2 c := by decide +kernel
theorem dev7_eq : ∀ c : Dev nD, (⟨k0_dev7 c, k0_dev7_lt c⟩ : Dev nD) = zn 2 c := by decide +kernel

/-! ## The offsets -/

/-- The first row of the parts of the left columns a device keeps along x, then along y; -/
def pxa (c : Dev nD) : ℕ := 256 * xc c
def pya (c : Dev nD) : ℕ := 256 * xc c + 64 * yc c
/-- and of the right columns, along y, then along z. -/
def pyb (c : Dev nD) : ℕ := 128 * yc c
def pzb (c : Dev nD) : ℕ := 128 * yc c + 32 * zc c

theorem off1_val : ∀ c : Dev nD, k0_off1 c = ![256 * (1 - xc c), 0] := by decide +kernel
theorem off2_val : ∀ (c : Dev nD) (d : Fin 3), k0_off2 c (BitVec.ofNat 32 (1 + d.val)) = ![128 * ((yc c + d.val + 1) % 4), 256] := by decide +kernel
theorem off3_val : ∀ c : Dev nD, k0_off3 c = ![pxa c, 0] := by decide +kernel
theorem off4_val : ∀ (c : Dev nD) (d : Fin 3), k0_off4 c (BitVec.ofNat 32 (1 + d.val)) = ![256 * xc c + 64 * ((yc c + d.val + 1) % 4), 0] := by decide +kernel
theorem off5_val : ∀ c : Dev nD, k0_off5 c = ![pyb c, 256] := by decide +kernel
theorem off6_val : ∀ (c : Dev nD) (d : Fin 3), k0_off6 c (BitVec.ofNat 32 (1 + d.val)) = ![128 * yc c + 32 * ((zc c + d.val + 1) % 4), 256] := by decide +kernel
theorem off7_val : ∀ c : Dev nD, k0_off7 c = ![pya c, 0] := by decide +kernel
theorem off8_val : ∀ c : Dev nD, k0_off8 c = ![pya c, 0] := by decide +kernel
theorem off9_val : ∀ c : Dev nD, k0_off9 c = ![pzb c, 256] := by decide +kernel
theorem off10_val : ∀ c : Dev nD, k0_off10 c = ![pzb c, 256] := by decide +kernel
theorem off11_val : ∀ (c : Dev nD) (d : Fin 3), k0_off11 c (BitVec.ofNat 32 (1 + d.val)) = ![256 * xc c + 64 * ((yc c + 3 - d.val) % 4), 0] := by decide +kernel
theorem off12_val : ∀ c : Dev nD, k0_off12 c = ![pxa c, 0] := by decide +kernel
theorem off13_val : ∀ (c : Dev nD) (d : Fin 3), k0_off13 c (BitVec.ofNat 32 (1 + d.val)) = ![128 * yc c + 32 * ((zc c + 3 - d.val) % 4), 256] := by decide +kernel
theorem off14_val : ∀ c : Dev nD, k0_off14 c = ![pyb c, 256] := by decide +kernel
theorem off15_val : ∀ (c : Dev nD) (d : Fin 3), k0_off15 c (BitVec.ofNat 32 (1 + d.val)) = ![128 * ((yc c + 3 - d.val) % 4), 256] := by decide +kernel

/-! ## Rectangles of a matrix -/

/-- The rows `r … r + n - 1` and columns `j … j + w - 1` of a matrix. -/
def bx {d : Fin 2 → ℕ} (r n j w : ℕ) : Finset (Shape.Idx ⟨2, d⟩) :=
  Finset.univ.filter fun i => (r ≤ (i 0).val ∧ (i 0).val < r + n) ∧ (j ≤ (i 1).val ∧ (i 1).val < j + w)

theorem mem_bx {d : Fin 2 → ℕ} {r n j w : ℕ} {i : Shape.Idx ⟨2, d⟩} :
    i ∈ bx r n j w ↔ (r ≤ (i 0).val ∧ (i 0).val < r + n) ∧ (j ≤ (i 1).val ∧ (i 1).val < j + w) := by
  simp [bx]

theorem set_unit {d : Fin 2 → ℕ} (off size : Fin 2 → ℕ) (inb : ∀ a, off a + size a ≤ (⟨2, d⟩ : Shape).size a) :
    (Rect.unit (s := ⟨2, d⟩) off size inb).set = bx (off 0) (size 0) (off 1) (size 1) := by
  ext i
  rw [Rect.mem_set_unit, mem_bx]
  exact Fin.forall_fin_two

theorem bx_univ {d : Fin 2 → ℕ} : (bx 0 (d 0) 0 (d 1) : Finset (Shape.Idx ⟨2, d⟩)) = Finset.univ := by
  ext i
  have h0 := (i 0).isLt
  have h1 := (i 1).isLt
  simp only [mem_bx, Finset.mem_univ, iff_true]
  exact ⟨⟨Nat.zero_le _, by rw [Nat.zero_add]; exact h0⟩, Nat.zero_le _, by rw [Nat.zero_add]; exact h1⟩

/-- The index at row `r` and column `j` of a square buffer. -/
def ix (r j : ℕ) : S512x512.Idx := fun a => match a with
  | ⟨0, _⟩ => (⟨r % 512, Nat.mod_lt _ (by decide)⟩ : Fin 512)
  | ⟨1, _⟩ => (⟨j % 512, Nat.mod_lt _ (by decide)⟩ : Fin 512)

theorem ix_eta (i : S512x512.Idx) : ix (i 0).val (i 1).val = i := by
  funext a
  have h0 : (i 0).val < 512 := (i 0).isLt
  have h1 : (i 1).val < 512 := (i 1).isLt
  match a with
  | ⟨0, _⟩ => exact Fin.ext (Nat.mod_eq_of_lt h0)
  | ⟨1, _⟩ => exact Fin.ext (Nat.mod_eq_of_lt h1)

theorem ix_congr {r r' j j' : ℕ} (h : r = r') (h' : j = j') : ix r j = ix r' j' := by rw [h, h']

theorem eq_ix {i : S512x512.Idx} {r j : ℕ} (h : (i 0).val = r) (h' : (i 1).val = j) : i = ix r j := by
  rw [← ix_eta i, h, h']

end Cert.MlpProof
end
-- ==== Proof.Data.lean ====
/-
# What every buffer holds

The contents of the accumulator through a layer's reduction, of the landing buffers, and of the gathered activation, for
any float values, from the contents `A c` of the accumulator of each device `c` when the layer starts.
-/
module

public import proofs.«01_k».proof.Proof.Mesh

@[expose] public section

noncomputable section

namespace Cert.MlpProof

open Cert.KernelIdeal Cert.KernelIdeal.Gen
open Idealize.ShloMosaic Idealize.SL.Sem
open Idealize.ShloMosaic.TcCoe

variable {F : FTy → Type} [FloatOps F]

/-- A device's accumulator. -/
abbrev Acc (F : FTy → Type) : Type := S512x512.Idx → Elt F .f32
abbrev Act (F : FTy → Type) : Type := S512x512.Idx → Elt F .bf16

section Layer
variable (A : Dev nD → Acc F)

/-- The left columns: summed over x; then over y; then over z. -/
def a1 (c : Dev nD) : Acc F := addf (A c : FVec F S512x512 .f32) (A (xp c))
def a2 (c : Dev nD) : Acc F := addf (addf (addf (a1 A c : FVec F S512x512 .f32) (a1 A (yn 0 c))) (a1 A (yn 1 c))) (a1 A (yn 2 c))
def a3 (c : Dev nD) : Acc F := addf (addf (addf (a2 A c : FVec F S512x512 .f32) (a2 A (zn 0 c))) (a2 A (zn 1 c))) (a2 A (zn 2 c))
/-- The right columns: summed over y; then over z; then over x. -/
def b1 (c : Dev nD) : Acc F := addf (addf (addf (A c : FVec F S512x512 .f32) (A (yn 0 c))) (A (yn 1 c))) (A (yn 2 c))
def b2 (c : Dev nD) : Acc F := addf (addf (addf (b1 A c : FVec F S512x512 .f32) (b1 A (zn 0 c))) (b1 A (zn 1 c))) (b1 A (zn 2 c))
def b3 (c : Dev nD) : Acc F := addf (b2 A c : FVec F S512x512 .f32) (b2 A (xp c))

/-- Below by zero, narrowed. -/
def rl (v : Acc F) : Act F :=
  truncf .bf16 (maximumf (v : FVec F S512x512 .f32) (broadcast S512x512 (Scalar.ofBits .f32 0x00000000#32 : F .f32))) bitsLt_bf16_f32

/-- The device that reduces row `r` of the left columns, among those at `c`'s z; and of the right columns, at `c`'s x. -/
def ownA (c : Dev nD) (r : ℕ) : Dev nD := at_ (r / 256) (r % 256 / 64) (zc c)
def ownB (c : Dev nD) (r : ℕ) : Dev nD := at_ (xc c) (r / 128) (r % 128 / 32)

/-- The gathered activation of device `c`: each element from the device that reduced it. -/
def Hm (c : Dev nD) : Act F := fun i =>
  if (i 1).val < 256 then rl (a3 A (ownA c (i 0).val)) i else rl (b3 A (ownB c (i 0).val)) i

/-- The number of a slot, of three. -/
def f3 (n : ℕ) : Fin 3 := ⟨n % 3, Nat.mod_lt _ (by decide)⟩

/-- The landing buffers of device `c`: slot `s` holds what the device `s + 1` further along sent. -/
def Rxa (c : Dev nD) : S256x256.Idx → Elt F .f32 := fun i => A (xp c) (ix (pxa c + (i 0).val) (i 1).val)
def Rya (c : Dev nD) : S192x256.Idx → Elt F .f32 := fun i => a1 A (yn (f3 ((i 0).val / 64)) c) (ix (pya c + (i 0).val % 64) (i 1).val)
def Rza (c : Dev nD) : S192x256.Idx → Elt F .f32 := fun i => a2 A (zn (f3 ((i 0).val / 64)) c) (ix (pya c + (i 0).val % 64) (i 1).val)
def Ryb (c : Dev nD) : S384x256.Idx → Elt F .f32 := fun i => A (yn (f3 ((i 0).val / 128)) c) (ix (pyb c + (i 0).val % 128) (256 + (i 1).val))
def Rzb (c : Dev nD) : S96x256.Idx → Elt F .f32 := fun i => b1 A (zn (f3 ((i 0).val / 32)) c) (ix (pzb c + (i 0).val % 32) (256 + (i 1).val))
def Rxb (c : Dev nD) : S32x256.Idx → Elt F .f32 := fun i => b2 A (xp c) (ix (pzb c + (i 0).val) (256 + (i 1).val))

end Layer

/-! ## Moving one rectangle onto another -/

/-- A square buffer's rectangle, element by element. -/
theorem emb_ix (off size : Fin 2 → ℕ) (inb : ∀ a, off a + size a ≤ S512x512.size a)
    (x : (Rect.unit (s := S512x512) off size inb).shape.Idx) :
    (Rect.unit (s := S512x512) off size inb).emb x = ix (off 0 + (x 0).val) (off 1 + (x 1).val) :=
  eq_ix (by rw [Rect.emb_apply]; show off 0 + 1 * (x 0).val = _; omega) (by rw [Rect.emb_apply]; show off 1 + 1 * (x 1).val = _; omega)

end Cert.MlpProof
end
-- ==== Proof.Sched.lean ====
/-
# The protocol

Every copy `k` of a layer is counted on one semaphore of its sender and one of its receiver; round `l` of those cells is
layer `l`. What a copy's landing hands its receiver is the landed data together with the sender's own landing buffers that
the receiver will send into next (`fb`), so that nobody writes into a buffer before its owner has finished reading it. The
runtime's barrier semaphore hands out the landing buffers of the first layer.
-/
module

public import proofs.«01_k».proof.Proof.Data
public import Idealize.ShloMosaic.Lib.Pipeline.Launch
public import Idealize.ShloMosaic.Lib.Pipeline.Kit
public import Idealize.ShloMosaic.Lib.Tactic

@[expose] public section

noncomputable section

namespace Cert.MlpProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 7)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The cells -/

abbrev sCell (k : Kd) (c : Dev nD) : GSem nD τ sig := ((c : Thread nD τ), .dma (sSem k))
abbrev rCell (k : Kd) (c : Dev nD) : GSem nD τ sig := ((c : Thread nD τ), .dma (rSem k))
abbrev barCell (c : Dev nD) : GSem nD τ sig := ((c : Thread nD τ), .reg barS)

/-- All copies of a layer, in the order they are sent. -/
def ord : List Kd := [.xa, .yb 0, .yb 1, .yb 2, .ya 0, .ya 1, .ya 2, .zb 0, .zb 1, .zb 2, .za 0, .za 1, .za 2, .xb,
  .gya 0, .gya 1, .gya 2, .gzb 0, .gzb 1, .gzb 2, .gxa, .gyb 0, .gyb 1, .gyb 2]

/-- Which copy a semaphore counts, and whether at its receiver. -/
def decN (j : ℕ) : Option (Bool × Kd) :=
  match ord.find? (fun k => (sNum k).val = j) with
  | some k => some (false, k)
  | none => match ord.find? (fun k => (rNum k).val = j) with
    | some k => some (true, k)
    | none => none
def dec : SemLoc sig → Option (Bool × Kd)
  | .reg _ => none
  | .dma q => if 8 ≤ q.val then decN (q.val - 8) else none

theorem dec_s (k : Kd) : dec (.dma (sSem k)) = some (false, k) := by
  cases k with
  | xa => decide
  | xb => decide
  | gxa => decide
  | yb d => revert d; decide
  | ya d => revert d; decide
  | zb d => revert d; decide
  | za d => revert d; decide
  | gya d => revert d; decide
  | gzb d => revert d; decide
  | gyb d => revert d; decide
theorem dec_r (k : Kd) : dec (.dma (rSem k)) = some (true, k) := by
  cases k with
  | xa => decide
  | xb => decide
  | gxa => decide
  | yb d => revert d; decide
  | ya d => revert d; decide
  | zb d => revert d; decide
  | za d => revert d; decide
  | gya d => revert d; decide
  | gzb d => revert d; decide
  | gyb d => revert d; decide

/-- What a copy counts: a number for its shape and element type, wherever it lands. -/
def cr : Kd → ℕ
  | .xa => RefSig.tileCredit S256x256 .f32
  | .yb _ => RefSig.tileCredit S128x256 .f32
  | .ya _ => RefSig.tileCredit S64x256 .f32
  | .zb _ => RefSig.tileCredit S32x256 .f32
  | .za _ => RefSig.tileCredit S64x256 .f32
  | .xb => RefSig.tileCredit S32x256 .f32
  | .gya _ => RefSig.tileCredit S64x256 .bf16
  | .gzb _ => RefSig.tileCredit S32x256 .bf16
  | .gxa => RefSig.tileCredit S256x256 .bf16
  | .gyb _ => RefSig.tileCredit S128x256 .bf16
theorem cr_pos (k : Kd) : 0 < cr k := by
  cases k <;> exact RefSig.tileCredit_pos _ _ (by decide)
theorem credit_eq {sp : Space} {s : Shape} {e : EltTy} (v : View sig .tc sp s e) : v.dmaCredit = RefSig.tileCredit s e := rfl

/-! ## Resources -/

/-- Elements `S` of a buffer of device `c` at contents `f`. -/
def pt (b : Ref sig .tc) (c : Dev nD) (S : Finset b.ty.Idx) (q : PosShare TreeShare) (f : b.ty.Contents (Elt F)) : sProp 𝕄 :=
  ((c : Thread nD τ).loc b) ↦[S]{q} f
instance pt_storable (b : Ref sig .tc) (c : Dev nD) (S : Finset b.ty.Idx) (q : PosShare TreeShare) (f : b.ty.Contents (Elt F)) :
    BI.Storable (upEmb : UEmb _ 𝕄) (pt b c S q f) := by unfold pt; infer_instance

/-- A third of the ownership. -/
def thd (d : Fin 3) : PosShare TreeShare := match d with
  | 0 => fullShare.left | 1 => fullShare.right.left | 2 => fullShare.right.right

section Contents
variable (A : Dev nD → Acc F)

abbrev ptA (c : Dev nD) (S : Finset S512x512.Idx) (q : PosShare TreeShare) (f : Acc F) : sProp 𝕄 := pt cc0_scratch0 c S q f
abbrev ptH (c : Dev nD) (S : Finset S512x512.Idx) (q : PosShare TreeShare) (f : Act F) : sProp 𝕄 := pt cc0_scratch1 c S q f

/-- What the copy `k` of device `c` reads. -/
def S (k : Kd) (c : Dev nD) : sProp 𝕄 := match k with
  | .xa => ptA c (bx (256 * (1 - xc c)) 256 0 256) fullShare (A c)
  | .yb d => ptA c (bx (128 * ((yc c + d.val + 1) % 4)) 128 256 256) fullShare (A c)
  | .ya d => ptA c (bx (256 * xc c + 64 * ((yc c + d.val + 1) % 4)) 64 0 256) fullShare (a1 A c)
  | .zb d => ptA c (bx (128 * yc c + 32 * ((zc c + d.val + 1) % 4)) 32 256 256) fullShare (b1 A c)
  | .za d => ptA c (bx (pya c) 64 0 256) (thd d) (a2 A c)
  | .xb => ptA c (bx (pzb c) 32 256 256) fullShare (b2 A c)
  | .gya d => ptH c (bx (pya c) 64 0 256) (thd d) (Hm A c)
  | .gzb d => ptH c (bx (pzb c) 32 256 256) (thd d) (Hm A c)
  | .gxa => ptH c (bx (pxa c) 256 0 256) fullShare (Hm A c)
  | .gyb d => ptH c (bx (pyb c) 128 256 256) (thd d) (Hm A c)

/-- What it leaves at its receiver `c`. -/
def R (k : Kd) (c : Dev nD) : sProp 𝕄 := match k with
  | .xa => pt cc0_scratch2 c (bx 0 256 0 256 : Finset S256x256.Idx) fullShare (Rxa A c)
  | .yb d => pt cc0_scratch5 c (bx (128 * d.rev.val) 128 0 256 : Finset S384x256.Idx) fullShare (Ryb A c)
  | .ya d => pt cc0_scratch3 c (bx (64 * d.rev.val) 64 0 256 : Finset S192x256.Idx) fullShare (Rya A c)
  | .zb d => pt cc0_scratch6 c (bx (32 * d.rev.val) 32 0 256 : Finset S96x256.Idx) fullShare (Rzb A c)
  | .za d => pt cc0_scratch4 c (bx (64 * d.rev.val) 64 0 256 : Finset S192x256.Idx) fullShare (Rza A c)
  | .xb => pt cc0_scratch7 c (bx 0 32 0 256 : Finset S32x256.Idx) fullShare (Rxb A c)
  | .gya d => ptH c (bx (256 * xc c + 64 * ((yc c + 3 - d.val) % 4)) 64 0 256) fullShare (Hm A c)
  | .gzb d => ptH c (bx (128 * yc c + 32 * ((zc c + 3 - d.val) % 4)) 32 256 256) fullShare (Hm A c)
  | .gxa => ptH c (bx (256 * (1 - xc c)) 256 0 256) fullShare (Hm A c)
  | .gyb d => ptH c (bx (128 * ((yc c + 3 - d.val) % 4)) 128 256 256) fullShare (Hm A c)

instance S_storable (k : Kd) (c : Dev nD) : BI.Storable (upEmb : UEmb _ 𝕄) (S A k c) := by
  cases k <;> (dsimp only [S]; infer_instance)
instance R_storable (k : Kd) (c : Dev nD) : BI.Storable (upEmb : UEmb _ 𝕄) (R A k c) := by
  cases k <;> (dsimp only [R]; infer_instance)
end Contents

/-- The place the copy `k` lands in at its receiver `c`, whatever it holds. -/
def D (k : Kd) (c : Dev nD) : sProp 𝕄 := match k with
  | .xa => iprop(∃ f, pt cc0_scratch2 c (bx 0 256 0 256 : Finset S256x256.Idx) fullShare f)
  | .yb d => iprop(∃ f, pt cc0_scratch5 c (bx (128 * d.rev.val) 128 0 256 : Finset S384x256.Idx) fullShare f)
  | .ya d => iprop(∃ f, pt cc0_scratch3 c (bx (64 * d.rev.val) 64 0 256 : Finset S192x256.Idx) fullShare f)
  | .zb d => iprop(∃ f, pt cc0_scratch6 c (bx (32 * d.rev.val) 32 0 256 : Finset S96x256.Idx) fullShare f)
  | .za d => iprop(∃ f, pt cc0_scratch4 c (bx (64 * d.rev.val) 64 0 256 : Finset S192x256.Idx) fullShare f)
  | .xb => iprop(∃ f, pt cc0_scratch7 c (bx 0 32 0 256 : Finset S32x256.Idx) fullShare f)
  | .gya d => iprop(∃ f, ptH c (bx (256 * xc c + 64 * ((yc c + 3 - d.val) % 4)) 64 0 256) fullShare f)
  | .gzb d => iprop(∃ f, ptH c (bx (128 * yc c + 32 * ((zc c + 3 - d.val) % 4)) 32 256 256) fullShare f)
  | .gxa => iprop(∃ f, ptH c (bx (256 * (1 - xc c)) 256 0 256) fullShare f)
  | .gyb d => iprop(∃ f, ptH c (bx (128 * ((yc c + 3 - d.val) % 4)) 128 256 256) fullShare f)

instance D_storable (k : Kd) (c : Dev nD) : BI.Storable (upEmb : UEmb _ 𝕄) (D (F := F) k c) := by
  cases k <;> (dsimp only [D]; infer_instance)

theorem R_D (A : Dev nD → Acc F) (k : Kd) (c : Dev nD) : R A k c ⊢ D k c := by
  cases k <;> (dsimp only [R, D]; iintro H; iexists _; iexact H)

/-- The right to send the copy `k` to device `n` in layer `l`. -/
def E (k : Kd) (l : ℕ) (n : Dev nD) : sProp 𝕄 := iprop(D k n ∗ reached ER (rCell k n) l)
instance E_storable (k : Kd) (l : ℕ) (n : Dev nD) : BI.Storable (upEmb : UEmb _ 𝕄) (E (F := F) k l n) := by
  unfold E; infer_instance

/-- What the copy `k` hands its receiver `c` besides the data: rights to send to its sender. -/
def fb (k : Kd) (l : ℕ) (c : Dev nD) : sProp 𝕄 := match k with
  | .xa => E .gxa l (xp c)
  | .yb d => E (.gyb d.rev) l (yn d.rev c)
  | .ya d => E (.gya d.rev) l (yn d.rev c)
  | .zb d => E (.gzb d.rev) l (zn d.rev c)
  | .za _ => iprop(emp)
  | .xb => iprop(emp)
  | .gya d => if l < 2 then E (.ya d.rev) (l + 1) (yn d.rev c) else iprop(emp)
  | .gzb d => if l < 2 then iprop(E (.zb d.rev) (l + 1) (zn d.rev c) ∗ E (.za d.rev) (l + 1) (zn d.rev c)) else iprop(emp)
  | .gxa => if l < 2 then iprop(E .xa (l + 1) (xp c) ∗ E .xb (l + 1) (xp c)) else iprop(emp)
  | .gyb d => if l < 2 then E (.yb d.rev) (l + 1) (yn d.rev c) else iprop(emp)
instance fb_storable (k : Kd) (l : ℕ) (c : Dev nD) : BI.Storable (upEmb : UEmb _ 𝕄) (fb (F := F) k l c) := by
  cases k <;> dsimp only [fb] <;> (repeat' split) <;> infer_instance

/-- What the signals of the entry handshake hand device `c`: duty 0 from along x, 1 + d from the device that is `d + 1`
    before it along y, 4 + d along z. -/
def barPay (j : Fin 7) (c : Dev nD) : sProp 𝕄 := match j with
  | 0 => iprop(E .xa 0 (xp c) ∗ E .xb 0 (xp c))
  | 1 => iprop(E (.ya 2) 0 (yn 2 c) ∗ E (.yb 2) 0 (yn 2 c))
  | 2 => iprop(E (.ya 1) 0 (yn 1 c) ∗ E (.yb 1) 0 (yn 1 c))
  | 3 => iprop(E (.ya 0) 0 (yn 0 c) ∗ E (.yb 0) 0 (yn 0 c))
  | 4 => iprop(E (.zb 2) 0 (zn 2 c) ∗ E (.za 2) 0 (zn 2 c))
  | 5 => iprop(E (.zb 1) 0 (zn 1 c) ∗ E (.za 1) 0 (zn 1 c))
  | 6 => iprop(E (.zb 0) 0 (zn 0 c) ∗ E (.za 0) 0 (zn 0 c))
instance barPay_storable (j : Fin 7) (c : Dev nD) : BI.Storable (upEmb : UEmb _ 𝕄) (barPay (F := F) j c) := by
  fin_cases j <;> (dsimp only [barPay]; infer_instance)

/-! ## The schedule -/

variable (A : ℕ → Dev nD → Acc F)

def sched : Rounds.Schedule (GSem nD τ sig) (Fin 7) 𝕄 where
  duties g r := if g.1.2 = .tc then
      (match dec g.2 with
      | some _ => if r < 3 then {0} else ∅
      | none => if g.2 = .reg barS ∧ r = 0 then Finset.univ else ∅)
    else ∅
  unitless _ := False
  amount g _ _ := match dec g.2 with
    | some p => cr p.2
    | none => 1
  payload g r j := match dec g.2 with
    | some (false, k) => S (A r) k g.1.1
    | some (true, k) => iprop(R (A r) k g.1.1 ∗ fb k r g.1.1)
    | none => if g.2 = .reg barS then barPay j g.1.1 else iprop(emp)
  amount_pos g _ _ _ := by
    cases dec g.2 with
    | none => exact Nat.one_pos
    | some p => exact cr_pos p.2

instance sched_storable (g : GSem nD τ sig) (r : ℕ) (j : Fin 7) : BI.Storable (upEmb : UEmb _ 𝕄) ((sched A).payload g r j) := by
  dsimp only [sched]
  (repeat' split) <;> infer_instance

section Facts
variable (k : Kd) (c : Dev nD)

theorem duties_s {l : ℕ} (h : l < 3) : (sched A).duties (sCell k c) l = {0} := by
  dsimp only [sched]; rw [if_pos rfl, dec_s]; exact if_pos h
theorem duties_r {l : ℕ} (h : l < 3) : (sched A).duties (rCell k c) l = {0} := by
  dsimp only [sched]; rw [if_pos rfl, dec_r]; exact if_pos h
theorem duties_bar : (sched A).duties (barCell c) 0 = Finset.univ := by
  dsimp only [sched]; rw [if_pos rfl]; exact if_pos ⟨rfl, rfl⟩
theorem duties_later (g : GSem nD τ sig) : ∀ r, 3 ≤ r → (sched A).duties g r = ∅ := fun r hr => by
  dsimp only [sched]
  split
  · split
    · exact if_neg (by omega)
    · exact if_neg (by omega)
  · rfl
theorem duties_bar_later : ∀ r, 1 ≤ r → (sched A).duties (barCell c) r = ∅ := fun r hr => by
  dsimp only [sched]; rw [if_pos rfl]; exact if_neg (by omega)
theorem duties_none (j : Fin 62) (h : decN j.val = none) (r : ℕ) : (sched A).duties ((c : Thread nD τ), .dma (own j)) r = ∅ := by
  have h' : dec (.dma (own j)) = none := by
    show (if 8 ≤ 8 + j.val then decN (8 + j.val - 8) else none) = none
    rw [if_pos (by omega), Nat.add_sub_cancel_left, h]
  dsimp only [sched]; rw [if_pos rfl, h']; exact if_neg (fun h => by cases h.1)

theorem amount_s (l : ℕ) (j : Fin 7) : (sched A).amount (sCell k c) l j = cr k := by dsimp only [sched]; rw [dec_s]
theorem amount_r (l : ℕ) (j : Fin 7) : (sched A).amount (rCell k c) l j = cr k := by dsimp only [sched]; rw [dec_r]
theorem amount_bar (l : ℕ) (j : Fin 7) : (sched A).amount (barCell c) l j = 1 := rfl

theorem expect_s {l : ℕ} (h : l < 3) : (sched A).expect (sCell k c) l = cr k := by
  unfold Schedule.expect Schedule.amountOf; rw [duties_s A k c h, Finset.sum_singleton, amount_s]
theorem expect_r {l : ℕ} (h : l < 3) : (sched A).expect (rCell k c) l = cr k := by
  unfold Schedule.expect Schedule.amountOf; rw [duties_r A k c h, Finset.sum_singleton, amount_r]
theorem expect_bar : (sched A).expect (barCell c) 0 = 7 := by
  unfold Schedule.expect Schedule.amountOf
  rw [duties_bar, Finset.sum_congr rfl fun j _ => amount_bar A c 0 j]; rfl

theorem payload_s (l : ℕ) (j : Fin 7) : (sched A).payload (sCell k c) l j = S (A l) k c := by dsimp only [sched]; rw [dec_s]
theorem payload_r (l : ℕ) (j : Fin 7) : (sched A).payload (rCell k c) l j = iprop(R (A l) k c ∗ fb k l c) := by
  dsimp only [sched]; rw [dec_r]
theorem payload_bar (l : ℕ) (j : Fin 7) : (sched A).payload (barCell c) l j = barPay j c := by
  show (if (SemLoc.reg barS : SemLoc sig) = .reg barS then barPay j c else iprop(emp)) = _
  exact if_pos rfl

theorem rest_s {l : ℕ} (h : l < 3) : bigSep ((sched A).duties (sCell k c) l \ ∅) (fun j => (sched A).payload (sCell k c) l j) = S (A l) k c := by
  rw [Finset.sdiff_empty, duties_s A k c h, bigSep_singleton, payload_s]
theorem rest_r {l : ℕ} (h : l < 3) : bigSep ((sched A).duties (rCell k c) l \ ∅) (fun j => (sched A).payload (rCell k c) l j)
    = iprop(R (A l) k c ∗ fb k l c) := by
  rw [Finset.sdiff_empty, duties_r A k c h, bigSep_singleton, payload_r]
theorem rest_bar : bigSep ((sched A).duties (barCell c) 0 \ ∅) (fun j => (sched A).payload (barCell c) 0 j)
    = iprop(barPay 0 c ∗ barPay 1 c ∗ barPay 2 c ∗ barPay 3 c ∗ barPay 4 c ∗ barPay 5 c ∗ barPay 6 c) := by
  rw [Finset.sdiff_empty, duties_bar, bigSep_univ_eq_bigSepL [0, 1, 2, 3, 4, 5, 6] (by decide) (by decide)]
  simp only [bigSepL_cons_cons, bigSepL_singleton, payload_bar]
  rfl
end Facts

/-! ## Levels -/

/-- The order of the copies within a layer: every one is waited for while only later ones are owed. -/
def cls : Kd → ℕ
  | .xa => 0 | .yb _ => 1 | .ya _ => 2 | .zb _ => 3 | .za _ => 4 | .xb => 5 | .gya _ => 6 | .gzb _ => 7 | .gxa => 8 | .gyb _ => 9

def L (g : GSem nD τ sig) : Finset ℕ := if g.1.2 = .tc then Finset.range 3 else ∅
def lv (g : GSem nD τ sig) (l : ℕ) : ℕ := match dec g.2 with
  | some (true, k) => 2 + 10 * l + cls k
  | some (false, _) => 0
  | none => if g.2 = .reg barS then 1 else 0

theorem L_of_ne (g : GSem nD τ sig) (h : g.1.2 ≠ .tc) : L g = ∅ := if_neg h
theorem L_tc (c : Dev nD) (sm : SemLoc sig) : L ((c : Thread nD τ), sm) = Finset.range 3 := if_pos rfl
theorem lv_s (k : Kd) (c : Dev nD) (l : ℕ) : lv (sCell k c) l = 0 := by unfold lv; rw [dec_s]
theorem lv_r (k : Kd) (c : Dev nD) (l : ℕ) : lv (rCell k c) l = 2 + 10 * l + cls k := by unfold lv; rw [dec_r]
theorem lv_bar (c : Dev nD) (l : ℕ) : lv (barCell c) l = 1 := by
  show (if (SemLoc.reg barS : SemLoc sig) = .reg barS then 1 else 0) = 1
  exact if_pos rfl

/-- What is owed lies above level `v`. -/
def Ab (v : ℕ) (O : CellTallies nD τ sig ℕ) : Prop := ∀ g l, 0 < O g l → l ∈ L g ∧ v < lv g l

theorem Ab_zero (v : ℕ) : Ab v 0 := fun g l h => absurd h (Nat.lt_irrefl 0)
theorem Ab_mono {v v' : ℕ} (h : v ≤ v') {O : CellTallies nD τ sig ℕ} (hO : Ab v' O) : Ab v O :=
  fun g l hg => ⟨(hO g l hg).1, Nat.lt_of_le_of_lt h (hO g l hg).2⟩
theorem Ab_add {v : ℕ} {O : CellTallies nD τ sig ℕ} {g : GSem nD τ sig} {l n : ℕ} (hO : Ab v O) (hl : l ∈ L g) (hv : v < lv g l) :
    Ab v (O + tallyAt g l n) := fun g' l' h => by
  rw [Pi.add_apply, Finsupp.add_apply, tallyAt_apply] at h
  by_cases hh : g' = g ∧ l' = l
  · rw [hh.1, hh.2]; exact ⟨hl, hv⟩
  · rw [if_neg hh, Nat.add_zero] at h; exact hO g' l' h

/-- A wait below everything owed. -/
theorem mayWait {v : ℕ} {O : CellTallies nD τ sig ℕ} (hO : Ab v O) (c : Dev nD) (sm : SemLoc sig) (l : ℕ) (hl : l < 3)
    (hv : lv ((c : Thread nD τ), sm) l ≤ v) : (levAts L lv : sProp 𝕄) ⊢ MayWait (c : Thread nD τ) sm l O :=
  MayOwe.of_cut (L := L) (lev := lv) v
    (fun p hp => by rw [Finset.mem_singleton.mp hp, L_tc]; exact Finset.mem_range.mpr hl)
    (fun g l' hg => (hO g l' hg).1)
    (fun p hp => by rw [Finset.mem_singleton.mp hp]; exact hv)
    (fun g l' hg => (hO g l' hg).2)

/-- What device `c` still owes for the copies `ks` of layer `l`, on top of `O`. -/
def oweK (c : Dev nD) (l : ℕ) : List Kd → CellTallies nD τ sig ℕ → CellTallies nD τ sig ℕ
  | [], O => O
  | k :: ks, O => oweK c l ks O + tallyAt (rCell k (dst k c)) l (cr k)

theorem Ab_oweK (c : Dev nD) {l v : ℕ} (hl : l < 3) {O : CellTallies nD τ sig ℕ} (hO : Ab v O) :
    ∀ ks : List Kd, (∀ k ∈ ks, v < 2 + 10 * l + cls k) → Ab v (oweK c l ks O)
  | [], _ => hO
  | k :: ks, h => Ab_add (Ab_oweK c hl hO ks fun k' hk' => h k' (List.mem_cons_of_mem _ hk'))
      (by rw [L_tc]; exact Finset.mem_range.mpr hl) (by rw [lv_r]; exact h k List.mem_cons_self)

end Cert.MlpProof
end
-- ==== Proof.Steps.lean ====
/-
# One copy, and the waits for it

The protocol's rules for a copy `k` of layer `l` on any device: sending it, waiting for it to have left, and waiting for
the one the device receives. Each copy's own part is only that the data it carries are what the protocol says its receiver
holds.
-/
module

public import proofs.«01_k».proof.Proof.Sched

@[expose] public section

noncomputable section

namespace Cert.MlpProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- The weakest precondition of a part of the body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What a part ensures, used at the head of a program. -/
theorem step {c : Dev nD} {p : Prog (TpuEff nD τ sig (Elt F) Λ₀ .tc) PUnit} {P Q : sProp 𝕄} (h : P ⊢ WP c p (fun _ => Q))
    {α : Type} {K : PUnit → Prog (TpuEff nD τ sig (Elt F) Λ₀ .tc) α} {Φ : α → sProp 𝕄} :
    P ⊢ iprop((Q -∗ WP c (K ⟨⟩) Φ) -∗ WP c (p >>= K) Φ) := by
  unfold WP
  rw [wp_bind]
  iintro HP Hk
  ihave H := h $$ HP
  iapply (wp_wand frame (wpE (defs₀ (F := F)) 𝒱₀ (c : Thread nD τ) none) Set.univ) $$ H
  iintro %a HQ
  iapply Hk $$ HQ

/-! ## The cells' invariants -/

/-- The semaphores of a device the protocol runs on: the kernel's own and the runtime's barrier. -/
def csem (j : Fin 63) : SemLoc sig := if h : j.val < 62 then .dma (own ⟨j.val, h⟩) else .reg barS
abbrev kcell (cj : Dev nD × Fin 63) : GSem nD τ sig := ((cj.1 : Thread nD τ), csem cj.2)
def ownIx (j : Fin 62) : Fin 63 := ⟨j.val, by omega⟩
def barIx : Fin 63 := ⟨62, by decide⟩
theorem csem_own (j : Fin 62) : csem (ownIx j) = .dma (own j) := dif_pos j.isLt
theorem csem_bar : csem barIx = .reg barS := dif_neg (by decide)

variable (A : ℕ → Dev nD → Acc F) (K : Dev nD × Fin 63 → ℕ)

/-- The level facts. -/
def Lev : sProp 𝕄 := levAts L lv
instance Lev_persistent : BI.Persistent (Lev (F := F)) := by unfold Lev; infer_instance
theorem Lev_wait {v : ℕ} {O : CellTallies nD τ sig ℕ} (hO : Ab v O) (c : Dev nD) (sm : SemLoc sig) (l : ℕ) (hl : l < 3)
    (hv : lv ((c : Thread nD τ), sm) l ≤ v) : Lev (F := F) ⊢ MayWait (c : Thread nD τ) sm l O :=
  mayWait hO c sm l hl hv

/-- The invariants of all cells and the level facts. -/
def Ctx : sProp 𝕄 :=
  iprop((bigSep Finset.univ fun cj : Dev nD × Fin 63 => cellInv ER (sched A) (K cj) (kcell cj)) ∗ Lev)
instance Ctx_persistent : BI.Persistent (Ctx A K) := by unfold Ctx; infer_instance

theorem invs_elim (c : Dev nD) (j : Fin 63) :
    (bigSep Finset.univ fun cj : Dev nD × Fin 63 => (cellInv ER (sched A) (K cj) (kcell cj) : sProp 𝕄))
      ⊢ cellInv ER (sched A) (K (c, j)) (kcell (c, j)) :=
  bigSep_elim (Finset.mem_univ (c, j))
theorem ctx_inv (c : Dev nD) (j : Fin 63) : Ctx A K ⊢ cellInv ER (sched A) (K (c, j)) (kcell (c, j)) := by
  unfold Ctx
  iintro ⟨H, -⟩
  iapply (invs_elim A K c j) $$ H
theorem ctx_own (c : Dev nD) (j : Fin 62) : Ctx A K ⊢ cellInv ER (sched A) (K (c, ownIx j)) ((c : Thread nD τ), .dma (own j)) := by
  have h := ctx_inv A K c (ownIx j)
  rwa [show kcell (c, ownIx j) = ((c : Thread nD τ), .dma (own j)) from by unfold kcell; rw [csem_own]] at h
theorem ctx_s (k : Kd) (c : Dev nD) : Ctx A K ⊢ cellInv ER (sched A) (K (c, ownIx (sNum k))) (sCell k c) := ctx_own A K c (sNum k)
theorem ctx_r (k : Kd) (c : Dev nD) : Ctx A K ⊢ cellInv ER (sched A) (K (c, ownIx (rNum k))) (rCell k c) := ctx_own A K c (rNum k)
theorem ctx_bar (c : Dev nD) : Ctx A K ⊢ cellInv ER (sched A) (K (c, barIx)) (barCell c) := by
  have h := ctx_inv A K c barIx
  rwa [show kcell (c, barIx) = barCell c from by unfold kcell; rw [csem_bar]] at h
theorem ctx_lev : Ctx A K ⊢ Lev := by
  unfold Ctx
  iintro ⟨-, Hx⟩
  iexact Hx

set_option maxRecDepth 20000 in
theorem ctx_wait {v : ℕ} {O : CellTallies nD τ sig ℕ} (hO : Ab v O) (c : Dev nD) (sm : SemLoc sig) (l : ℕ) (hl : l < 3)
    (hv : lv ((c : Thread nD τ), sm) l ≤ v) : Ctx A K ⊢ MayWait (c : Thread nD τ) sm l O :=
  (show Ctx A K ⊢ Lev from @ctx_lev F _ A K).trans (Lev_wait hO c sm l hl hv)

/-! ## The tokens of a copy -/

/-- Before a copy is sent: the two duties it pays, its sender's position, and the position and the credit of the one the
    device receives; -/
def Tok (k : Kd) (l : ℕ) (c : Dev nD) : sProp 𝕄 :=
  iprop((atPos ER (sCell k c) l ∅ 0 ∗ reached ER (sCell k c) l ∗ dutyTok ER (sCell k c) l 0 ∗ dutyTok ER (rCell k (dst k c)) l 0)
    ∗ atPos ER (rCell k c) l ∅ 0 ∗ cred (tallyAt (rCell k c) l (cr k)))
/-- while it is on its way: what waits for it to have left, and for the one to be received; -/
def MidS (k : Kd) (l : ℕ) (c : Dev nD) : sProp 𝕄 := iprop(atPos ER (sCell k c) l ∅ 0 ∗ cred (tallyAt (sCell k c) l (cr k)))
def MidR (k : Kd) (l : ℕ) (c : Dev nD) : sProp 𝕄 := iprop(atPos ER (rCell k c) l ∅ 0 ∗ cred (tallyAt (rCell k c) l (cr k)))
/-- and after the waits. -/
def Ds (k : Kd) (l : ℕ) (c : Dev nD) : sProp 𝕄 := iprop(atPos ER (sCell k c) (l + 1) ∅ 0 ∗ reached ER (sCell k c) (l + 1))
def Dr (k : Kd) (l : ℕ) (c : Dev nD) : sProp 𝕄 := iprop(atPos ER (rCell k c) (l + 1) ∅ 0 ∗ reached ER (rCell k c) (l + 1))

/-- What a device owes, whatever it has waited for. -/
def ow (c : Dev nD) (O : CellTallies nD τ sig ℕ) : sProp 𝕄 := iprop(∃ W, owes (c : Thread nD τ) O W)

/-! ## Sending -/

theorem send_core (k : Kd) (c n : Dev nD) (hn : n = dst k c) (l : ℕ) (hl : l < 3) {s : Shape} {e : EltTy}
    (src dstM : Memref sig .tc .vmem s e) {hsc : (dstM : Memref sig (Dev.tc n : Thread nD τ).2.kind .vmem s e).view.ref.isScScratch = false}
    {hsrc : src.view.WordExact} {hdst : dstM.view.WordExact}
    {hsem : DmaTarget.Typed .vmem (.dma (rSem k)) (.remote (Dev.tc n : Thread nD τ) (dstM : Memref sig (Dev.tc n : Thread nD τ).2.kind .vmem s e) (.dma (sSem k)) hsc)}
    (q : PosShare TreeShare) (fs : src.view.ty.Contents (Elt F)) (g : dstM.view.ty.Contents (Elt F))
    (hS : S (A l) k c = (src.view.loc (c : Thread nD τ) ↦[src.view.set]{q} fs : sProp 𝕄))
    (hD : D k (dst k c) = iprop(∃ fd, dstM.view.loc (dst k c : Thread nD τ) ↦[dstM.view.set]{fullShare} fd : sProp 𝕄))
    (hR : R (A l) k (dst k c) = (dstM.view.loc (dst k c : Thread nD τ) ↦[dstM.view.set]{fullShare} g : sProp 𝕄))
    (hw : ∀ x, cast (congrArg (Elt F) dstM.view.elt_eq.symm) (src.view.read (Elt F) fs x) = g (dstM.view.emb x))
    (hN : dstM.view.dmaCredit = cr k) (O : CellTallies nD τ sig ℕ) :
    iprop(Ctx A K ∗ Tok k l c ∗ S (A l) k c ∗ E k l (dst k c) ∗ fb k l (dst k c) ∗ ow c (O + tallyAt (rCell k (dst k c)) l (cr k)))
      ⊢ WP c (Prog.lift (.enqueueDma src (.remote (Dev.tc n : Thread nD τ) dstM (.dma (sSem k)) hsc) (.dma (rSem k)) hsrc hdst hsem))
          (fun _ => iprop(MidS k l c ∗ MidR k l c ∗ ow c O)) := by
  subst hn
  unfold Tok E ow
  rw [hS, hD]
  iintro ⟨#HC, ⟨⟨HatS, HrS, HtS, HtR⟩, HatR, HcR⟩, Hs, ⟨⟨%fd, Hd⟩, HrR⟩, Hfb, ⟨%W, HO⟩⟩
  ihave #HIs := (ctx_s A K k c) $$ HC
  ihave #HIr := (ctx_r A K k (dst k c)) $$ HC
  iapply (Rounds.wp_send_pointsTo_with 𝒱₀ ER (sched A) (c : Thread nD τ) none (κ₁ := K (c, ownIx (sNum k))) (κ₂ := K (dst k c, ownIx (rNum k)))
    (src := src) (dst := dstM) (r₁ := l) (r₂ := l) (d₁ := 0) (d₂ := 0) (fs := fs) (fd := fd) (q := q) (F := fb k l (dst k c))
    (sS := .dma (sSem k)) (sem := .dma (rSem k)) (c' := (dst k c : Thread nD τ))
    (by rw [duties_s A k c hl]; exact Finset.mem_singleton_self _) (by rw [duties_r A k (dst k c) hl]; exact Finset.mem_singleton_self _)
    l l (cr k) hN (amount_s A k c l 0) (amount_r A k (dst k c) l 0) O rfl (W := W)
    (Entails.of_eq (by rw [payload_s, hS]))
    (by
      rw [payload_r, hR]
      refine sep_mono_left (Entails.of_eq (pointsTo_congr fun i hi => ?_))
      obtain ⟨x, -, rfl⟩ := Finset.mem_map.mp hi
      rw [View.write_emb_of_mem _ _ (Finset.mem_univ x)]
      exact hw x)) $$ [Hs Hd Hfb HO HrS HtS HtR HrR]
  · isplitr; · iexact HIs
    isplitr; · iexact HIr
    isplitl [Hs]; · iexact Hs
    isplitl [Hd Hfb]
    · isplitl [Hd]; · iexact Hd
      iexact Hfb
    isplitl [HO]; · iexact HO
    isplitl [HtS]; · iexact HtS
    isplitl [HrS]; · iexact HrS
    isplitl [HtR]; · iexact HtR
    iexact HrR
  iintro ⟨Hc, HO⟩
  rw [wp_ret]
  imodintro
  unfold MidS MidR
  isplitl [HatS Hc]
  · isplitl [HatS] <;> iassumption
  isplitl [HatR HcR]
  · isplitl [HatR] <;> iassumption
  iexists W
  iexact HO

/-! ## Waiting -/

theorem waitS_core (k : Kd) (c : Dev nD) (l : ℕ) (hl : l < 3) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (.dma (sSem k)) (cr k) Kt)
    (O : CellTallies nD τ sig ℕ) (hO : Ab 0 O) :
    iprop(Ctx A K ∗ MidS k l c ∗ ow c O) ⊢ WP c (Prog.lift w) (fun _ => iprop(Ds k l c ∗ S (A l) k c ∗ ow c O)) := by
  unfold MidS ow
  iintro ⟨#HC, ⟨HatS, HcS⟩, ⟨%W, HO⟩⟩
  ihave #HIs := (ctx_s A K k c) $$ HC
  iapply (Rounds.wp_wait_rest_token 𝒱₀ ER (sched A) (c : Thread nD τ) none (κ := K (c, ownIx (sNum k)))
      hw (Set.mem_univ _) l (O := O) (W := W) (R := l) (m := 0) (T := ∅)
      (by rw [Nat.zero_add, expect_s A k c hl])) $$ [HcS HO HatS]
  · isplitr; · iexact HIs
    isplitl [HcS]; · iexact HcS
    isplitl [HO]; · iexact HO
    isplitr; · iapply (ctx_wait A K hO c (.dma (sSem k)) l hl (lv_s k c l).le) $$ HC
    iexact HatS
  iintro ⟨HO, HatS, Hr, Hpay⟩
  ihave Hp := (Entails.of_eq (rest_s A k c hl)) $$ Hpay
  rw [wp_ret]
  imodintro
  unfold Ds
  isplitl [HatS Hr]
  · isplitl [HatS] <;> iassumption
  isplitl [Hp]; · iexact Hp
  iexists _
  iexact HO

theorem waitR_core (k : Kd) (c : Dev nD) (l : ℕ) (hl : l < 3) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (.dma (rSem k)) (cr k) Kt)
    (O : CellTallies nD τ sig ℕ) (hO : Ab (2 + 10 * l + cls k) O) :
    iprop(Ctx A K ∗ MidR k l c ∗ ow c O) ⊢ WP c (Prog.lift w) (fun _ => iprop(Dr k l c ∗ (R (A l) k c ∗ fb k l c) ∗ ow c O)) := by
  unfold MidR ow
  iintro ⟨#HC, ⟨HatR, HcR⟩, ⟨%W, HO⟩⟩
  ihave #HIr := (ctx_r A K k c) $$ HC
  iapply (Rounds.wp_wait_rest_token 𝒱₀ ER (sched A) (c : Thread nD τ) none (κ := K (c, ownIx (rNum k)))
      hw (Set.mem_univ _) l (O := O) (W := W) (R := l) (m := 0) (T := ∅)
      (by rw [Nat.zero_add, expect_r A k c hl])) $$ [HcR HO HatR]
  · isplitr; · iexact HIr
    isplitl [HcR]; · iexact HcR
    isplitl [HO]; · iexact HO
    isplitr; · iapply (ctx_wait A K hO c (.dma (rSem k)) l hl (lv_r k c l).le) $$ HC
    iexact HatR
  iintro ⟨HO, HatR, Hr, Hpay⟩
  ihave Hp := (Entails.of_eq (rest_r A k c hl)) $$ Hpay
  rw [wp_ret]
  imodintro
  unfold Dr
  isplitl [HatR Hr]
  · isplitl [HatR] <;> iassumption
  isplitl [Hp]; · iexact Hp
  iexists _
  iexact HO

theorem wtS_ok (k : Kd) (c : Dev nD) (l : ℕ) (hl : l < 3) (O : CellTallies nD τ sig ℕ) (hO : Ab 0 O) :
    iprop(Ctx A K ∗ MidS k l c ∗ ow c O) ⊢ WP c (wtS c k) (fun _ => iprop(Ds k l c ∗ S (A l) k c ∗ ow c O)) := by
  cases k <;> exact waitS_core A K _ c l hl (fun Kt => (wpE_waitDma2_eq 𝒱₀ (c : Thread nD τ) none Set.univ Kt).trans (by rw [credit_eq]; rfl)) O hO

theorem wtR_ok (k : Kd) (c : Dev nD) (l : ℕ) (hl : l < 3) (O : CellTallies nD τ sig ℕ) (hO : Ab (2 + 10 * l + cls k) O) :
    iprop(Ctx A K ∗ MidR k l c ∗ ow c O) ⊢ WP c (wtR c k) (fun _ => iprop(Dr k l c ∗ (R (A l) k c ∗ fb k l c) ∗ ow c O)) := by
  cases k <;> exact waitR_core A K _ c l hl (fun Kt => (wpE_waitDma2_eq 𝒱₀ (c : Thread nD τ) none Set.univ Kt).trans (by rw [credit_eq]; rfl)) O hO

end Cert.MlpProof
end
-- ==== Proof.Send.lean ====
/-
# Sending each of the copies

For every copy `k`: the elements it reads and those it writes, and that what it carries is what the protocol says its
receiver holds.
-/
module

public import proofs.«01_k».proof.Proof.Steps

@[expose] public section

noncomputable section

namespace Cert.MlpProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The elements of each part -/

section Sets
variable (c : Dev nD) (d : Fin 3)

theorem set_aXa : (aXa c).view.set = bx (256 * (1 - xc c)) 256 0 256 := by
  rw [View.set_slice_whole, set_unit, off1_val]; rfl
theorem set_aYb : (aYb c d).view.set = bx (128 * ((yc c + d.val + 1) % 4)) 128 256 256 := by
  rw [View.set_slice_whole, set_unit, off2_val]; rfl
theorem set_aYa : (aYa c d).view.set = bx (256 * xc c + 64 * ((yc c + d.val + 1) % 4)) 64 0 256 := by
  rw [View.set_slice_whole, set_unit, off4_val]; rfl
theorem set_aZb : (aZb c d).view.set = bx (128 * yc c + 32 * ((zc c + d.val + 1) % 4)) 32 256 256 := by
  rw [View.set_slice_whole, set_unit, off6_val]; rfl
theorem set_aZa : (aZa c).view.set = bx (pya c) 64 0 256 := by
  rw [View.set_slice_whole, set_unit, off8_val]; rfl
theorem set_aXb : (aXb c).view.set = bx (pzb c) 32 256 256 := by
  rw [View.set_slice_whole, set_unit, off10_val]; rfl
theorem set_hYa : (hYa c).view.set = bx (pya c) 64 0 256 := by
  rw [View.set_slice_whole, set_unit, off8_val]; rfl
theorem set_hZb : (hZb c).view.set = bx (pzb c) 32 256 256 := by
  rw [View.set_slice_whole, set_unit, off10_val]; rfl
theorem set_hXa : (hXa c).view.set = bx (pxa c) 256 0 256 := by
  rw [View.set_slice_whole, set_unit, off12_val]; rfl
theorem set_hYb : (hYb c).view.set = bx (pyb c) 128 256 256 := by
  rw [View.set_slice_whole, set_unit, off14_val]; rfl
theorem set_rYa : (rYa d).view.set = bx (64 * d.val) 64 0 256 := by rw [View.set_slice_whole, set_unit]; rfl
theorem set_rZa : (rZa d).view.set = bx (64 * d.val) 64 0 256 := by rw [View.set_slice_whole, set_unit]; rfl
theorem set_rYb : (rYb d).view.set = bx (128 * d.val) 128 0 256 := by rw [View.set_slice_whole, set_unit]; rfl
theorem set_rZb : (rZb d).view.set = bx (32 * d.val) 32 0 256 := by rw [View.set_slice_whole, set_unit]; rfl
theorem set_xa : Mxa.view.set = bx 0 256 0 256 := (View.set_whole _).trans bx_univ.symm
theorem set_xb : Mxb.view.set = bx 0 32 0 256 := (View.set_whole _).trans bx_univ.symm
end Sets

/-! ## Slots, and whose part an element of the activation is -/

theorem f3_slot (w : ℕ) (s : Fin 3) (x : ℕ) (hx : x < w) : f3 ((w * s.val + x) / w) = s := by
  refine Fin.ext ?_
  show (w * s.val + x) / w % 3 = s.val
  rw [Nat.mul_add_div (by omega), Nat.div_eq_of_lt hx, Nat.add_zero, Nat.mod_eq_of_lt s.isLt]
theorem mod_slot (w : ℕ) (s : Fin 3) (x : ℕ) (hx : x < w) : (w * s.val + x) % w = x := by
  rw [Nat.mul_add_mod, Nat.mod_eq_of_lt hx]

/-- A rectangle of a square buffer whose corner is known, element by element. -/
theorem emb_at (off size : Fin 2 → ℕ) (inb : ∀ a, off a + size a ≤ S512x512.size a) (r j : ℕ) (h : off = ![r, j])
    (x : (Rect.unit (s := S512x512) off size inb).shape.Idx) :
    (Rect.unit (s := S512x512) off size inb).emb x = ix (r + (x 0).val) (j + (x 1).val) := by
  subst h; exact emb_ix _ _ _ x

theorem ix_1 (r j : ℕ) : ((ix r j) 1).val = j % 512 := rfl

theorem Hm_A (A : Dev nD → Acc F) {c c' : Dev nD} (h : zc c = zc c') (r j : ℕ) (hj : j < 256) : Hm A c (ix r j) = Hm A c' (ix r j) := by
  have hj' : ((ix r j) 1).val < 256 := by rw [ix_1]; omega
  unfold Hm ownA
  rw [if_pos hj', if_pos hj', h]
theorem Hm_B (A : Dev nD → Acc F) {c c' : Dev nD} (h : xc c = xc c') (r j : ℕ) (hj : j < 256) :
    Hm A c (ix r (256 + j)) = Hm A c' (ix r (256 + j)) := by
  have hj' : ¬ ((ix r (256 + j)) 1).val < 256 := by rw [ix_1]; omega
  unfold Hm ownB
  rw [if_neg hj', if_neg hj', h]

/-! ## The copies -/

variable (A : ℕ → Dev nD → Acc F) (K : Dev nD × Fin 63 → ℕ)

/-- What sending the copy `k` takes and what it leaves. -/
abbrev SndP (k : Kd) (c : Dev nD) (l : ℕ) (O : CellTallies nD τ sig ℕ) : sProp 𝕄 :=
  iprop(Ctx A K ∗ Tok k l c ∗ S (A l) k c ∗ E k l (dst k c) ∗ fb k l (dst k c) ∗ ow c (O + tallyAt (rCell k (dst k c)) l (cr k)))
abbrev SndQ (k : Kd) (c : Dev nD) (l : ℕ) (O : CellTallies nD τ sig ℕ) : sProp 𝕄 := iprop(MidS k l c ∗ MidR k l c ∗ ow c O)

section Snd
variable (c : Dev nD) (d : Fin 3) (l : ℕ) (hl : l < 3) (O : CellTallies nD τ sig ℕ)
include hl

theorem snd_xa : SndP A K .xa c l O ⊢ WP c (snd c (xp c) .xa) (fun _ => SndQ .xa c l O) :=
  send_core A K .xa c _ rfl l hl (aXa c) Mxa fullShare (A l c) (Rxa (A l) (xp c))
    (by rw [set_aXa]; rfl)
    (by rw [set_xa]; rfl)
    (by rw [set_xa]; rfl)
    (fun x => by
      show A l c ((Rect.unit (s := S512x512) (k0_off1 c) S256x256.size (k0_off1_inb c)).emb x) = Rxa (A l) (xp c) x
      rw [emb_at _ _ _ _ _ (off1_val c)]
      unfold Rxa pxa
      rw [xp_xp, xc_xp]
      exact congrArg (A l c) (ix_congr rfl (Nat.zero_add _)))
    rfl O
theorem snd_yb : SndP A K (.yb d) c l O ⊢ WP c (snd c (yn d c) (.yb d)) (fun _ => SndQ (.yb d) c l O) :=
  send_core A K (.yb d) c _ rfl l hl (aYb c d) (rYb d.rev) fullShare (A l c) (Ryb (A l) (yn d c))
    (by rw [set_aYb]; rfl)
    (by rw [set_rYb]; rfl)
    (by rw [set_rYb]; rfl)
    (fun x => by
      have h0 : (x 0).val < 128 := (x 0).isLt
      show A l c ((Rect.unit (s := S512x512) (k0_off2 c (BitVec.ofNat 32 (1 + d.val))) S128x256.size (k0_off2_inb c d)).emb x) = Ryb (A l) (yn d c) ((Rect.unit (s := S384x256) ![128 * d.rev.val, 0] S128x256.size (slot384 d.rev)).emb x)
      have e0 : (((Rect.unit (s := S384x256) ![128 * d.rev.val, 0] S128x256.size (slot384 d.rev)).emb x) 0).val = 128 * d.rev.val + (x 0).val := by
        rw [Rect.emb_apply]; show 128 * d.rev.val + 1 * (x 0).val = _; omega
      have e1 : (((Rect.unit (s := S384x256) ![128 * d.rev.val, 0] S128x256.size (slot384 d.rev)).emb x) 1).val = (x 1).val := by
        rw [Rect.emb_apply]; show 0 + 1 * (x 1).val = _; omega
      unfold Ryb
      rw [e0, e1, f3_slot 128 d.rev _ h0, mod_slot 128 d.rev _ h0, yn_rev, emb_at _ _ _ _ _ (off2_val c d)]
      refine congrArg (A l c) (ix_congr ?_ ?_)
      · unfold pyb; simp only [yc_yn]
      · rfl)
    rfl O
theorem snd_ya : SndP A K (.ya d) c l O ⊢ WP c (snd c (yn d c) (.ya d)) (fun _ => SndQ (.ya d) c l O) :=
  send_core A K (.ya d) c _ rfl l hl (aYa c d) (rYa d.rev) fullShare (a1 (A l) c) (Rya (A l) (yn d c))
    (by rw [set_aYa]; rfl)
    (by rw [set_rYa]; rfl)
    (by rw [set_rYa]; rfl)
    (fun x => by
      have h0 : (x 0).val < 64 := (x 0).isLt
      show a1 (A l) c ((Rect.unit (s := S512x512) (k0_off4 c (BitVec.ofNat 32 (1 + d.val))) S64x256.size (k0_off4_inb c d)).emb x) = Rya (A l) (yn d c) ((Rect.unit (s := S192x256) ![64 * d.rev.val, 0] S64x256.size (slot192 d.rev)).emb x)
      have e0 : (((Rect.unit (s := S192x256) ![64 * d.rev.val, 0] S64x256.size (slot192 d.rev)).emb x) 0).val = 64 * d.rev.val + (x 0).val := by
        rw [Rect.emb_apply]; show 64 * d.rev.val + 1 * (x 0).val = _; omega
      have e1 : (((Rect.unit (s := S192x256) ![64 * d.rev.val, 0] S64x256.size (slot192 d.rev)).emb x) 1).val = (x 1).val := by
        rw [Rect.emb_apply]; show 0 + 1 * (x 1).val = _; omega
      unfold Rya
      rw [e0, e1, f3_slot 64 d.rev _ h0, mod_slot 64 d.rev _ h0, yn_rev, emb_at _ _ _ _ _ (off4_val c d)]
      refine congrArg (a1 (A l) c) (ix_congr ?_ ?_)
      · unfold pya; simp only [xc_yn, yc_yn]
      · exact Nat.zero_add _)
    rfl O
theorem snd_zb : SndP A K (.zb d) c l O ⊢ WP c (snd c (zn d c) (.zb d)) (fun _ => SndQ (.zb d) c l O) :=
  send_core A K (.zb d) c _ rfl l hl (aZb c d) (rZb d.rev) fullShare (b1 (A l) c) (Rzb (A l) (zn d c))
    (by rw [set_aZb]; rfl)
    (by rw [set_rZb]; rfl)
    (by rw [set_rZb]; rfl)
    (fun x => by
      have h0 : (x 0).val < 32 := (x 0).isLt
      show b1 (A l) c ((Rect.unit (s := S512x512) (k0_off6 c (BitVec.ofNat 32 (1 + d.val))) S32x256.size (k0_off6_inb c d)).emb x) = Rzb (A l) (zn d c) ((Rect.unit (s := S96x256) ![32 * d.rev.val, 0] S32x256.size (slot96 d.rev)).emb x)
      have e0 : (((Rect.unit (s := S96x256) ![32 * d.rev.val, 0] S32x256.size (slot96 d.rev)).emb x) 0).val = 32 * d.rev.val + (x 0).val := by
        rw [Rect.emb_apply]; show 32 * d.rev.val + 1 * (x 0).val = _; omega
      have e1 : (((Rect.unit (s := S96x256) ![32 * d.rev.val, 0] S32x256.size (slot96 d.rev)).emb x) 1).val = (x 1).val := by
        rw [Rect.emb_apply]; show 0 + 1 * (x 1).val = _; omega
      unfold Rzb
      rw [e0, e1, f3_slot 32 d.rev _ h0, mod_slot 32 d.rev _ h0, zn_rev, emb_at _ _ _ _ _ (off6_val c d)]
      refine congrArg (b1 (A l) c) (ix_congr ?_ ?_)
      · unfold pzb; simp only [yc_zn, zc_zn]
      · rfl)
    rfl O
theorem snd_za : SndP A K (.za d) c l O ⊢ WP c (snd c (zn d c) (.za d)) (fun _ => SndQ (.za d) c l O) :=
  send_core A K (.za d) c _ rfl l hl (aZa c) (rZa d.rev) (thd d) (a2 (A l) c) (Rza (A l) (zn d c))
    (by rw [set_aZa]; rfl)
    (by rw [set_rZa]; rfl)
    (by rw [set_rZa]; rfl)
    (fun x => by
      have h0 : (x 0).val < 64 := (x 0).isLt
      show a2 (A l) c ((Rect.unit (s := S512x512) (k0_off8 c) S64x256.size (k0_off8_inb c)).emb x) = Rza (A l) (zn d c) ((Rect.unit (s := S192x256) ![64 * d.rev.val, 0] S64x256.size (slot192 d.rev)).emb x)
      have e0 : (((Rect.unit (s := S192x256) ![64 * d.rev.val, 0] S64x256.size (slot192 d.rev)).emb x) 0).val = 64 * d.rev.val + (x 0).val := by
        rw [Rect.emb_apply]; show 64 * d.rev.val + 1 * (x 0).val = _; omega
      have e1 : (((Rect.unit (s := S192x256) ![64 * d.rev.val, 0] S64x256.size (slot192 d.rev)).emb x) 1).val = (x 1).val := by
        rw [Rect.emb_apply]; show 0 + 1 * (x 1).val = _; omega
      unfold Rza
      rw [e0, e1, f3_slot 64 d.rev _ h0, mod_slot 64 d.rev _ h0, zn_rev, emb_at _ _ _ _ _ (off8_val c)]
      refine congrArg (a2 (A l) c) (ix_congr ?_ ?_)
      · unfold pya; simp only [xc_zn, yc_zn]
      · exact Nat.zero_add _)
    rfl O
theorem snd_xb : SndP A K .xb c l O ⊢ WP c (snd c (xp c) .xb) (fun _ => SndQ .xb c l O) :=
  send_core A K .xb c _ rfl l hl (aXb c) Mxb fullShare (b2 (A l) c) (Rxb (A l) (xp c))
    (by rw [set_aXb]; rfl)
    (by rw [set_xb]; rfl)
    (by rw [set_xb]; rfl)
    (fun x => by
      show b2 (A l) c ((Rect.unit (s := S512x512) (k0_off10 c) S32x256.size (k0_off10_inb c)).emb x) = Rxb (A l) (xp c) x
      rw [emb_at _ _ _ _ _ (off10_val c)]
      unfold Rxb pzb
      rw [xp_xp, yc_xp, zc_xp])
    rfl O
theorem snd_gya : SndP A K (.gya d) c l O ⊢ WP c (snd c (yn d c) (.gya d)) (fun _ => SndQ (.gya d) c l O) :=
  have hs : (hYa c).view.set = bx (256 * xc (yn d c) + 64 * ((yc (yn d c) + 3 - d.val) % 4)) 64 0 256 := by rw [set_hYa]; unfold pya; rw [xc_yn, yc_yn]; congr 1; have := yc_lt c; have := d.isLt; omega
  send_core A K (.gya d) c _ rfl l hl (hYa c) (hYa c) (thd d) (Hm (A l) c) (Hm (A l) (yn d c))
    (by rw [set_hYa]; rfl)
    (by rw [hs]; rfl)
    (by rw [hs]; rfl)
    (fun x => by
      have h1 : (x 1).val < 256 := (x 1).isLt
      show Hm (A l) c ((Rect.unit (s := S512x512) (k0_off8 c) S64x256.size (k0_off8_inb c)).emb x) = Hm (A l) (yn d c) ((Rect.unit (s := S512x512) (k0_off8 c) S64x256.size (k0_off8_inb c)).emb x)
      rw [emb_at _ _ _ _ _ (off8_val c)]
      exact Hm_A (A l) (by rw [zc_yn]) _ _ (by show 0 + (x 1).val < 256; omega))
    rfl O
theorem snd_gzb : SndP A K (.gzb d) c l O ⊢ WP c (snd c (zn d c) (.gzb d)) (fun _ => SndQ (.gzb d) c l O) :=
  have hs : (hZb c).view.set = bx (128 * yc (zn d c) + 32 * ((zc (zn d c) + 3 - d.val) % 4)) 32 256 256 := by rw [set_hZb]; unfold pzb; rw [yc_zn, zc_zn]; congr 1; have := zc_lt c; have := d.isLt; omega
  send_core A K (.gzb d) c _ rfl l hl (hZb c) (hZb c) (thd d) (Hm (A l) c) (Hm (A l) (zn d c))
    (by rw [set_hZb]; rfl)
    (by rw [hs]; rfl)
    (by rw [hs]; rfl)
    (fun x => by
      have h1 : (x 1).val < 256 := (x 1).isLt
      show Hm (A l) c ((Rect.unit (s := S512x512) (k0_off10 c) S32x256.size (k0_off10_inb c)).emb x) = Hm (A l) (zn d c) ((Rect.unit (s := S512x512) (k0_off10 c) S32x256.size (k0_off10_inb c)).emb x)
      rw [emb_at _ _ _ _ _ (off10_val c)]
      exact Hm_B (A l) (by rw [xc_zn]) _ _ h1)
    rfl O
theorem snd_gxa : SndP A K .gxa c l O ⊢ WP c (snd c (xp c) .gxa) (fun _ => SndQ .gxa c l O) :=
  have hs : (hXa c).view.set = bx (256 * (1 - xc (xp c))) 256 0 256 := by rw [set_hXa]; unfold pxa; rw [xc_xp]; congr 1; have := xc_lt c; omega
  send_core A K .gxa c _ rfl l hl (hXa c) (hXa c) fullShare (Hm (A l) c) (Hm (A l) (xp c))
    (by rw [set_hXa]; rfl)
    (by rw [hs]; rfl)
    (by rw [hs]; rfl)
    (fun x => by
      have h1 : (x 1).val < 256 := (x 1).isLt
      show Hm (A l) c ((Rect.unit (s := S512x512) (k0_off12 c) S256x256.size (k0_off12_inb c)).emb x) = Hm (A l) (xp c) ((Rect.unit (s := S512x512) (k0_off12 c) S256x256.size (k0_off12_inb c)).emb x)
      rw [emb_at _ _ _ _ _ (off12_val c)]
      exact Hm_A (A l) (by rw [zc_xp]) _ _ (by show 0 + (x 1).val < 256; omega))
    rfl O
theorem snd_gyb : SndP A K (.gyb d) c l O ⊢ WP c (snd c (yn d c) (.gyb d)) (fun _ => SndQ (.gyb d) c l O) :=
  have hs : (hYb c).view.set = bx (128 * ((yc (yn d c) + 3 - d.val) % 4)) 128 256 256 := by rw [set_hYb]; unfold pyb; rw [yc_yn]; congr 1; have := yc_lt c; have := d.isLt; omega
  send_core A K (.gyb d) c _ rfl l hl (hYb c) (hYb c) (thd d) (Hm (A l) c) (Hm (A l) (yn d c))
    (by rw [set_hYb]; rfl)
    (by rw [hs]; rfl)
    (by rw [hs]; rfl)
    (fun x => by
      have h1 : (x 1).val < 256 := (x 1).isLt
      show Hm (A l) c ((Rect.unit (s := S512x512) (k0_off14 c) S128x256.size (k0_off14_inb c)).emb x) = Hm (A l) (yn d c) ((Rect.unit (s := S512x512) (k0_off14 c) S128x256.size (k0_off14_inb c)).emb x)
      rw [emb_at _ _ _ _ _ (off14_val c)]
      exact Hm_B (A l) (by rw [xc_yn]) _ _ h1)
    rfl O
end Snd

theorem snd_ok (k : Kd) (c : Dev nD) (l : ℕ) (hl : l < 3) (O : CellTallies nD τ sig ℕ) :
    SndP A K k c l O ⊢ WP c (snd c (dv c k) k) (fun _ => SndQ k c l O) := by
  rw [dv_eq]
  cases k with
  | xa => exact snd_xa A K c l hl O
  | yb d => exact snd_yb A K c d l hl O
  | ya d => exact snd_ya A K c d l hl O
  | zb d => exact snd_zb A K c d l hl O
  | za d => exact snd_za A K c d l hl O
  | xb => exact snd_xb A K c l hl O
  | gya d => exact snd_gya A K c d l hl O
  | gzb d => exact snd_gzb A K c d l hl O
  | gxa => exact snd_gxa A K c l hl O
  | gyb d => exact snd_gyb A K c d l hl O

end Cert.MlpProof
end
-- ==== Proof.Compute.lean ====
/-
# The sums of a layer

Each of them reads a part of the accumulator and what has landed for it, and writes their sum back (or, for the
activation's own parts, its positive part into `h`).
-/
module

public import proofs.«01_k».proof.Proof.Send
public import Idealize.ShloMosaic.Lib.Pipeline.Value

@[expose] public section

noncomputable section

namespace Cert.MlpProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## One load, one store -/

/-- A load at the head of a part. -/
theorem ld {c : Dev nD} {s : Shape} {e : EltTy} {m : Memref sig .tc .vmem s e} {r : Rect s} {hl : m.view.LoadsAt r}
    {α : Type} {Kt : (r.shape.Idx → Elt F e) → Prog (TpuEff nD τ sig (Elt F) Λ₀ .tc) α} {Φ : α → sProp 𝕄}
    {q : PosShare TreeShare} {f : m.view.ty.Contents (Elt F)} (P : sProp 𝕄)
    (hP : P = ((m.access r).loc (c : Thread nD τ) ↦[(m.access r).set]{q} f)) :
    P ⊢ iprop((P -∗ WP c (Kt ((m.access r).read (Elt F) f)) Φ) -∗ WP c (Prog.lift (.load m r.toLoadRect hl) >>= Kt) Φ) := by
  subst hP
  exact wp_load_rect 𝒱₀ (c : Thread nD τ) none Set.univ (hl := hl) (k := Kt) (Finset.Subset.refl _)

/-- A store of a whole part, by what it leaves element by element. -/
theorem st {c : Dev nD} {s : Shape} {e : EltTy} {m : Memref sig .tc .vmem s e} {r : Rect s} {w : r.shape.Idx → Elt F e}
    {hx : (m.access r).Stores Finset.univ} {hm : (Finset.univ : Finset r.shape.Idx) = Finset.univ ∨ ∀ a, r.stride a = 1}
    {Φ : PUnit → sProp 𝕄} {f : (m.access r).ty.Contents (Elt F)} (g : (m.access r).ty.Contents (Elt F)) (P Q : sProp 𝕄)
    (hP : P = ((m.access r).loc (c : Thread nD τ) ↦[(m.access r).set]{fullShare} f))
    (hQ : Q = ((m.access r).loc (c : Thread nD τ) ↦[(m.access r).set]{fullShare} g))
    (hw : ∀ x, cast (congrArg (Elt F) (m.access r).elt_eq.symm) (w x) = g ((m.access r).emb x)) :
    P ⊢ iprop((Q -∗ Φ ⟨⟩) -∗ WP c (Prog.lift (.store m r w Finset.univ hx hm)) Φ) := by
  subst hP hQ
  iintro H Hk
  iapply (wp_store 𝒱₀ (c : Thread nD τ) none Set.univ (w := w) (hx := hx) (hm := hm) (k := Prog.ret) (S := (m.access r).set) (f := f)
    (Finset.Subset.refl _)) $$ H
  iintro H
  rw [wp_ret]
  imodintro
  iapply Hk
  iapply (Entails.of_eq (pointsTo_congr fun i hi => ?_)) $$ H
  obtain ⟨x, -, rfl⟩ := Finset.mem_map.mp hi
  rw [View.write_emb_of_mem _ _ (Finset.mem_univ x)]
  exact hw x

/-- The elements of a rectangle whose corner is known. -/
theorem set_at {d : Fin 2 → ℕ} (off size : Fin 2 → ℕ) (inb : ∀ a, off a + size a ≤ (⟨2, d⟩ : Shape).size a) (r j : ℕ) (h : off = ![r, j]) :
    (Rect.unit (s := ⟨2, d⟩) off size inb).set = bx r (size 0) j (size 1) := by
  subst h; exact set_unit _ _ _

/-! ## The sums -/

/-- One thing for each of the three other places of a ring. -/
def tri (P : Fin 3 → sProp 𝕄) : sProp 𝕄 := iprop(P 0 ∗ P 1 ∗ P 2)

/-- A landing buffer of three slots at row `64 s + x`, as the device the slot is for sent it. -/
theorem slot_emb {h : ℕ} (w : ℕ) (s : Fin 3) (off : Fin 2 → ℕ) (hoff : off = ![w * s.val, 0]) (inb : ∀ a, off a + (![w, 256] : Fin 2 → ℕ) a ≤ (⟨2, ![h, 256]⟩ : Shape).size a)
    (x : (Rect.unit (s := ⟨2, ![h, 256]⟩) off ![w, 256] inb).shape.Idx) :
    ((Rect.unit (s := ⟨2, ![h, 256]⟩) off ![w, 256] inb).emb x 0).val / w % 3 = s.val
      ∧ ((Rect.unit (s := ⟨2, ![h, 256]⟩) off ![w, 256] inb).emb x 0).val % w = (x 0).val
      ∧ ((Rect.unit (s := ⟨2, ![h, 256]⟩) off ![w, 256] inb).emb x 1).val = (x 1).val := by
  subst hoff
  have h0 : (x 0).val < w := (x 0).isLt
  have e0 : ((Rect.unit (s := ⟨2, ![h, 256]⟩) ![w * s.val, 0] ![w, 256] inb).emb x 0).val = w * s.val + (x 0).val := by
    rw [Rect.emb_apply]; show w * s.val + 1 * (x 0).val = _; omega
  refine ⟨?_, ?_, ?_⟩
  · rw [e0]; exact congrArg Fin.val (f3_slot w s _ h0)
  · rw [e0]; exact mod_slot w s _ h0
  · rw [Rect.emb_apply]; show 0 + 1 * (x 1).val = _; omega

variable (A : Dev nD → Acc F) (c : Dev nD)

theorem Ryb_at (s : Fin 3) (off : Fin 2 → ℕ) (hoff : off = ![128 * s.val, 0]) (inb : ∀ a, off a + S128x256.size a ≤ S384x256.size a)
    (x : (Rect.unit (s := S384x256) off S128x256.size inb).shape.Idx) :
    Ryb A c ((Rect.unit (s := S384x256) off S128x256.size inb).emb x) = A (yn s c) (ix (pyb c + (x 0).val) (256 + (x 1).val)) := by
  obtain ⟨h0, h1, h2⟩ := slot_emb (h := 384) 128 s off hoff inb x
  unfold Ryb
  rw [show f3 (((Rect.unit (s := S384x256) off S128x256.size inb).emb x 0).val / 128) = s from Fin.ext h0]
  exact congrArg (A (yn s c)) (ix_congr (congrArg (fun r => pyb c + r) h1) (congrArg (fun r => 256 + r) h2))
theorem Rya_at (s : Fin 3) (off : Fin 2 → ℕ) (hoff : off = ![64 * s.val, 0]) (inb : ∀ a, off a + S64x256.size a ≤ S192x256.size a)
    (x : (Rect.unit (s := S192x256) off S64x256.size inb).shape.Idx) :
    Rya A c ((Rect.unit (s := S192x256) off S64x256.size inb).emb x) = a1 A (yn s c) (ix (pya c + (x 0).val) ((x 1).val)) := by
  obtain ⟨h0, h1, h2⟩ := slot_emb (h := 192) 64 s off hoff inb x
  unfold Rya
  rw [show f3 (((Rect.unit (s := S192x256) off S64x256.size inb).emb x 0).val / 64) = s from Fin.ext h0]
  exact congrArg (a1 A (yn s c)) (ix_congr (congrArg (fun r => pya c + r) h1) h2)
theorem Rza_at (s : Fin 3) (off : Fin 2 → ℕ) (hoff : off = ![64 * s.val, 0]) (inb : ∀ a, off a + S64x256.size a ≤ S192x256.size a)
    (x : (Rect.unit (s := S192x256) off S64x256.size inb).shape.Idx) :
    Rza A c ((Rect.unit (s := S192x256) off S64x256.size inb).emb x) = a2 A (zn s c) (ix (pya c + (x 0).val) ((x 1).val)) := by
  obtain ⟨h0, h1, h2⟩ := slot_emb (h := 192) 64 s off hoff inb x
  unfold Rza
  rw [show f3 (((Rect.unit (s := S192x256) off S64x256.size inb).emb x 0).val / 64) = s from Fin.ext h0]
  exact congrArg (a2 A (zn s c)) (ix_congr (congrArg (fun r => pya c + r) h1) h2)
theorem Rzb_at (s : Fin 3) (off : Fin 2 → ℕ) (hoff : off = ![32 * s.val, 0]) (inb : ∀ a, off a + S32x256.size a ≤ S96x256.size a)
    (x : (Rect.unit (s := S96x256) off S32x256.size inb).shape.Idx) :
    Rzb A c ((Rect.unit (s := S96x256) off S32x256.size inb).emb x) = b1 A (zn s c) (ix (pzb c + (x 0).val) (256 + (x 1).val)) := by
  obtain ⟨h0, h1, h2⟩ := slot_emb (h := 96) 32 s off hoff inb x
  unfold Rzb
  rw [show f3 (((Rect.unit (s := S96x256) off S32x256.size inb).emb x 0).val / 32) = s from Fin.ext h0]
  exact congrArg (b1 A (zn s c)) (ix_congr (congrArg (fun r => pzb c + r) h1) (congrArg (fun r => 256 + r) h2))

theorem addYb_ok : iprop(ptA c (bx (pyb c) 128 256 256) fullShare (A c) ∗ tri (fun d => R A (.yb d) c))
    ⊢ WP c (addYb c) (fun _ => iprop(ptA c (bx (pyb c) 128 256 256) fullShare (b1 A c) ∗ tri (fun d => R A (.yb d) c))) := by
  have hset : (Ma.access (Rect.unit (s := S512x512) (k0_off5 c) S128x256.size (k0_off5_inb c))).set = bx (pyb c) 128 256 256 := by
    rw [View.set_slice_whole]; exact set_at _ _ _ _ _ (off5_val c)
  have hs0 : (Myb.access (Rect.unit (s := S384x256) ![0, 0] S128x256.size inb_S384x256_S128x256_0_0)).set = bx (128 * ((2 : Fin 3).rev).val) 128 0 256 := by
    rw [View.set_slice_whole]; exact set_at _ _ _ _ _ rfl
  have hs1 : (Myb.access (Rect.unit (s := S384x256) ![128, 0] S128x256.size inb_S384x256_S128x256_128_0)).set = bx (128 * ((1 : Fin 3).rev).val) 128 0 256 := by
    rw [View.set_slice_whole]; exact set_at _ _ _ _ _ rfl
  have hs2 : (Myb.access (Rect.unit (s := S384x256) ![256, 0] S128x256.size inb_S384x256_S128x256_256_0)).set = bx (128 * ((0 : Fin 3).rev).val) 128 0 256 := by
    rw [View.set_slice_whole]; exact set_at _ _ _ _ _ rfl
  unfold addYb tri
  iintro ⟨Ha, H2, H1, H0⟩
  iapply (ld (ptA c (bx (pyb c) 128 256 256) fullShare (A c)) (by rw [hset]; rfl)) $$ Ha
  iintro Ha
  iapply (ld (R A (.yb 2) c) (f := Ryb A c) (by rw [hs0]; rfl)) $$ H0
  iintro H0
  iapply (ld (R A (.yb 1) c) (f := Ryb A c) (by rw [hs1]; rfl)) $$ H1
  iintro H1
  iapply (ld (R A (.yb 0) c) (f := Ryb A c) (by rw [hs2]; rfl)) $$ H2
  iintro H2
  iapply (ld (ptA c (bx (pyb c) 128 256 256) fullShare (A c)) (by rw [hset]; rfl)) $$ Ha
  iintro Ha
  iapply (st (b1 A c) (ptA c (bx (pyb c) 128 256 256) fullShare (A c)) (ptA c (bx (pyb c) 128 256 256) fullShare (b1 A c))
    (by rw [hset]; rfl) (by rw [hset]; rfl) (fun x => by
      have hv : ∀ (s : Fin 3) (o : Fin 2 → ℕ) (ho : o = ![128 * s.val, 0]) (ib : ∀ a, o a + S128x256.size a ≤ S384x256.size a),
          Ryb A c ((Rect.unit (s := S384x256) o S128x256.size ib).emb x) = A (yn s c) ((Rect.unit (s := S512x512) (k0_off5 c) S128x256.size (k0_off5_inb c)).emb x) := fun s o ho ib => by
        rw [emb_at _ _ _ _ _ (off5_val c)]
        exact (Ryb_at A c s o ho ib x).trans (congrArg (A (yn s c)) (ix_congr rfl rfl))
      show k0_pay4 _ _ _ _ x = _
      unfold k0_pay4
      rw [shapeCast_self]
      exact (congrArg₂ FloatOps.addf (congrArg₂ FloatOps.addf (congrArg (FloatOps.addf _) (hv 0 _ rfl _)) (hv 1 _ rfl _)) (hv 2 _ rfl _)))) $$ Ha
  iintro Ha
  isplitl [Ha]; · iexact Ha
  isplitl [H2]; · iexact H2
  isplitl [H1] <;> iassumption

theorem addYa_ok : iprop(ptA c (bx (pya c) 64 0 256) fullShare (a1 A c) ∗ tri (fun d => R A (.ya d) c))
    ⊢ WP c (addYa c) (fun _ => iprop(ptA c (bx (pya c) 64 0 256) fullShare (a2 A c) ∗ tri (fun d => R A (.ya d) c))) := by
  have hset : (Ma.access (Rect.unit (s := S512x512) (k0_off7 c) S64x256.size (k0_off7_inb c))).set = bx (pya c) 64 0 256 := by
    rw [View.set_slice_whole]; exact set_at _ _ _ _ _ (off7_val c)
  have hs0 : (Mya.access (Rect.unit (s := S192x256) ![0, 0] S64x256.size inb_S192x256_S64x256_0_0)).set = bx (64 * ((2 : Fin 3).rev).val) 64 0 256 := by
    rw [View.set_slice_whole]; exact set_at _ _ _ _ _ rfl
  have hs1 : (Mya.access (Rect.unit (s := S192x256) ![64, 0] S64x256.size inb_S192x256_S64x256_64_0)).set = bx (64 * ((1 : Fin 3).rev).val) 64 0 256 := by
    rw [View.set_slice_whole]; exact set_at _ _ _ _ _ rfl
  have hs2 : (Mya.access (Rect.unit (s := S192x256) ![128, 0] S64x256.size inb_S192x256_S64x256_128_0)).set = bx (64 * ((0 : Fin 3).rev).val) 64 0 256 := by
    rw [View.set_slice_whole]; exact set_at _ _ _ _ _ rfl
  unfold addYa tri
  iintro ⟨Ha, H2, H1, H0⟩
  iapply (ld (ptA c (bx (pya c) 64 0 256) fullShare (a1 A c)) (by rw [hset]; rfl)) $$ Ha
  iintro Ha
  iapply (ld (R A (.ya 2) c) (f := Rya A c) (by rw [hs0]; rfl)) $$ H0
  iintro H0
  iapply (ld (R A (.ya 1) c) (f := Rya A c) (by rw [hs1]; rfl)) $$ H1
  iintro H1
  iapply (ld (R A (.ya 0) c) (f := Rya A c) (by rw [hs2]; rfl)) $$ H2
  iintro H2
  iapply (ld (ptA c (bx (pya c) 64 0 256) fullShare (a1 A c)) (by rw [hset]; rfl)) $$ Ha
  iintro Ha
  iapply (st (a2 A c) (ptA c (bx (pya c) 64 0 256) fullShare (a1 A c)) (ptA c (bx (pya c) 64 0 256) fullShare (a2 A c))
    (by rw [hset]; rfl) (by rw [hset]; rfl) (fun x => by
      have hv : ∀ (s : Fin 3) (o : Fin 2 → ℕ) (ho : o = ![64 * s.val, 0]) (ib : ∀ a, o a + S64x256.size a ≤ S192x256.size a),
          Rya A c ((Rect.unit (s := S192x256) o S64x256.size ib).emb x) = a1 A (yn s c) ((Rect.unit (s := S512x512) (k0_off7 c) S64x256.size (k0_off7_inb c)).emb x) := fun s o ho ib => by
        rw [emb_at _ _ _ _ _ (off7_val c)]
        exact (Rya_at A c s o ho ib x).trans (congrArg (a1 A (yn s c)) (ix_congr rfl (Nat.zero_add _).symm))
      show k0_pay5 _ _ _ _ x = _
      unfold k0_pay5
      rw [shapeCast_self]
      exact (congrArg₂ FloatOps.addf (congrArg₂ FloatOps.addf (congrArg (FloatOps.addf _) (hv 0 _ rfl _)) (hv 1 _ rfl _)) (hv 2 _ rfl _)))) $$ Ha
  iintro Ha
  isplitl [Ha]; · iexact Ha
  isplitl [H2]; · iexact H2
  isplitl [H1] <;> iassumption

theorem addZb_ok : iprop(ptA c (bx (pzb c) 32 256 256) fullShare (b1 A c) ∗ tri (fun d => R A (.zb d) c))
    ⊢ WP c (addZb c) (fun _ => iprop(ptA c (bx (pzb c) 32 256 256) fullShare (b2 A c) ∗ tri (fun d => R A (.zb d) c))) := by
  have hset : (Ma.access (Rect.unit (s := S512x512) (k0_off9 c) S32x256.size (k0_off9_inb c))).set = bx (pzb c) 32 256 256 := by
    rw [View.set_slice_whole]; exact set_at _ _ _ _ _ (off9_val c)
  have hs0 : (Mzb.access (Rect.unit (s := S96x256) ![0, 0] S32x256.size inb_S96x256_S32x256_0_0)).set = bx (32 * ((2 : Fin 3).rev).val) 32 0 256 := by
    rw [View.set_slice_whole]; exact set_at _ _ _ _ _ rfl
  have hs1 : (Mzb.access (Rect.unit (s := S96x256) ![32, 0] S32x256.size inb_S96x256_S32x256_32_0)).set = bx (32 * ((1 : Fin 3).rev).val) 32 0 256 := by
    rw [View.set_slice_whole]; exact set_at _ _ _ _ _ rfl
  have hs2 : (Mzb.access (Rect.unit (s := S96x256) ![64, 0] S32x256.size inb_S96x256_S32x256_64_0)).set = bx (32 * ((0 : Fin 3).rev).val) 32 0 256 := by
    rw [View.set_slice_whole]; exact set_at _ _ _ _ _ rfl
  unfold addZb tri
  iintro ⟨Ha, H2, H1, H0⟩
  iapply (ld (ptA c (bx (pzb c) 32 256 256) fullShare (b1 A c)) (by rw [hset]; rfl)) $$ Ha
  iintro Ha
  iapply (ld (R A (.zb 2) c) (f := Rzb A c) (by rw [hs0]; rfl)) $$ H0
  iintro H0
  iapply (ld (R A (.zb 1) c) (f := Rzb A c) (by rw [hs1]; rfl)) $$ H1
  iintro H1
  iapply (ld (R A (.zb 0) c) (f := Rzb A c) (by rw [hs2]; rfl)) $$ H2
  iintro H2
  iapply (ld (ptA c (bx (pzb c) 32 256 256) fullShare (b1 A c)) (by rw [hset]; rfl)) $$ Ha
  iintro Ha
  iapply (st (b2 A c) (ptA c (bx (pzb c) 32 256 256) fullShare (b1 A c)) (ptA c (bx (pzb c) 32 256 256) fullShare (b2 A c))
    (by rw [hset]; rfl) (by rw [hset]; rfl) (fun x => by
      have hv : ∀ (s : Fin 3) (o : Fin 2 → ℕ) (ho : o = ![32 * s.val, 0]) (ib : ∀ a, o a + S32x256.size a ≤ S96x256.size a),
          Rzb A c ((Rect.unit (s := S96x256) o S32x256.size ib).emb x) = b1 A (zn s c) ((Rect.unit (s := S512x512) (k0_off9 c) S32x256.size (k0_off9_inb c)).emb x) := fun s o ho ib => by
        rw [emb_at _ _ _ _ _ (off9_val c)]
        exact (Rzb_at A c s o ho ib x).trans (congrArg (b1 A (zn s c)) (ix_congr rfl rfl))
      show k0_pay6 _ _ _ _ x = _
      unfold k0_pay6
      rw [shapeCast_self]
      exact (congrArg₂ FloatOps.addf (congrArg₂ FloatOps.addf (congrArg (FloatOps.addf _) (hv 0 _ rfl _)) (hv 1 _ rfl _)) (hv 2 _ rfl _)))) $$ Ha
  iintro Ha
  isplitl [Ha]; · iexact Ha
  isplitl [H2]; · iexact H2
  isplitl [H1] <;> iassumption

theorem reluA_ok : iprop(ptA c (bx (pya c) 64 0 256) fullShare (a2 A c) ∗ (∃ f, ptH c (bx (pya c) 64 0 256) fullShare f) ∗ tri (fun d => R A (.za d) c))
    ⊢ WP c (reluA c) (fun _ => iprop(ptA c (bx (pya c) 64 0 256) fullShare (a2 A c) ∗ ptH c (bx (pya c) 64 0 256) fullShare (rl (a3 A c)) ∗ tri (fun d => R A (.za d) c))) := by
  have hset : (Ma.access (Rect.unit (s := S512x512) (k0_off7 c) S64x256.size (k0_off7_inb c))).set = bx (pya c) 64 0 256 := by
    rw [View.set_slice_whole]; exact set_at _ _ _ _ _ (off7_val c)
  have hseth : (Mh.access (Rect.unit (s := S512x512) (k0_off7 c) S64x256.size (k0_off7_inb c))).set = bx (pya c) 64 0 256 := by
    rw [View.set_slice_whole]; exact set_at _ _ _ _ _ (off7_val c)
  have hs0 : (Mza.access (Rect.unit (s := S192x256) ![0, 0] S64x256.size inb_S192x256_S64x256_0_0)).set = bx (64 * ((2 : Fin 3).rev).val) 64 0 256 := by
    rw [View.set_slice_whole]; exact set_at _ _ _ _ _ rfl
  have hs1 : (Mza.access (Rect.unit (s := S192x256) ![64, 0] S64x256.size inb_S192x256_S64x256_64_0)).set = bx (64 * ((1 : Fin 3).rev).val) 64 0 256 := by
    rw [View.set_slice_whole]; exact set_at _ _ _ _ _ rfl
  have hs2 : (Mza.access (Rect.unit (s := S192x256) ![128, 0] S64x256.size inb_S192x256_S64x256_128_0)).set = bx (64 * ((0 : Fin 3).rev).val) 64 0 256 := by
    rw [View.set_slice_whole]; exact set_at _ _ _ _ _ rfl
  unfold reluA tri
  iintro ⟨Ha, ⟨%fh, Hh⟩, H2, H1, H0⟩
  iapply (ld (ptA c (bx (pya c) 64 0 256) fullShare (a2 A c)) (by rw [hset]; rfl)) $$ Ha
  iintro Ha
  iapply (ld (R A (.za 2) c) (f := Rza A c) (by rw [hs0]; rfl)) $$ H0
  iintro H0
  iapply (ld (R A (.za 1) c) (f := Rza A c) (by rw [hs1]; rfl)) $$ H1
  iintro H1
  iapply (ld (R A (.za 0) c) (f := Rza A c) (by rw [hs2]; rfl)) $$ H2
  iintro H2
  iapply (ld (ptH c (bx (pya c) 64 0 256) fullShare fh) (by rw [hseth]; rfl)) $$ Hh
  iintro Hh
  iapply (st (rl (a3 A c)) (ptH c (bx (pya c) 64 0 256) fullShare fh) (ptH c (bx (pya c) 64 0 256) fullShare (rl (a3 A c)))
    (by rw [hseth]; rfl) (by rw [hseth]; rfl) (fun x => by
      have hv : ∀ (s : Fin 3) (o : Fin 2 → ℕ) (ho : o = ![64 * s.val, 0]) (ib : ∀ a, o a + S64x256.size a ≤ S192x256.size a),
          Rza A c ((Rect.unit (s := S192x256) o S64x256.size ib).emb x) = a2 A (zn s c) ((Rect.unit (s := S512x512) (k0_off7 c) S64x256.size (k0_off7_inb c)).emb x) := fun s o ho ib => by
        rw [emb_at _ _ _ _ _ (off7_val c)]
        exact (Rza_at A c s o ho ib x).trans (congrArg (a2 A (zn s c)) (ix_congr rfl (Nat.zero_add _).symm))
      show k0_pay7 _ _ _ _ x = _
      unfold k0_pay7
      rw [shapeCast_self]
      exact congrArg (fun v => FloatOps.truncf .bf16 bitsLt_bf16_f32 (FloatOps.maximumf v (Scalar.ofBits .f32 0x00000000#32 : F .f32)))
        (congrArg₂ FloatOps.addf (congrArg₂ FloatOps.addf (congrArg (FloatOps.addf _) (hv 0 _ rfl _)) (hv 1 _ rfl _)) (hv 2 _ rfl _)))) $$ Hh
  iintro Hh
  isplitl [Ha]; · iexact Ha
  isplitl [Hh]; · iexact Hh
  isplitl [H2]; · iexact H2
  isplitl [H1] <;> iassumption

theorem addXa_ok : iprop(ptA c (bx (pxa c) 256 0 256) fullShare (A c) ∗ R A .xa c)
    ⊢ WP c (addXa c) (fun _ => iprop(ptA c (bx (pxa c) 256 0 256) fullShare (a1 A c) ∗ R A .xa c)) := by
  have hset : (Ma.access (Rect.unit (s := S512x512) (k0_off3 c) S256x256.size (k0_off3_inb c))).set = bx (pxa c) 256 0 256 := by
    rw [View.set_slice_whole]; exact set_at _ _ _ _ _ (off3_val c)
  have hs0 : (Mxa.access (Rect.unit (s := S256x256) ![0, 0] S256x256.size inb_S256x256_S256x256_0_0)).set = bx 0 256 0 256 := by
    rw [View.set_slice_whole]; exact set_at _ _ _ _ _ rfl
  unfold addXa
  iintro ⟨Ha, H0⟩
  iapply (ld (ptA c (bx (pxa c) 256 0 256) fullShare (A c)) (by rw [hset]; rfl)) $$ Ha
  iintro Ha
  iapply (ld (R A .xa c) (f := Rxa A c) (by rw [hs0]; rfl)) $$ H0
  iintro H0
  iapply (ld (ptA c (bx (pxa c) 256 0 256) fullShare (A c)) (by rw [hset]; rfl)) $$ Ha
  iintro Ha
  iapply (st (a1 A c) (ptA c (bx (pxa c) 256 0 256) fullShare (A c)) (ptA c (bx (pxa c) 256 0 256) fullShare (a1 A c))
    (by rw [hset]; rfl) (by rw [hset]; rfl) (fun x => by
      have hv : Rxa A c ((Rect.unit (s := S256x256) ![0, 0] S256x256.size inb_S256x256_S256x256_0_0).emb x) = A (xp c) ((Rect.unit (s := S512x512) (k0_off3 c) S256x256.size (k0_off3_inb c)).emb x) := by
        rw [emb_at _ _ _ _ _ (off3_val c)]
        unfold Rxa
        refine congrArg (A (xp c)) (ix_congr (congrArg (fun r => pxa c + r) ?_) ?_)
        · rw [Rect.emb_apply]; show 0 + 1 * (x 0).val = _; omega
        · rw [Rect.emb_apply]; show (0 + 1 * (x 1).val) = 0 + (x 1).val; omega
      show k0_pay3 _ _ x = _
      unfold k0_pay3
      rw [shapeCast_self]
      exact congrArg (FloatOps.addf _) hv)) $$ Ha
  iintro Ha
  isplitl [Ha] <;> iassumption

theorem reluB_ok : iprop(ptA c (bx (pzb c) 32 256 256) fullShare (b2 A c) ∗ (∃ f, ptH c (bx (pzb c) 32 256 256) fullShare f) ∗ R A .xb c)
    ⊢ WP c (reluB c) (fun _ => iprop(ptA c (bx (pzb c) 32 256 256) fullShare (b2 A c) ∗ ptH c (bx (pzb c) 32 256 256) fullShare (rl (b3 A c)) ∗ R A .xb c)) := by
  have hset : (Ma.access (Rect.unit (s := S512x512) (k0_off9 c) S32x256.size (k0_off9_inb c))).set = bx (pzb c) 32 256 256 := by
    rw [View.set_slice_whole]; exact set_at _ _ _ _ _ (off9_val c)
  have hseth : (Mh.access (Rect.unit (s := S512x512) (k0_off9 c) S32x256.size (k0_off9_inb c))).set = bx (pzb c) 32 256 256 := by
    rw [View.set_slice_whole]; exact set_at _ _ _ _ _ (off9_val c)
  have hs0 : (Mxb.access (Rect.unit (s := S32x256) ![0, 0] S32x256.size inb_S32x256_S32x256_0_0)).set = bx 0 32 0 256 := by
    rw [View.set_slice_whole]; exact set_at _ _ _ _ _ rfl
  unfold reluB
  iintro ⟨Ha, ⟨%fh, Hh⟩, H0⟩
  iapply (ld (ptA c (bx (pzb c) 32 256 256) fullShare (b2 A c)) (by rw [hset]; rfl)) $$ Ha
  iintro Ha
  iapply (ld (R A .xb c) (f := Rxb A c) (by rw [hs0]; rfl)) $$ H0
  iintro H0
  iapply (ld (ptH c (bx (pzb c) 32 256 256) fullShare fh) (by rw [hseth]; rfl)) $$ Hh
  iintro Hh
  iapply (st (rl (b3 A c)) (ptH c (bx (pzb c) 32 256 256) fullShare fh) (ptH c (bx (pzb c) 32 256 256) fullShare (rl (b3 A c)))
    (by rw [hseth]; rfl) (by rw [hseth]; rfl) (fun x => by
      have hv : Rxb A c ((Rect.unit (s := S32x256) ![0, 0] S32x256.size inb_S32x256_S32x256_0_0).emb x) = b2 A (xp c) ((Rect.unit (s := S512x512) (k0_off9 c) S32x256.size (k0_off9_inb c)).emb x) := by
        rw [emb_at _ _ _ _ _ (off9_val c)]
        unfold Rxb
        refine congrArg (b2 A (xp c)) (ix_congr (congrArg (fun r => pzb c + r) ?_) ?_)
        · rw [Rect.emb_apply]; show 0 + 1 * (x 0).val = _; omega
        · rw [Rect.emb_apply]; show 256 + (0 + 1 * (x 1).val) = 256 + (x 1).val; omega
      show k0_pay8 _ _ x = _
      unfold k0_pay8
      rw [shapeCast_self]
      exact congrArg (fun v => FloatOps.truncf .bf16 bitsLt_bf16_f32 (FloatOps.maximumf v (Scalar.ofBits .f32 0x00000000#32 : F .f32)))
        (congrArg (FloatOps.addf _) hv))) $$ Hh
  iintro Hh
  isplitl [Ha]; · iexact Ha
  isplitl [Hh] <;> iassumption

end Cert.MlpProof
end
-- ==== Proof.Region.lean ====
/-
# Cutting the two square buffers

The accumulator and the activation are cut into the parts the copies of a layer read and write, and put together again.
-/
module

public import proofs.«01_k».proof.Proof.Compute

@[expose] public section

noncomputable section

namespace Cert.MlpProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Cuts in two and in four -/

/-- A set cut in two, -/
structure Duo {α : Type} [DecidableEq α] (S U T : Finset α) : Prop where
  eq : S = U ∪ T
  dis : Disjoint U T
/-- and in four. -/
structure Quad {α : Type} [DecidableEq α] (S U : Finset α) (T : Fin 3 → Finset α) : Prop where
  eq : S = U ∪ (T 0 ∪ (T 1 ∪ T 2))
  d0 : Disjoint U (T 0 ∪ (T 1 ∪ T 2))
  d1 : Disjoint (T 0) (T 1 ∪ T 2)
  d2 : Disjoint (T 1) (T 2)

section Cuts
variable {b : Ref sig .tc} {c : Dev nD} {q : PosShare TreeShare} {f : b.ty.Contents (Elt F)}

/-- Elements of a buffer at any contents. -/
def any (b : Ref sig .tc) (c : Dev nD) (S : Finset b.ty.Idx) : sProp 𝕄 := iprop(∃ f, pt b c S fullShare f)

theorem pt_any {S : Finset b.ty.Idx} : pt b c S fullShare f ⊢ any b c S := by
  unfold any; iintro H; iexists _; iexact H

theorem pt_duo {S U T : Finset b.ty.Idx} (h : Duo S U T) : (pt b c S q f : sProp 𝕄) ⊣⊢ iprop(pt b c U q f ∗ pt b c T q f) := by
  rw [h.eq]; exact pointsTo_union h.dis
theorem pt_quad {S U : Finset b.ty.Idx} {T : Fin 3 → Finset b.ty.Idx} (h : Quad S U T) :
    (pt b c S q f : sProp 𝕄) ⊣⊢ iprop(pt b c U q f ∗ tri fun d => pt b c (T d) q f) := by
  rw [h.eq]
  exact (pointsTo_union h.d0).trans (sep_congr_right ((pointsTo_union h.d1).trans (sep_congr_right (pointsTo_union h.d2))))

theorem any_union {U T : Finset b.ty.Idx} (h : Disjoint U T) : iprop(any (F := F) b c U ∗ any b c T) ⊢ any b c (U ∪ T) := by
  unfold any pt
  iintro ⟨⟨%f, H⟩, ⟨%g, H'⟩⟩
  iexists (T.piecewise g f)
  iapply (pointsTo_join h)
  isplitl [H] <;> iassumption
theorem any_duo {S U T : Finset b.ty.Idx} (h : Duo S U T) : iprop(any (F := F) b c U ∗ any b c T) ⊢ any b c S := by
  rw [h.eq]; exact any_union h.dis
theorem any_quad {S U : Finset b.ty.Idx} {T : Fin 3 → Finset b.ty.Idx} (h : Quad S U T) :
    iprop(any (F := F) b c U ∗ tri fun d => any b c (T d)) ⊢ any b c S := by
  rw [h.eq]
  exact (sep_mono_right ((sep_mono_right (any_union h.d2)).trans (any_union h.d1))).trans (any_union h.d0)

/-- The three thirds of the ownership. -/
theorem pt_thd {S : Finset b.ty.Idx} : (pt b c S fullShare f : sProp 𝕄) ⊣⊢ tri fun d => pt b c S (thd d) f := by
  unfold tri pt
  exact (pointsTo_share (PosShare.mem_left_op_right fullShare)).trans
    (sep_congr_right (pointsTo_share (PosShare.mem_left_op_right fullShare.right)))
end Cuts

theorem tri_mono {P Q : Fin 3 → sProp 𝕄} (h : ∀ d, P d ⊢ Q d) : tri P ⊢ tri Q := BIClass.sep_mono (h 0) (BIClass.sep_mono (h 1) (h 2))
theorem tri_sep (P Q : Fin 3 → sProp 𝕄) : tri (fun d => iprop(P d ∗ Q d)) ⊣⊢ iprop(tri P ∗ tri Q) := by
  unfold tri
  constructor
  · iintro ⟨⟨H0, J0⟩, ⟨H1, J1⟩, H2, J2⟩
    isplitl [H0 H1 H2]
    · isplitl [H0]; · iexact H0
      isplitl [H1] <;> iassumption
    isplitl [J0]; · iexact J0
    isplitl [J1] <;> iassumption
  · iintro ⟨⟨H0, H1, H2⟩, J0, J1, J2⟩
    isplitl [H0 J0]; · isplitl [H0] <;> iassumption
    isplitl [H1 J1] <;> (first | (isplitl [H1] <;> iassumption) | (isplitl [H2] <;> iassumption))
theorem tri_rev (P : Fin 3 → sProp 𝕄) : tri (fun d => P d.rev) ⊢ tri P := by
  show iprop(P 2 ∗ P 1 ∗ P 0) ⊢ iprop(P 0 ∗ P 1 ∗ P 2)
  iintro ⟨H0, H1, H2⟩
  isplitl [H2]; · iexact H2
  isplitl [H1] <;> iassumption

/-! ## The cuts of a square -/

theorem duo_bx {d : Fin 2 → ℕ} {r n j w r1 n1 j1 w1 r2 n2 j2 w2 : ℕ}
    (h : ∀ a b : ℕ, a < d 0 → b < d 1 → (((r ≤ a ∧ a < r + n) ∧ (j ≤ b ∧ b < j + w)) ↔
      ((r1 ≤ a ∧ a < r1 + n1) ∧ (j1 ≤ b ∧ b < j1 + w1)) ∨ ((r2 ≤ a ∧ a < r2 + n2) ∧ (j2 ≤ b ∧ b < j2 + w2))))
    (h' : ∀ a b : ℕ, ((r1 ≤ a ∧ a < r1 + n1) ∧ (j1 ≤ b ∧ b < j1 + w1)) → ((r2 ≤ a ∧ a < r2 + n2) ∧ (j2 ≤ b ∧ b < j2 + w2)) → False) :
    Duo (bx r n j w : Finset (Shape.Idx ⟨2, d⟩)) (bx r1 n1 j1 w1) (bx r2 n2 j2 w2) where
  eq := by ext i; rw [Finset.mem_union, mem_bx, mem_bx, mem_bx]; exact h _ _ (i 0).isLt (i 1).isLt
  dis := Finset.disjoint_left.mpr fun i hi hi' => h' _ _ (mem_bx.mp hi) (mem_bx.mp hi')

theorem quad_bx {d : Fin 2 → ℕ} {r n j w r0 n0 : ℕ} {rt : Fin 3 → ℕ}
    (h : ∀ a : ℕ, (r ≤ a ∧ a < r + n) ↔ (r0 ≤ a ∧ a < r0 + n0) ∨ (rt 0 ≤ a ∧ a < rt 0 + n0) ∨ (rt 1 ≤ a ∧ a < rt 1 + n0) ∨ (rt 2 ≤ a ∧ a < rt 2 + n0))
    (h0 : ∀ a : ℕ, (r0 ≤ a ∧ a < r0 + n0) → (rt 0 ≤ a ∧ a < rt 0 + n0) ∨ (rt 1 ≤ a ∧ a < rt 1 + n0) ∨ (rt 2 ≤ a ∧ a < rt 2 + n0) → False)
    (h1 : ∀ a : ℕ, (rt 0 ≤ a ∧ a < rt 0 + n0) → (rt 1 ≤ a ∧ a < rt 1 + n0) ∨ (rt 2 ≤ a ∧ a < rt 2 + n0) → False)
    (h2 : ∀ a : ℕ, (rt 1 ≤ a ∧ a < rt 1 + n0) → (rt 2 ≤ a ∧ a < rt 2 + n0) → False) :
    Quad (bx r n j w : Finset (Shape.Idx ⟨2, d⟩)) (bx r0 n0 j w) (fun s => bx (rt s) n0 j w) where
  eq := by
    ext i
    simp only [Finset.mem_union, mem_bx]
    rw [h, ← or_and_right, ← or_and_right, ← or_and_right]
  d0 := Finset.disjoint_left.mpr fun i hi hi' => by
    simp only [Finset.mem_union, mem_bx] at hi hi'
    rw [← or_and_right, ← or_and_right] at hi'
    exact h0 _ hi.1 hi'.1
  d1 := Finset.disjoint_left.mpr fun i hi hi' => by
    simp only [Finset.mem_union, mem_bx] at hi hi'
    rw [← or_and_right] at hi'
    exact h1 _ hi.1 hi'.1
  d2 := Finset.disjoint_left.mpr fun i hi hi' => h2 _ (mem_bx.mp hi).1 (mem_bx.mp hi').1

section Parts
variable (c : Dev nD)

theorem cutLR : Duo (Finset.univ : Finset S512x512.Idx) (bx 0 512 0 256) (bx 0 512 256 256) := by
  have h := duo_bx (d := ![512, 512]) (r := 0) (n := 512) (j := 0) (w := 512) (r1 := 0) (n1 := 512) (j1 := 0) (w1 := 256)
    (r2 := 0) (n2 := 512) (j2 := 256) (w2 := 256) (fun a b _ _ => by omega) (fun a b _ _ => by omega)
  rwa [show (bx 0 512 0 512 : Finset (Shape.Idx ⟨2, ![512, 512]⟩)) = Finset.univ from bx_univ] at h
theorem cutX : Duo (bx 0 512 0 256 : Finset S512x512.Idx) (bx (256 * (1 - xc c)) 256 0 256) (bx (pxa c) 256 0 256) := by
  have := xc_lt c
  unfold pxa
  exact duo_bx (fun a b ha hb => by have : a < 512 := ha; omega) (fun a b _ _ => by omega)
theorem cutYb : Quad (bx 0 512 256 256 : Finset S512x512.Idx) (bx (pyb c) 128 256 256) (fun d => bx (128 * ((yc c + d.val + 1) % 4)) 128 256 256) := by
  have := yc_lt c
  unfold pyb
  refine quad_bx (rt := fun d => 128 * ((yc c + d.val + 1) % 4)) ?_ ?_ ?_ ?_ <;> intro a <;> simp only [show ((0 : Fin 3)).val = 0 from rfl, show ((1 : Fin 3)).val = 1 from rfl, show ((2 : Fin 3)).val = 2 from rfl] <;> omega
theorem cutYb' : Quad (bx 0 512 256 256 : Finset S512x512.Idx) (bx (pyb c) 128 256 256) (fun d => bx (128 * ((yc c + 3 - d.val) % 4)) 128 256 256) := by
  have := yc_lt c
  unfold pyb
  refine quad_bx (rt := fun d => 128 * ((yc c + 3 - d.val) % 4)) ?_ ?_ ?_ ?_ <;> intro a <;> simp only [show ((0 : Fin 3)).val = 0 from rfl, show ((1 : Fin 3)).val = 1 from rfl, show ((2 : Fin 3)).val = 2 from rfl] <;> omega
theorem cutYa : Quad (bx (pxa c) 256 0 256 : Finset S512x512.Idx) (bx (pya c) 64 0 256) (fun d => bx (256 * xc c + 64 * ((yc c + d.val + 1) % 4)) 64 0 256) := by
  have := yc_lt c
  unfold pxa pya
  refine quad_bx (rt := fun d => 256 * xc c + 64 * ((yc c + d.val + 1) % 4)) ?_ ?_ ?_ ?_ <;> intro a <;> simp only [show ((0 : Fin 3)).val = 0 from rfl, show ((1 : Fin 3)).val = 1 from rfl, show ((2 : Fin 3)).val = 2 from rfl] <;> omega
theorem cutYa' : Quad (bx (pxa c) 256 0 256 : Finset S512x512.Idx) (bx (pya c) 64 0 256) (fun d => bx (256 * xc c + 64 * ((yc c + 3 - d.val) % 4)) 64 0 256) := by
  have := yc_lt c
  unfold pxa pya
  refine quad_bx (rt := fun d => 256 * xc c + 64 * ((yc c + 3 - d.val) % 4)) ?_ ?_ ?_ ?_ <;> intro a <;> simp only [show ((0 : Fin 3)).val = 0 from rfl, show ((1 : Fin 3)).val = 1 from rfl, show ((2 : Fin 3)).val = 2 from rfl] <;> omega
theorem cutZb : Quad (bx (pyb c) 128 256 256 : Finset S512x512.Idx) (bx (pzb c) 32 256 256) (fun d => bx (128 * yc c + 32 * ((zc c + d.val + 1) % 4)) 32 256 256) := by
  have := zc_lt c
  unfold pyb pzb
  refine quad_bx (rt := fun d => 128 * yc c + 32 * ((zc c + d.val + 1) % 4)) ?_ ?_ ?_ ?_ <;> intro a <;> simp only [show ((0 : Fin 3)).val = 0 from rfl, show ((1 : Fin 3)).val = 1 from rfl, show ((2 : Fin 3)).val = 2 from rfl] <;> omega
theorem cutZb' : Quad (bx (pyb c) 128 256 256 : Finset S512x512.Idx) (bx (pzb c) 32 256 256) (fun d => bx (128 * yc c + 32 * ((zc c + 3 - d.val) % 4)) 32 256 256) := by
  have := zc_lt c
  unfold pyb pzb
  refine quad_bx (rt := fun d => 128 * yc c + 32 * ((zc c + 3 - d.val) % 4)) ?_ ?_ ?_ ?_ <;> intro a <;> simp only [show ((0 : Fin 3)).val = 0 from rfl, show ((1 : Fin 3)).val = 1 from rfl, show ((2 : Fin 3)).val = 2 from rfl] <;> omega
end Parts

/-! ## The buffers' cuts -/

variable (A : Dev nD → Acc F) (c : Dev nD)

theorem splitA (f : Acc F) : ptA c Finset.univ fullShare f ⊢ iprop((ptA c (bx (256 * (1 - xc c)) 256 0 256) fullShare f ∗ ptA c (bx (pxa c) 256 0 256) fullShare f)
    ∗ ptA c (bx (pyb c) 128 256 256) fullShare f ∗ tri fun d => ptA c (bx (128 * ((yc c + d.val + 1) % 4)) 128 256 256) fullShare f) :=
  (pt_duo (b := cc0_scratch0) cutLR).1.trans (BIClass.sep_mono (pt_duo (b := cc0_scratch0) (cutX c)).1 (pt_quad (b := cc0_scratch0) (cutYb c)).1)
theorem splitYa (f : Acc F) : ptA c (bx (pxa c) 256 0 256) fullShare f ⊢ iprop(ptA c (bx (pya c) 64 0 256) fullShare f
    ∗ tri fun d => ptA c (bx (256 * xc c + 64 * ((yc c + d.val + 1) % 4)) 64 0 256) fullShare f) := (pt_quad (b := cc0_scratch0) (cutYa c)).1
theorem splitZb (f : Acc F) : ptA c (bx (pyb c) 128 256 256) fullShare f ⊢ iprop(ptA c (bx (pzb c) 32 256 256) fullShare f
    ∗ tri fun d => ptA c (bx (128 * yc c + 32 * ((zc c + d.val + 1) % 4)) 32 256 256) fullShare f) := (pt_quad (b := cc0_scratch0) (cutZb c)).1

/-- The accumulator, put together from what a layer leaves of it. -/
theorem joinA : iprop((S A .xa c ∗ tri fun d => S A (.yb d) c) ∗ (tri fun d => S A (.ya d) c) ∗ ptA c (bx (pya c) 64 0 256) fullShare (a2 A c)
    ∗ (tri fun d => S A (.zb d) c) ∗ ptA c (bx (pzb c) 32 256 256) fullShare (b2 A c)) ⊢ any cc0_scratch0 c Finset.univ := by
  have hx : S A .xa c ⊢ any cc0_scratch0 c (bx (256 * (1 - xc c)) 256 0 256) := pt_any (b := cc0_scratch0)
  have hyb : (tri fun d => S A (.yb d) c) ⊢ tri fun d => any cc0_scratch0 c (bx (128 * ((yc c + d.val + 1) % 4)) 128 256 256) :=
    tri_mono fun d => pt_any (b := cc0_scratch0)
  have hya : (tri fun d => S A (.ya d) c) ⊢ tri fun d => any cc0_scratch0 c (bx (256 * xc c + 64 * ((yc c + d.val + 1) % 4)) 64 0 256) :=
    tri_mono fun d => pt_any (b := cc0_scratch0)
  have hzb : (tri fun d => S A (.zb d) c) ⊢ tri fun d => any cc0_scratch0 c (bx (128 * yc c + 32 * ((zc c + d.val + 1) % 4)) 32 256 256) :=
    tri_mono fun d => pt_any (b := cc0_scratch0)
  iintro ⟨⟨Hx, Hyb⟩, Hya, Ha, Hzb, Hb⟩
  iapply (any_duo (b := cc0_scratch0) cutLR)
  isplitl [Hx Hya Ha]
  · iapply (any_duo (b := cc0_scratch0) (cutX c))
    isplitl [Hx]; · iapply hx $$ Hx
    iapply (any_quad (b := cc0_scratch0) (cutYa c))
    isplitl [Ha]; · iapply (pt_any (b := cc0_scratch0)) $$ Ha
    iapply hya $$ Hya
  · iapply (any_quad (b := cc0_scratch0) (cutYb c))
    isplitl [Hzb Hb]
    · iapply (any_quad (b := cc0_scratch0) (cutZb c))
      isplitl [Hb]; · iapply (pt_any (b := cc0_scratch0)) $$ Hb
      iapply hzb $$ Hzb
    iapply hyb $$ Hyb

/-- The activation, cut into the device's own parts and the places the gathers land in. -/
theorem splitH (f : Act F) : ptH c Finset.univ fullShare f ⊢ iprop((D .gxa c ∗ any cc0_scratch1 c (bx (pya c) 64 0 256) ∗ tri fun d => D (.gya d) c)
    ∗ (any cc0_scratch1 c (bx (pzb c) 32 256 256) ∗ tri fun d => D (.gzb d) c) ∗ tri fun d => D (.gyb d) c) :=
  (pt_duo (b := cc0_scratch1) cutLR).1.trans (BIClass.sep_mono
    ((pt_duo (b := cc0_scratch1) (cutX c)).1.trans (BIClass.sep_mono (pt_any (b := cc0_scratch1))
      ((pt_quad (b := cc0_scratch1) (cutYa' c)).1.trans (BIClass.sep_mono (pt_any (b := cc0_scratch1)) (tri_mono fun d => pt_any (b := cc0_scratch1))))))
    ((pt_quad (b := cc0_scratch1) (cutYb' c)).1.trans (BIClass.sep_mono
      ((pt_quad (b := cc0_scratch1) (cutZb' c)).1.trans (BIClass.sep_mono (pt_any (b := cc0_scratch1)) (tri_mono fun d => pt_any (b := cc0_scratch1))))
      (tri_mono fun d => pt_any (b := cc0_scratch1)))))

/-- The device's own parts are the gathered activation's. -/
theorem own_A : ptH c (bx (pya c) 64 0 256) fullShare (rl (a3 A c)) ⊢ tri fun d => S A (.gya d) c := by
  have h : ptH c (bx (pya c) 64 0 256) fullShare (rl (a3 A c)) = ptH c (bx (pya c) 64 0 256) fullShare (Hm A c) :=
    pointsTo_congr fun i hi => by
      obtain ⟨⟨h0, h1⟩, h2, h3⟩ := mem_bx.mp hi
      unfold pya at h0 h1
      have := xc_lt c
      have := yc_lt c
      unfold Hm ownA
      rw [if_pos (by omega), show (i 0).val / 256 = xc c by omega, show (i 0).val % 256 / 64 = yc c by omega, at_pos]
  rw [h]
  exact (pt_thd (b := cc0_scratch1)).1
theorem own_B : ptH c (bx (pzb c) 32 256 256) fullShare (rl (b3 A c)) ⊢ tri fun d => S A (.gzb d) c := by
  have h : ptH c (bx (pzb c) 32 256 256) fullShare (rl (b3 A c)) = ptH c (bx (pzb c) 32 256 256) fullShare (Hm A c) :=
    pointsTo_congr fun i hi => by
      obtain ⟨⟨h0, h1⟩, h2, h3⟩ := mem_bx.mp hi
      unfold pzb at h0 h1
      have := zc_lt c
      have := yc_lt c
      unfold Hm ownB
      rw [if_neg (by omega), show (i 0).val / 128 = yc c by omega, show (i 0).val % 128 / 32 = zc c by omega, at_pos]
  rw [h]
  exact (pt_thd (b := cc0_scratch1)).1

theorem splitZa : ptA c (bx (pya c) 64 0 256) fullShare (a2 A c) ⊢ tri fun d => S A (.za d) c := (pt_thd (b := cc0_scratch0)).1
theorem joinZa : (tri fun d => S A (.za d) c) ⊢ ptA c (bx (pya c) 64 0 256) fullShare (a2 A c) := (pt_thd (b := cc0_scratch0)).2

theorem joinGx : iprop((tri fun d => S A (.gya d) c) ∗ tri fun d => R A (.gya d) c) ⊢ S A .gxa c :=
  (sep_mono_left (pt_thd (b := cc0_scratch1)).2).trans (pt_quad (b := cc0_scratch1) (cutYa' c)).2
theorem joinGy : iprop((tri fun d => S A (.gzb d) c) ∗ tri fun d => R A (.gzb d) c) ⊢ tri fun d => S A (.gyb d) c :=
  ((sep_mono_left (pt_thd (b := cc0_scratch1)).2).trans (pt_quad (b := cc0_scratch1) (cutZb' c)).2).trans (pt_thd (b := cc0_scratch1)).1
theorem joinH : iprop((S A .gxa c ∗ R A .gxa c) ∗ (tri fun d => S A (.gyb d) c) ∗ tri fun d => R A (.gyb d) c) ⊢ ptH c Finset.univ fullShare (Hm A c) :=
  (BIClass.sep_mono (sep_symm.trans (pt_duo (b := cc0_scratch1) (cutX c)).2)
    ((sep_mono_left (pt_thd (b := cc0_scratch1)).2).trans (pt_quad (b := cc0_scratch1) (cutYb' c)).2)).trans (pt_duo (b := cc0_scratch1) cutLR).2

end Cert.MlpProof
end
-- ==== Proof.Class.lean ====
/-
# Three copies at a time

The copies along a ring go out three together and are waited for three together.
-/
module

public import proofs.«01_k».proof.Proof.Region

@[expose] public section

noncomputable section

namespace Cert.MlpProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Rights, from the sender's and from the receiver's side -/

/-- The right to send the copy `k`. -/
abbrev Rr (k : Kd) (l : ℕ) (c : Dev nD) : sProp 𝕄 := E k l (dst k c)

/-- What device `c` attaches to the copy `k`: rights to send to it. -/
def fbo (k : Kd) (l : ℕ) (c : Dev nD) : sProp 𝕄 := match k with
  | .xa => E .gxa l c
  | .yb d => E (.gyb d.rev) l c
  | .ya d => E (.gya d.rev) l c
  | .zb d => E (.gzb d.rev) l c
  | .za _ => iprop(emp)
  | .xb => iprop(emp)
  | .gya d => if l < 2 then E (.ya d.rev) (l + 1) c else iprop(emp)
  | .gzb d => if l < 2 then iprop(E (.zb d.rev) (l + 1) c ∗ E (.za d.rev) (l + 1) c) else iprop(emp)
  | .gxa => if l < 2 then iprop(E .xa (l + 1) c ∗ E .xb (l + 1) c) else iprop(emp)
  | .gyb d => if l < 2 then E (.yb d.rev) (l + 1) c else iprop(emp)

theorem fb_dst (k : Kd) (l : ℕ) (c : Dev nD) : fb (F := F) k l (dst k c) = fbo k l c := by
  cases k <;> simp only [fb, fbo, dst, xp_xp, yn_rev, zn_rev]

theorem cls_le (k : Kd) : cls k ≤ 9 := by cases k <;> simp [cls]

/-! ## One copy -/

variable (A : ℕ → Dev nD → Acc F) (K : Dev nD × Fin 63 → ℕ) (c : Dev nD) (l : ℕ) (hl : l < 3)
include hl

theorem snd1_ok (k : Kd) (ks : List Kd) (O : CellTallies nD τ sig ℕ) :
    iprop(Ctx A K ∗ Tok k l c ∗ S (A l) k c ∗ Rr k l c ∗ fbo k l c ∗ ow c (oweK c l (k :: ks) O))
      ⊢ WP c (snd c (dv c k) k) (fun _ => iprop(MidS k l c ∗ MidR k l c ∗ ow c (oweK c l ks O))) := by
  have h := snd_ok A K k c l hl (oweK c l ks O)
  unfold SndP at h
  rwa [fb_dst] at h

theorem wtS1_ok (k : Kd) (ks : List Kd) (O : CellTallies nD τ sig ℕ) (hO : Ab (2 + 10 * l + 9) O) :
    iprop(Ctx A K ∗ MidS k l c ∗ ow c (oweK c l ks O)) ⊢ WP c (wtS c k) (fun _ => iprop(Ds k l c ∗ S (A l) k c ∗ ow c (oweK c l ks O))) :=
  wtS_ok A K k c l hl _ (Ab_oweK c hl (Ab_mono (Nat.zero_le _) hO) ks fun k' _ => by omega)

theorem wtR1_ok (k : Kd) (ks : List Kd) (O : CellTallies nD τ sig ℕ) (hO : Ab (2 + 10 * l + 9) O) (h : ∀ k' ∈ ks, cls k < cls k') :
    iprop(Ctx A K ∗ MidR k l c ∗ ow c (oweK c l ks O))
      ⊢ WP c (wtR c k) (fun _ => iprop(Dr k l c ∗ (R (A l) k c ∗ fb k l c) ∗ ow c (oweK c l ks O))) :=
  wtR_ok A K k c l hl _ (Ab_oweK c hl (Ab_mono (by have := cls_le k; omega) hO) ks fun k' hk' => by have := h k' hk'; omega)

/-! ## Three -/

theorem snd3_ok (k : Fin 3 → Kd) (ks : List Kd) (O : CellTallies nD τ sig ℕ) :
    iprop(Ctx A K ∗ (tri fun d => Tok (k d) l c) ∗ (tri fun d => S (A l) (k d) c) ∗ (tri fun d => Rr (k d) l c) ∗ (tri fun d => fbo (k d) l c)
        ∗ ow c (oweK c l (k 0 :: k 1 :: k 2 :: ks) O))
      ⊢ WP c (snd3 c k) (fun _ => iprop((tri fun d => MidS (k d) l c) ∗ (tri fun d => MidR (k d) l c) ∗ ow c (oweK c l ks O))) := by
  unfold tri snd3
  iintro ⟨#HC, ⟨T0, T1, T2⟩, ⟨S0, S1, S2⟩, ⟨E0, E1, E2⟩, ⟨F0, F1, F2⟩, HO⟩
  iapply (step (snd1_ok A K c l hl (k 0) (k 1 :: k 2 :: ks) O)) $$ [T0 S0 E0 F0 HO]
  · isplitr; · iexact HC
    isplitl [T0]; · iexact T0
    isplitl [S0]; · iexact S0
    isplitl [E0]; · iexact E0
    isplitl [F0] <;> iassumption
  iintro ⟨M0, N0, HO⟩
  iapply (step (snd1_ok A K c l hl (k 1) (k 2 :: ks) O)) $$ [T1 S1 E1 F1 HO]
  · isplitr; · iexact HC
    isplitl [T1]; · iexact T1
    isplitl [S1]; · iexact S1
    isplitl [E1]; · iexact E1
    isplitl [F1] <;> iassumption
  iintro ⟨M1, N1, HO⟩
  ihave H := (snd1_ok A K c l hl (k 2) ks O) $$ [T2 S2 E2 F2 HO]
  · isplitr; · iexact HC
    isplitl [T2]; · iexact T2
    isplitl [S2]; · iexact S2
    isplitl [E2]; · iexact E2
    isplitl [F2] <;> iassumption
  iapply (wp_wand frame (wpE (defs₀ (F := F)) 𝒱₀ (c : Thread nD τ) none) Set.univ) $$ H
  iintro %a ⟨M2, N2, HO⟩
  isplitl [M0 M1 M2]
  · isplitl [M0]; · iexact M0
    isplitl [M1] <;> iassumption
  isplitl [N0 N1 N2]
  · isplitl [N0]; · iexact N0
    isplitl [N1] <;> iassumption
  iexact HO

theorem wt2_ok (k : Kd) (ks : List Kd) (O : CellTallies nD τ sig ℕ) (hO : Ab (2 + 10 * l + 9) O) (h : ∀ k' ∈ ks, cls k < cls k')
    {p : Prog (TpuEff nD τ sig (Elt F) Λ₀ .tc) PUnit} {Φ : PUnit → sProp 𝕄} :
    iprop(Ctx A K ∗ MidS k l c ∗ MidR k l c ∗ ow c (oweK c l ks O)
        ∗ (((Ds k l c ∗ Dr k l c) ∗ S (A l) k c ∗ R (A l) k c ∗ fb k l c ∗ ow c (oweK c l ks O)) -∗ WP c p Φ))
      ⊢ WP c (wtR c k >>= fun _ => wtS c k >>= fun _ => p) Φ := by
  iintro ⟨#HC, M, N, HO, Hk⟩
  iapply (step (wtR1_ok A K c l hl k ks O hO h)) $$ [N HO]
  · isplitr; · iexact HC
    isplitl [N] <;> iassumption
  iintro ⟨D, ⟨R, B⟩, HO⟩
  iapply (step (wtS1_ok A K c l hl k ks O hO)) $$ [M HO]
  · isplitr; · iexact HC
    isplitl [M] <;> iassumption
  iintro ⟨D', S, HO⟩
  iapply Hk
  isplitl [D D']; · isplitl [D'] <;> iassumption
  isplitl [S]; · iexact S
  isplitl [R]; · iexact R
  isplitl [B] <;> iassumption

theorem wt3_ok (k : Fin 3 → Kd) (ks : List Kd) (O : CellTallies nD τ sig ℕ) (hO : Ab (2 + 10 * l + 9) O) (h : ∀ d, ∀ k' ∈ ks, cls (k d) < cls k') :
    iprop(Ctx A K ∗ (tri fun d => MidS (k d) l c) ∗ (tri fun d => MidR (k d) l c) ∗ ow c (oweK c l ks O))
      ⊢ WP c (wt3 c k) (fun _ => iprop((tri fun d => iprop(Ds (k d) l c ∗ Dr (k d) l c)) ∗ (tri fun d => S (A l) (k d) c) ∗ (tri fun d => R (A l) (k d) c)
          ∗ (tri fun d => fb (k d) l c) ∗ ow c (oweK c l ks O))) := by
  unfold tri wt3
  iintro ⟨#HC, ⟨M0, M1, M2⟩, ⟨N0, N1, N2⟩, HO⟩
  iapply (wt2_ok A K c l hl (k 0) ks O hO (h 0))
  isplitr; · iexact HC
  isplitl [M0]; · iexact M0
  isplitl [N0]; · iexact N0
  isplitl [HO]; · iexact HO
  iintro ⟨D0, S0, R0, B0, HO⟩
  iapply (wt2_ok A K c l hl (k 1) ks O hO (h 1))
  isplitr; · iexact HC
  isplitl [M1]; · iexact M1
  isplitl [N1]; · iexact N1
  isplitl [HO]; · iexact HO
  iintro ⟨D1, S1, R1, B1, HO⟩
  iapply (step (wtR1_ok A K c l hl (k 2) ks O hO (h 2))) $$ [N2 HO]
  · isplitr; · iexact HC
    isplitl [N2] <;> iassumption
  iintro ⟨D2, ⟨R2, B2⟩, HO⟩
  ihave H := (wtS1_ok A K c l hl (k 2) ks O hO) $$ [M2 HO]
  · isplitr; · iexact HC
    isplitl [M2] <;> iassumption
  iapply (wp_wand frame (wpE (defs₀ (F := F)) 𝒱₀ (c : Thread nD τ) none) Set.univ) $$ H
  iintro %a ⟨D', S2, HO⟩
  isplitl [D0 D1 D2 D']
  · isplitl [D0]; · iexact D0
    isplitl [D1]; · iexact D1
    isplitl [D'] <;> iassumption
  isplitl [S0 S1 S2]
  · isplitl [S0]; · iexact S0
    isplitl [S1] <;> iassumption
  isplitl [R0 R1 R2]
  · isplitl [R0]; · iexact R0
    isplitl [R1] <;> iassumption
  isplitl [B0 B1 B2]
  · isplitl [B0]; · iexact B0
    isplitl [B1] <;> iassumption
  iexact HO

end Cert.MlpProof
end
-- ==== Proof.Halves.lean ====
/-
# The two halves of a layer

The reduction leaves every device its own parts of the activation; the gathering leaves it all of it. Both are written for
any layer `l`, with the rights and tokens of exactly that layer.
-/
module

public import proofs.«01_k».proof.Proof.Class

@[expose] public section

noncomputable section

namespace Cert.MlpProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem tri_rev' (P : Fin 3 → sProp 𝕄) : tri P ⊢ tri (fun d => P d.rev) := tri_rev fun d => P d.rev

/-- A copy's two positions after its waits. -/
abbrev Dn (k : Kd) (l : ℕ) (c : Dev nD) : sProp 𝕄 := iprop(Ds k l c ∗ Dr k l c)

/-- What stays with the device when nothing more is sent. -/
def kp (l : ℕ) (P : sProp 𝕄) : sProp 𝕄 := if l < 2 then iprop(emp) else P
def gv (l : ℕ) (P : sProp 𝕄) : sProp 𝕄 := if l < 2 then P else iprop(emp)
theorem gv_kp (l : ℕ) (P : sProp 𝕄) : P ⊢ iprop(gv l P ∗ kp l P) := by
  unfold gv kp
  split
  · iintro H; isplitl [H]; · iexact H
    iempintro
  · iintro H; isplitr; · iempintro
    iexact H

/-- A landing buffer is free for the next layer. -/
theorem free (A : Dev nD → Acc F) (k : Kd) (l : ℕ) (c : Dev nD) : iprop(Dr k l c ∗ R A k c) ⊢ iprop(Dr k l c ∗ E k (l + 1) c) := by
  unfold Dr E
  iintro ⟨⟨H, #Hr⟩, HR⟩
  isplitl [H]
  · isplitl [H]; · iexact H
    iexact Hr
  isplitl [HR]; · iapply (R_D A k c) $$ HR
  iexact Hr

section Cuts
variable (A : Dev nD → Acc F) (c : Dev nD)
theorem cut_A : ptA c Finset.univ fullShare (A c) ⊢ iprop((S A .xa c ∗ ptA c (bx (pxa c) 256 0 256) fullShare (A c))
    ∗ ptA c (bx (pyb c) 128 256 256) fullShare (A c) ∗ tri fun d => S A (.yb d) c) := splitA c (A c)
theorem cut_Ya : ptA c (bx (pxa c) 256 0 256) fullShare (a1 A c) ⊢ iprop(ptA c (bx (pya c) 64 0 256) fullShare (a1 A c)
    ∗ tri fun d => S A (.ya d) c) := splitYa c _
theorem cut_Zb : ptA c (bx (pyb c) 128 256 256) fullShare (b1 A c) ⊢ iprop(ptA c (bx (pzb c) 32 256 256) fullShare (b1 A c)
    ∗ tri fun d => S A (.zb d) c) := splitZb c _
theorem is_Xb : ptA c (bx (pzb c) 32 256 256) fullShare (b2 A c) ⊢ S A .xb c := .rfl
theorem is_Xb' : S A .xb c ⊢ ptA c (bx (pzb c) 32 256 256) fullShare (b2 A c) := .rfl
theorem reluA_any : iprop(ptA c (bx (pya c) 64 0 256) fullShare (a2 A c) ∗ any cc0_scratch1 c (bx (pya c) 64 0 256) ∗ tri (fun d => R A (.za d) c))
    ⊢ WP c (reluA c) (fun _ => iprop(ptA c (bx (pya c) 64 0 256) fullShare (a2 A c) ∗ ptH c (bx (pya c) 64 0 256) fullShare (rl (a3 A c))
        ∗ tri (fun d => R A (.za d) c))) := reluA_ok A c
theorem reluB_any : iprop(ptA c (bx (pzb c) 32 256 256) fullShare (b2 A c) ∗ any cc0_scratch1 c (bx (pzb c) 32 256 256) ∗ R A .xb c)
    ⊢ WP c (reluB c) (fun _ => iprop(ptA c (bx (pzb c) 32 256 256) fullShare (b2 A c) ∗ ptH c (bx (pzb c) 32 256 256) fullShare (rl (b3 A c))
        ∗ R A .xb c)) := reluB_ok A c
theorem give_X (l : ℕ) : iprop(E .xa (l + 1) c ∗ E .xb (l + 1) c) ⊢ iprop(fbo (F := F) .gxa l c ∗ kp l iprop(E .xa (l + 1) c ∗ E .xb (l + 1) c)) := gv_kp l _
theorem emp_za (l : ℕ) : iprop(emp) ⊢ tri fun d => fbo (F := F) (.za d) l c := by
  show iprop(emp) ⊢ iprop(emp ∗ emp ∗ emp)
  iintro -
  isplitr; · iempintro
  isplitr <;> iempintro
theorem emp_xb (l : ℕ) : iprop(emp) ⊢ fbo (F := F) .xb l c := .rfl
end Cuts

variable (A : ℕ → Dev nD → Acc F) (K : Dev nD × Fin 63 → ℕ) (c : Dev nD) (l : ℕ) (hl : l < 3)

/-- The copies of the gathering, in the order they are sent. -/
def ordG : List Kd := [.gya 0, .gya 1, .gya 2, .gzb 0, .gzb 1, .gzb 2, .gxa, .gyb 0, .gyb 1, .gyb 2]

include hl

theorem red_ok (O : CellTallies nD τ sig ℕ) (hO : Ab (2 + 10 * l + 9) O) :
    iprop(
Ctx A K
        ∗ ptA c Finset.univ fullShare (A l c)
        ∗ any cc0_scratch1 c (bx (pya c) 64 0 256)
        ∗ Tok .xa l c
        ∗ (tri fun d => Tok (.yb d) l c)
        ∗ (tri fun d => Tok (.ya d) l c)
        ∗ (tri fun d => Tok (.zb d) l c)
        ∗ (tri fun d => Tok (.za d) l c)
        ∗ Tok .xb l c
        ∗ Rr .xa l c
        ∗ (tri fun d => Rr (.yb d) l c)
        ∗ (tri fun d => Rr (.ya d) l c)
        ∗ (tri fun d => Rr (.zb d) l c)
        ∗ (tri fun d => Rr (.za d) l c)
        ∗ Rr .xb l c
        ∗ fbo .xa l c
        ∗ (tri fun d => fbo (.yb d) l c)
        ∗ (tri fun d => fbo (.ya d) l c)
        ∗ (tri fun d => fbo (.zb d) l c)
        ∗ ow c (oweK c l ord O))
      ⊢ WP c (redP c) (fun _ => iprop(Dn .xa l c
        ∗ (tri fun d => Dn (.yb d) l c)
        ∗ (tri fun d => Dn (.ya d) l c)
        ∗ (tri fun d => Dn (.zb d) l c)
        ∗ (tri fun d => Dn (.za d) l c)
        ∗ MidS .xb l c
        ∗ MidR .xb l c
        ∗ fb .xa l c
        ∗ (tri fun d => fb (.yb d) l c)
        ∗ (tri fun d => fb (.ya d) l c)
        ∗ (tri fun d => fb (.zb d) l c)
        ∗ R (A l) .xa c
        ∗ (tri fun d => R (A l) (.yb d) c)
        ∗ (tri fun d => R (A l) (.ya d) c)
        ∗ (tri fun d => R (A l) (.zb d) c)
        ∗ (tri fun d => R (A l) (.za d) c)
        ∗ S (A l) .xa c
        ∗ (tri fun d => S (A l) (.yb d) c)
        ∗ (tri fun d => S (A l) (.ya d) c)
        ∗ (tri fun d => S (A l) (.zb d) c)
        ∗ ptA c (bx (pya c) 64 0 256) fullShare (a2 (A l) c)
        ∗ (tri fun d => S (A l) (.gya d) c)
        ∗ ow c (oweK c l ordG O))) := by
  unfold ord redP
  iintro ⟨#HC, Ha, Hh, Txa, Tyb, Tya, Tzb, Tza, Txb, Exa, Eyb, Eya, Ezb, Eza, Exb, Fxa, Fyb, Fya, Fzb, HO⟩
  ihave Hs := (cut_A (A l) c) $$ Ha
  icases Hs with ⟨⟨Sxa, Pxa⟩, Pyb, Syb⟩
  iapply (step (snd1_ok A K c l hl .xa [.yb 0, .yb 1, .yb 2, .ya 0, .ya 1, .ya 2, .zb 0, .zb 1, .zb 2, .za 0, .za 1, .za 2, .xb, .gya 0, .gya 1, .gya 2, .gzb 0, .gzb 1, .gzb 2, .gxa, .gyb 0, .gyb 1, .gyb 2] O)) $$ [Txa Sxa Exa Fxa HO]
  · isplitr; · iexact HC
    isplitl [Txa]; · iexact Txa
    isplitl [Sxa]; · iexact Sxa
    isplitl [Exa]; · iexact Exa
    isplitl [Fxa]; · iexact Fxa
    iexact HO
  iintro ⟨Mxa, Nxa, HO⟩
  iapply (step (snd3_ok A K c l hl .yb [.ya 0, .ya 1, .ya 2, .zb 0, .zb 1, .zb 2, .za 0, .za 1, .za 2, .xb, .gya 0, .gya 1, .gya 2, .gzb 0, .gzb 1, .gzb 2, .gxa, .gyb 0, .gyb 1, .gyb 2] O)) $$ [Tyb Syb Eyb Fyb HO]
  · isplitr; · iexact HC
    isplitl [Tyb]; · iexact Tyb
    isplitl [Syb]; · iexact Syb
    isplitl [Eyb]; · iexact Eyb
    isplitl [Fyb]; · iexact Fyb
    iexact HO
  iintro ⟨Myb, Nyb, HO⟩
  iapply (step (wtS1_ok A K c l hl .xa [.ya 0, .ya 1, .ya 2, .zb 0, .zb 1, .zb 2, .za 0, .za 1, .za 2, .xb, .gya 0, .gya 1, .gya 2, .gzb 0, .gzb 1, .gzb 2, .gxa, .gyb 0, .gyb 1, .gyb 2] O hO)) $$ [Mxa HO]
  · isplitr; · iexact HC
    isplitl [Mxa]; · iexact Mxa
    iexact HO
  iintro ⟨Dsxa, Sxa, HO⟩
  iapply (step (wtR1_ok A K c l hl .xa [.ya 0, .ya 1, .ya 2, .zb 0, .zb 1, .zb 2, .za 0, .za 1, .za 2, .xb, .gya 0, .gya 1, .gya 2, .gzb 0, .gzb 1, .gzb 2, .gxa, .gyb 0, .gyb 1, .gyb 2] O hO (by decide))) $$ [Nxa HO]
  · isplitr; · iexact HC
    isplitl [Nxa]; · iexact Nxa
    iexact HO
  iintro ⟨Drxa, ⟨Rxa, Bxa⟩, HO⟩
  iapply (step (addXa_ok (A l) c)) $$ [Pxa Rxa]
  · isplitl [Pxa]; · iexact Pxa
    iexact Rxa
  iintro ⟨Pxa, Rxa⟩
  ihave Hs := (cut_Ya (A l) c) $$ Pxa
  icases Hs with ⟨Pya, Sya⟩
  iapply (step (snd3_ok A K c l hl .ya [.zb 0, .zb 1, .zb 2, .za 0, .za 1, .za 2, .xb, .gya 0, .gya 1, .gya 2, .gzb 0, .gzb 1, .gzb 2, .gxa, .gyb 0, .gyb 1, .gyb 2] O)) $$ [Tya Sya Eya Fya HO]
  · isplitr; · iexact HC
    isplitl [Tya]; · iexact Tya
    isplitl [Sya]; · iexact Sya
    isplitl [Eya]; · iexact Eya
    isplitl [Fya]; · iexact Fya
    iexact HO
  iintro ⟨Mya, Nya, HO⟩
  iapply (step (wt3_ok A K c l hl .yb [.zb 0, .zb 1, .zb 2, .za 0, .za 1, .za 2, .xb, .gya 0, .gya 1, .gya 2, .gzb 0, .gzb 1, .gzb 2, .gxa, .gyb 0, .gyb 1, .gyb 2] O hO (by decide))) $$ [Myb Nyb HO]
  · isplitr; · iexact HC
    isplitl [Myb]; · iexact Myb
    isplitl [Nyb]; · iexact Nyb
    iexact HO
  iintro ⟨Dyb, Syb, Ryb, Byb, HO⟩
  iapply (step (addYb_ok (A l) c)) $$ [Pyb Ryb]
  · isplitl [Pyb]; · iexact Pyb
    iexact Ryb
  iintro ⟨Pyb, Ryb⟩
  ihave Hs := (cut_Zb (A l) c) $$ Pyb
  icases Hs with ⟨Pzb, Szb⟩
  iapply (step (snd3_ok A K c l hl .zb [.za 0, .za 1, .za 2, .xb, .gya 0, .gya 1, .gya 2, .gzb 0, .gzb 1, .gzb 2, .gxa, .gyb 0, .gyb 1, .gyb 2] O)) $$ [Tzb Szb Ezb Fzb HO]
  · isplitr; · iexact HC
    isplitl [Tzb]; · iexact Tzb
    isplitl [Szb]; · iexact Szb
    isplitl [Ezb]; · iexact Ezb
    isplitl [Fzb]; · iexact Fzb
    iexact HO
  iintro ⟨Mzb, Nzb, HO⟩
  iapply (step (wt3_ok A K c l hl .ya [.za 0, .za 1, .za 2, .xb, .gya 0, .gya 1, .gya 2, .gzb 0, .gzb 1, .gzb 2, .gxa, .gyb 0, .gyb 1, .gyb 2] O hO (by decide))) $$ [Mya Nya HO]
  · isplitr; · iexact HC
    isplitl [Mya]; · iexact Mya
    isplitl [Nya]; · iexact Nya
    iexact HO
  iintro ⟨Dya, Sya, Rya, Bya, HO⟩
  iapply (step (addYa_ok (A l) c)) $$ [Pya Rya]
  · isplitl [Pya]; · iexact Pya
    iexact Rya
  iintro ⟨Pya, Rya⟩
  ihave Sza := (splitZa (A l) c) $$ Pya
  iapply (step (snd3_ok A K c l hl .za [.xb, .gya 0, .gya 1, .gya 2, .gzb 0, .gzb 1, .gzb 2, .gxa, .gyb 0, .gyb 1, .gyb 2] O)) $$ [Tza Sza Eza HO]
  · isplitr; · iexact HC
    isplitl [Tza]; · iexact Tza
    isplitl [Sza]; · iexact Sza
    isplitl [Eza]; · iexact Eza
    isplitr; · iapply (emp_za c l); iempintro
    iexact HO
  iintro ⟨Mza, Nza, HO⟩
  iapply (step (wt3_ok A K c l hl .zb [.xb, .gya 0, .gya 1, .gya 2, .gzb 0, .gzb 1, .gzb 2, .gxa, .gyb 0, .gyb 1, .gyb 2] O hO (by decide))) $$ [Mzb Nzb HO]
  · isplitr; · iexact HC
    isplitl [Mzb]; · iexact Mzb
    isplitl [Nzb]; · iexact Nzb
    iexact HO
  iintro ⟨Dzb, Szb, Rzb, Bzb, HO⟩
  iapply (step (addZb_ok (A l) c)) $$ [Pzb Rzb]
  · isplitl [Pzb]; · iexact Pzb
    iexact Rzb
  iintro ⟨Pzb, Rzb⟩
  ihave Sxb := (is_Xb (A l) c) $$ Pzb
  iapply (step (snd1_ok A K c l hl .xb [.gya 0, .gya 1, .gya 2, .gzb 0, .gzb 1, .gzb 2, .gxa, .gyb 0, .gyb 1, .gyb 2] O)) $$ [Txb Sxb Exb HO]
  · isplitr; · iexact HC
    isplitl [Txb]; · iexact Txb
    isplitl [Sxb]; · iexact Sxb
    isplitl [Exb]; · iexact Exb
    isplitr; · iapply (emp_xb c l); iempintro
    iexact HO
  iintro ⟨Mxb, Nxb, HO⟩
  iapply (step (wt3_ok A K c l hl .za [.gya 0, .gya 1, .gya 2, .gzb 0, .gzb 1, .gzb 2, .gxa, .gyb 0, .gyb 1, .gyb 2] O hO (by decide))) $$ [Mza Nza HO]
  · isplitr; · iexact HC
    isplitl [Mza]; · iexact Mza
    isplitl [Nza]; · iexact Nza
    iexact HO
  iintro ⟨Dza, Sza, Rza, -, HO⟩
  ihave Pya := (joinZa (A l) c) $$ Sza
  ihave H := (reluA_any (A l) c) $$ [Pya Hh Rza]
  · isplitl [Pya]; · iexact Pya
    isplitl [Hh]; · iexact Hh
    iexact Rza
  iapply (wp_wand frame (wpE (defs₀ (F := F)) 𝒱₀ (c : Thread nD τ) none) Set.univ) $$ H
  iintro %_a ⟨Pya, Hh, Rza⟩
  ihave Sgya := (own_A (A l) c) $$ Hh
  isplitl [Dsxa Drxa]; · isplitl [Dsxa] <;> iassumption
  isplitl [Dyb]; · iexact Dyb
  isplitl [Dya]; · iexact Dya
  isplitl [Dzb]; · iexact Dzb
  isplitl [Dza]; · iexact Dza
  isplitl [Mxb]; · iexact Mxb
  isplitl [Nxb]; · iexact Nxb
  isplitl [Bxa]; · iexact Bxa
  isplitl [Byb]; · iexact Byb
  isplitl [Bya]; · iexact Bya
  isplitl [Bzb]; · iexact Bzb
  isplitl [Rxa]; · iexact Rxa
  isplitl [Ryb]; · iexact Ryb
  isplitl [Rya]; · iexact Rya
  isplitl [Rzb]; · iexact Rzb
  isplitl [Rza]; · iexact Rza
  isplitl [Sxa]; · iexact Sxa
  isplitl [Syb]; · iexact Syb
  isplitl [Sya]; · iexact Sya
  isplitl [Szb]; · iexact Szb
  isplitl [Pya]; · iexact Pya
  isplitl [Sgya]; · iexact Sgya
  iexact HO

theorem gat_ok (O : CellTallies nD τ sig ℕ) (hO : Ab (2 + 10 * l + 9) O) :
    iprop(Ctx A K
        ∗ any cc0_scratch1 c (bx (pzb c) 32 256 256)
        ∗ MidS .xb l c
        ∗ MidR .xb l c
        ∗ (tri fun d => S (A l) (.gya d) c)
        ∗ (tri fun d => Tok (.gya d) l c)
        ∗ (tri fun d => Tok (.gzb d) l c)
        ∗ Tok .gxa l c
        ∗ (tri fun d => Tok (.gyb d) l c)
        ∗ (tri fun d => Rr (.gya d) l c)
        ∗ (tri fun d => Rr (.gzb d) l c)
        ∗ Rr .gxa l c
        ∗ (tri fun d => Rr (.gyb d) l c)
        ∗ (tri fun d => fbo (.gya d) l c)
        ∗ (tri fun d => fbo (.gzb d) l c)
        ∗ (tri fun d => fbo (.gyb d) l c)
        ∗ E .xa (l + 1) c
        ∗ ow c (oweK c l ordG O))
      ⊢ WP c (gatP c) (fun _ => iprop(Dn .xb l c
        ∗ (tri fun d => Dn (.gya d) l c)
        ∗ (tri fun d => Dn (.gzb d) l c)
        ∗ Dn .gxa l c
        ∗ (tri fun d => Dn (.gyb d) l c)
        ∗ ptA c (bx (pzb c) 32 256 256) fullShare (b2 (A l) c)
        ∗ ptH c Finset.univ fullShare (Hm (A l) c)
        ∗ (tri fun d => fb (.gya d) l c)
        ∗ (tri fun d => fb (.gzb d) l c)
        ∗ fb .gxa l c
        ∗ (tri fun d => fb (.gyb d) l c)
        ∗ kp l iprop(E .xa (l + 1) c ∗ E .xb (l + 1) c)
        ∗ ow c O)) := by
  unfold ordG gatP
  iintro ⟨#HC, Hh, Mxb, Nxb, Sgya, Tgya, Tgzb, Tgxa, Tgyb, Egya, Egzb, Egxa, Egyb, Fgya, Fgzb, Fgyb, Exa, HO⟩
  iapply (step (snd3_ok A K c l hl .gya [.gzb 0, .gzb 1, .gzb 2, .gxa, .gyb 0, .gyb 1, .gyb 2] O)) $$ [Tgya Sgya Egya Fgya HO]
  · isplitr; · iexact HC
    isplitl [Tgya]; · iexact Tgya
    isplitl [Sgya]; · iexact Sgya
    isplitl [Egya]; · iexact Egya
    isplitl [Fgya]; · iexact Fgya
    iexact HO
  iintro ⟨Mgya, Ngya, HO⟩
  iapply (step (wtS1_ok A K c l hl .xb [.gzb 0, .gzb 1, .gzb 2, .gxa, .gyb 0, .gyb 1, .gyb 2] O hO)) $$ [Mxb HO]
  · isplitr; · iexact HC
    isplitl [Mxb]; · iexact Mxb
    iexact HO
  iintro ⟨Dsxb, Sxb, HO⟩
  iapply (step (wtR1_ok A K c l hl .xb [.gzb 0, .gzb 1, .gzb 2, .gxa, .gyb 0, .gyb 1, .gyb 2] O hO (by decide))) $$ [Nxb HO]
  · isplitr; · iexact HC
    isplitl [Nxb]; · iexact Nxb
    iexact HO
  iintro ⟨Drxb, ⟨Rxb, -⟩, HO⟩
  ihave Pzb := (is_Xb' (A l) c) $$ Sxb
  iapply (step (reluB_any (A l) c)) $$ [Pzb Hh Rxb]
  · isplitl [Pzb]; · iexact Pzb
    isplitl [Hh]; · iexact Hh
    iexact Rxb
  iintro ⟨Pzb, Hh, Rxb⟩
  ihave Sgzb := (own_B (A l) c) $$ Hh
  ihave Hs := (free (A l) .xb l c) $$ [Drxb Rxb]
  · isplitl [Drxb] <;> iassumption
  icases Hs with ⟨Drxb, Exb⟩
  ihave Hs := (give_X c l) $$ [Exa Exb]
  · isplitl [Exa] <;> iassumption
  icases Hs with ⟨Fgxa, Hkp⟩
  iapply (step (snd3_ok A K c l hl .gzb [.gxa, .gyb 0, .gyb 1, .gyb 2] O)) $$ [Tgzb Sgzb Egzb Fgzb HO]
  · isplitr; · iexact HC
    isplitl [Tgzb]; · iexact Tgzb
    isplitl [Sgzb]; · iexact Sgzb
    isplitl [Egzb]; · iexact Egzb
    isplitl [Fgzb]; · iexact Fgzb
    iexact HO
  iintro ⟨Mgzb, Ngzb, HO⟩
  iapply (step (wt3_ok A K c l hl .gya [.gxa, .gyb 0, .gyb 1, .gyb 2] O hO (by decide))) $$ [Mgya Ngya HO]
  · isplitr; · iexact HC
    isplitl [Mgya]; · iexact Mgya
    isplitl [Ngya]; · iexact Ngya
    iexact HO
  iintro ⟨Dgya, Sgya, Rgya, Bgya, HO⟩
  ihave Sgxa := (joinGx (A l) c) $$ [Sgya Rgya]
  · isplitl [Sgya] <;> iassumption
  iapply (step (snd1_ok A K c l hl .gxa [.gyb 0, .gyb 1, .gyb 2] O)) $$ [Tgxa Sgxa Egxa Fgxa HO]
  · isplitr; · iexact HC
    isplitl [Tgxa]; · iexact Tgxa
    isplitl [Sgxa]; · iexact Sgxa
    isplitl [Egxa]; · iexact Egxa
    isplitl [Fgxa]; · iexact Fgxa
    iexact HO
  iintro ⟨Mgxa, Ngxa, HO⟩
  iapply (step (wt3_ok A K c l hl .gzb [.gyb 0, .gyb 1, .gyb 2] O hO (by decide))) $$ [Mgzb Ngzb HO]
  · isplitr; · iexact HC
    isplitl [Mgzb]; · iexact Mgzb
    isplitl [Ngzb]; · iexact Ngzb
    iexact HO
  iintro ⟨Dgzb, Sgzb, Rgzb, Bgzb, HO⟩
  ihave Sgyb := (joinGy (A l) c) $$ [Sgzb Rgzb]
  · isplitl [Sgzb] <;> iassumption
  iapply (step (snd3_ok A K c l hl .gyb [] O)) $$ [Tgyb Sgyb Egyb Fgyb HO]
  · isplitr; · iexact HC
    isplitl [Tgyb]; · iexact Tgyb
    isplitl [Sgyb]; · iexact Sgyb
    isplitl [Egyb]; · iexact Egyb
    isplitl [Fgyb]; · iexact Fgyb
    iexact HO
  iintro ⟨Mgyb, Ngyb, HO⟩
  iapply (step (wtS1_ok A K c l hl .gxa [] O hO)) $$ [Mgxa HO]
  · isplitr; · iexact HC
    isplitl [Mgxa]; · iexact Mgxa
    iexact HO
  iintro ⟨Dsgxa, Sgxa, HO⟩
  iapply (step (wtR1_ok A K c l hl .gxa [] O hO (by decide))) $$ [Ngxa HO]
  · isplitr; · iexact HC
    isplitl [Ngxa]; · iexact Ngxa
    iexact HO
  iintro ⟨Drgxa, ⟨Rgxa, Bgxa⟩, HO⟩
  ihave H := (wt3_ok A K c l hl .gyb [] O hO (by decide)) $$ [Mgyb Ngyb HO]
  · isplitr; · iexact HC
    isplitl [Mgyb]; · iexact Mgyb
    isplitl [Ngyb]; · iexact Ngyb
    iexact HO
  iapply (wp_wand frame (wpE (defs₀ (F := F)) 𝒱₀ (c : Thread nD τ) none) Set.univ) $$ H
  iintro %_a ⟨Dgyb, Sgyb, Rgyb, Bgyb, HO⟩
  ihave Hw := (joinH (A l) c) $$ [Sgxa Rgxa Sgyb Rgyb]
  · isplitl [Sgxa Rgxa]; · isplitl [Sgxa] <;> iassumption
    isplitl [Sgyb] <;> iassumption
  isplitl [Dsxb Drxb]; · isplitl [Dsxb] <;> iassumption
  isplitl [Dgya]; · iexact Dgya
  isplitl [Dgzb]; · iexact Dgzb
  isplitl [Dsgxa Drgxa]; · isplitl [Dsgxa] <;> iassumption
  isplitl [Dgyb]; · iexact Dgyb
  isplitl [Pzb]; · iexact Pzb
  isplitl [Hw]; · iexact Hw
  isplitl [Bgya]; · iexact Bgya
  isplitl [Bgzb]; · iexact Bgzb
  isplitl [Bgxa]; · iexact Bgxa
  isplitl [Bgyb]; · iexact Bgyb
  isplitl [Hkp]; · iexact Hkp
  iexact HO

end Cert.MlpProof
end
-- ==== Proof.Layer.lean ====
/-
# A layer

The two halves of a layer, with everything a device carries from one layer into the next.
-/
module

public import proofs.«01_k».proof.Proof.Halves

@[expose] public section

noncomputable section

namespace Cert.MlpProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## All copies at once -/

/-- One thing for each copy of the reduction, -/
def allR (P : Kd → sProp 𝕄) : sProp 𝕄 :=
  iprop(P .xa ∗ (tri fun d => P (.yb d)) ∗ (tri fun d => P (.ya d)) ∗ (tri fun d => P (.zb d)) ∗ (tri fun d => P (.za d)) ∗ P .xb)
/-- of the gathering, -/
def allG (P : Kd → sProp 𝕄) : sProp 𝕄 :=
  iprop((tri fun d => P (.gya d)) ∗ (tri fun d => P (.gzb d)) ∗ P .gxa ∗ tri fun d => P (.gyb d))
/-- and of both. -/
def allK (P : Kd → sProp 𝕄) : sProp 𝕄 := iprop(allR P ∗ allG P)

theorem allR_mono {P Q : Kd → sProp 𝕄} (h : ∀ k, P k ⊢ Q k) : allR P ⊢ allR Q :=
  BIClass.sep_mono (h _) (BIClass.sep_mono (tri_mono fun _ => h _) (BIClass.sep_mono (tri_mono fun _ => h _)
    (BIClass.sep_mono (tri_mono fun _ => h _) (BIClass.sep_mono (tri_mono fun _ => h _) (h _)))))
theorem allG_mono {P Q : Kd → sProp 𝕄} (h : ∀ k, P k ⊢ Q k) : allG P ⊢ allG Q :=
  BIClass.sep_mono (tri_mono fun _ => h _) (BIClass.sep_mono (tri_mono fun _ => h _) (BIClass.sep_mono (h _) (tri_mono fun _ => h _)))
theorem allK_mono {P Q : Kd → sProp 𝕄} (h : ∀ k, P k ⊢ Q k) : allK P ⊢ allK Q := BIClass.sep_mono (allR_mono h) (allG_mono h)
theorem allR_zip (P Q : Kd → sProp 𝕄) : iprop(allR P ∗ allR Q) ⊢ allR fun k => iprop(P k ∗ Q k) := by
  unfold allR
  iintro ⟨⟨A0, A1, A2, A3, A4, A5⟩, B0, B1, B2, B3, B4, B5⟩
  isplitl [A0 B0]; · isplitl [A0] <;> iassumption
  isplitl [A1 B1]; · iapply (tri_sep _ _).2; isplitl [A1] <;> iassumption
  isplitl [A2 B2]; · iapply (tri_sep _ _).2; isplitl [A2] <;> iassumption
  isplitl [A3 B3]; · iapply (tri_sep _ _).2; isplitl [A3] <;> iassumption
  isplitl [A4 B4]; · iapply (tri_sep _ _).2; isplitl [A4] <;> iassumption
  isplitl [A5] <;> iassumption
theorem allG_zip (P Q : Kd → sProp 𝕄) : iprop(allG P ∗ allG Q) ⊢ allG fun k => iprop(P k ∗ Q k) := by
  unfold allG
  iintro ⟨⟨A0, A1, A2, A3⟩, B0, B1, B2, B3⟩
  isplitl [A0 B0]; · iapply (tri_sep _ _).2; isplitl [A0] <;> iassumption
  isplitl [A1 B1]; · iapply (tri_sep _ _).2; isplitl [A1] <;> iassumption
  isplitl [A2 B2]; · isplitl [A2] <;> iassumption
  iapply (tri_sep _ _).2; isplitl [A3] <;> iassumption
theorem allG_unzip (P Q : Kd → sProp 𝕄) : (allG fun k => iprop(P k ∗ Q k)) ⊢ iprop(allG P ∗ allG Q) := by
  unfold allG
  iintro ⟨H0, H1, ⟨A2, B2⟩, H3⟩
  ihave H0 := ((tri_sep (fun d => P (.gya d)) (fun d => Q (.gya d))).1) $$ H0
  icases H0 with ⟨A0, B0⟩
  ihave H1 := ((tri_sep (fun d => P (.gzb d)) (fun d => Q (.gzb d))).1) $$ H1
  icases H1 with ⟨A1, B1⟩
  ihave H3 := ((tri_sep (fun d => P (.gyb d)) (fun d => Q (.gyb d))).1) $$ H3
  icases H3 with ⟨A3, B3⟩
  isplitl [A0 A1 A2 A3]
  · isplitl [A0]; · iexact A0
    isplitl [A1]; · iexact A1
    isplitl [A2] <;> iassumption
  · isplitl [B0]; · iexact B0
    isplitl [B1]; · iexact B1
    isplitl [B2] <;> iassumption
theorem allK_zip (P Q : Kd → sProp 𝕄) : iprop(allK P ∗ allK Q) ⊢ allK fun k => iprop(P k ∗ Q k) := by
  unfold allK
  iintro ⟨⟨A, B⟩, A', B'⟩
  isplitl [A A']
  · iapply (allR_zip _ _); isplitl [A] <;> iassumption
  · iapply (allG_zip _ _); isplitl [B] <;> iassumption

/-! ## What a device carries -/

/-- A copy's two positions at the start of layer `l`. -/
def Ps (l : ℕ) (c : Dev nD) (k : Kd) : sProp 𝕄 :=
  iprop((atPos ER (sCell k c) l ∅ 0 ∗ reached ER (sCell k c) l) ∗ atPos ER (rCell k c) l ∅ 0 ∗ reached ER (rCell k c) l)
/-- Its two duties of layer `l` and the credit of the one received. -/
def Fu (l : ℕ) (c : Dev nD) (k : Kd) : sProp 𝕄 :=
  iprop((dutyTok ER (sCell k c) l 0 ∗ dutyTok ER (rCell k (dst k c)) l 0) ∗ cred (tallyAt (rCell k c) l (cr k)))
/-- The rights to send the copies of the reduction of layer `l`. -/
def Rt (l : ℕ) (c : Dev nD) : sProp 𝕄 := allR fun k => Rr k l c
/-- The device's own landing buffers. -/
def Lb (c : Dev nD) : sProp 𝕄 := allR fun k => D (F := F) k c

variable (A : ℕ → Dev nD → Acc F) (K : Dev nD × Fin 63 → ℕ) (c : Dev nD) (l : ℕ)

theorem dn_ps (k : Kd) : Dn (F := F) k l c ⊢ Ps (l + 1) c k := .rfl

theorem tok_R (k : Kd) : iprop(Ps (F := F) l c k ∗ Fu l c k) ⊢ Tok k l c := by
  unfold Ps Fu Tok
  iintro ⟨⟨⟨P, R⟩, P', -⟩, ⟨T, T'⟩, C⟩
  isplitl [P R T T']
  · isplitl [P]; · iexact P
    isplitl [R]; · iexact R
    isplitl [T] <;> iassumption
  isplitl [P'] <;> iassumption
theorem tok_G (k : Kd) : iprop(Ps (F := F) l c k ∗ Fu l c k) ⊢ iprop(Tok k l c ∗ reached ER (rCell k c) l) := by
  unfold Ps Fu Tok
  iintro ⟨⟨⟨P, R⟩, P', #R'⟩, ⟨T, T'⟩, C⟩
  isplitl
  · isplitl [P R T T']
    · isplitl [P]; · iexact P
      isplitl [R]; · iexact R
      isplitl [T] <;> iassumption
    isplitl [P'] <;> iassumption
  iexact R'

theorem mk_E (k : Kd) : iprop(D (F := F) k c ∗ reached ER (rCell k c) l) ⊢ E k l c := .rfl
theorem tri_E (k : Fin 3 → Kd) : iprop((tri fun d => D (F := F) (k d) c) ∗ tri fun d => reached ER (rCell (k d) c) l) ⊢ tri fun d => E (k d) l c :=
  (tri_sep _ _).2
theorem tri_free (k : Fin 3 → Kd) : iprop((tri fun d => Dn (k d) l c) ∗ tri fun d => R (A l) (k d) c)
    ⊢ iprop((tri fun d => Dn (k d) l c) ∗ tri fun d => E (k d) (l + 1) c) :=
  (tri_sep _ _).2.trans ((tri_mono fun d => by
    iintro ⟨⟨H, H'⟩, HR⟩
    ihave Hs := (free (A l) (k d) l c) $$ [H' HR]
    · isplitl [H'] <;> iassumption
    icases Hs with ⟨H', HR⟩
    isplitl [H H']
    · isplitl [H] <;> iassumption
    iexact HR).trans (tri_sep _ _).1)

theorem tri_gv (P : Fin 3 → sProp 𝕄) : tri P ⊢ iprop((tri fun d => gv l (P d)) ∗ kp l (tri P)) := by
  unfold gv kp
  split
  · iintro H; isplitl [H]; · iexact H
    iempintro
  · iintro H; isplitr
    · unfold tri; isplitr; · iempintro
      isplitr <;> iempintro
    iexact H
/-- What is given on along y, left; right; and along z. -/
theorem give_ya : (tri fun d => E (F := F) (.ya d) (l + 1) c) ⊢ iprop((tri fun d => fbo (F := F) (.gya d) l c) ∗ kp l (tri fun d => E (.ya d) (l + 1) c)) :=
  (tri_gv l _).trans (sep_mono_left (tri_rev' _))
theorem give_yb : (tri fun d => E (F := F) (.yb d) (l + 1) c) ⊢ iprop((tri fun d => fbo (F := F) (.gyb d) l c) ∗ kp l (tri fun d => E (.yb d) (l + 1) c)) :=
  (tri_gv l _).trans (sep_mono_left (tri_rev' _))
theorem give_z : (tri fun d => iprop(E (F := F) (.zb d) (l + 1) c ∗ E (.za d) (l + 1) c))
    ⊢ iprop((tri fun d => fbo (F := F) (.gzb d) l c) ∗ kp l (tri fun d => iprop(E (.zb d) (l + 1) c ∗ E (.za d) (l + 1) c))) :=
  (tri_gv l _).trans (sep_mono_left (tri_rev' _))

/-- What the gathers bring is the rights of the next layer. -/
theorem next_rt : iprop((tri fun d => fb (F := F) (.gya d) l c) ∗ (tri fun d => fb (F := F) (.gzb d) l c) ∗ fb (F := F) .gxa l c ∗ tri fun d => fb (F := F) (.gyb d) l c)
    ⊢ gv l (Rt (l + 1) c) := by
  unfold gv Rt allR
  split
  · rename_i h
    simp only [fb, if_pos h]
    iintro ⟨Ya, Z, ⟨Xa, Xb⟩, Yb⟩
    ihave Ya := (show (tri fun d => E (F := F) (.ya d.rev) (l + 1) (yn d.rev c)) ⊢ _ from tri_rev fun d => Rr (F := F) (.ya d) (l + 1) c) $$ Ya
    ihave Yb := (show (tri fun d => E (F := F) (.yb d.rev) (l + 1) (yn d.rev c)) ⊢ _ from tri_rev fun d => Rr (F := F) (.yb d) (l + 1) c) $$ Yb
    ihave Z := (show (tri fun d => iprop(E (F := F) (.zb d.rev) (l + 1) (zn d.rev c) ∗ E (.za d.rev) (l + 1) (zn d.rev c))) ⊢ _ from
      tri_rev fun d => iprop(Rr (F := F) (.zb d) (l + 1) c ∗ Rr (.za d) (l + 1) c)) $$ Z
    ihave Z := ((tri_sep (fun d => Rr (F := F) (.zb d) (l + 1) c) (fun d => Rr (.za d) (l + 1) c)).1) $$ Z
    icases Z with ⟨Zb, Za⟩
    isplitl [Xa]; · iexact Xa
    isplitl [Yb]; · iexact Yb
    isplitl [Ya]; · iexact Ya
    isplitl [Zb]; · iexact Zb
    isplitl [Za]; · iexact Za
    iexact Xb
  · iintro -
    iempintro

theorem E_D (k : Kd) : E (F := F) k l c ⊢ D k c := by
  unfold E; iintro ⟨H, -⟩; iexact H
/-- What is kept after the last layer is the device's own landing buffers. -/
theorem kept : iprop(kp l (tri fun d => E (F := F) (.ya d) (l + 1) c) ∗ kp l (tri fun d => E (F := F) (.yb d) (l + 1) c)
      ∗ kp l (tri fun d => iprop(E (F := F) (.zb d) (l + 1) c ∗ E (.za d) (l + 1) c)) ∗ kp l iprop(E (F := F) .xa (l + 1) c ∗ E .xb (l + 1) c))
    ⊢ kp l (Lb (F := F) c) := by
  unfold kp Lb allR
  split
  · iintro -
    iempintro
  · iintro ⟨Ya, Yb, Z, Xa, Xb⟩
    ihave Z := ((tri_sep (fun d => E (F := F) (.zb d) (l + 1) c) (fun d => E (.za d) (l + 1) c)).1) $$ Z
    icases Z with ⟨Zb, Za⟩
    isplitl [Xa]; · iapply (E_D c (l + 1) .xa) $$ Xa
    isplitl [Yb]; · iapply (tri_mono fun d => E_D (F := F) c (l + 1) (.yb d)) $$ Yb
    isplitl [Ya]; · iapply (tri_mono fun d => E_D (F := F) c (l + 1) (.ya d)) $$ Ya
    isplitl [Zb]; · iapply (tri_mono fun d => E_D (F := F) c (l + 1) (.zb d)) $$ Zb
    isplitl [Za]; · iapply (tri_mono fun d => E_D (F := F) c (l + 1) (.za d)) $$ Za
    iapply (E_D c (l + 1) .xb) $$ Xb

theorem any_H : any cc0_scratch1 c Finset.univ ⊢ iprop((D (F := F) .gxa c ∗ any cc0_scratch1 c (bx (pya c) 64 0 256) ∗ tri fun d => D (.gya d) c)
    ∗ (any cc0_scratch1 c (bx (pzb c) 32 256 256) ∗ tri fun d => D (.gzb d) c) ∗ tri fun d => D (.gyb d) c) := by
  unfold any
  iintro ⟨%f, H⟩
  iapply (splitH c f) $$ H

/-- The first copies hand over the places the gathers land in. -/
theorem fbo_yb : (tri fun d => E (F := F) (.gyb d) l c) ⊢ tri fun d => fbo (F := F) (.yb d) l c := tri_rev' _
theorem fbo_ya : (tri fun d => E (F := F) (.gya d) l c) ⊢ tri fun d => fbo (F := F) (.ya d) l c := tri_rev' _
theorem fbo_zb : (tri fun d => E (F := F) (.gzb d) l c) ⊢ tri fun d => fbo (F := F) (.zb d) l c := tri_rev' _
theorem fbo_xa : E (F := F) .gxa l c ⊢ fbo (F := F) .xa l c := .rfl
/-- What they bring is the rights of the gathers. -/
theorem rr_yb : (tri fun d => fb (F := F) (.yb d) l c) ⊢ tri fun d => Rr (F := F) (.gyb d) l c := tri_rev fun d => Rr (F := F) (.gyb d) l c
theorem rr_ya : (tri fun d => fb (F := F) (.ya d) l c) ⊢ tri fun d => Rr (F := F) (.gya d) l c := tri_rev fun d => Rr (F := F) (.gya d) l c
theorem rr_zb : (tri fun d => fb (F := F) (.zb d) l c) ⊢ tri fun d => Rr (F := F) (.gzb d) l c := tri_rev fun d => Rr (F := F) (.gzb d) l c
theorem rr_xa : fb (F := F) .xa l c ⊢ Rr (F := F) .gxa l c := .rfl

/-! ## The layer -/

/-- What a device enters layer `l` with, -/
def LayPre (O : CellTallies nD τ sig ℕ) : sProp 𝕄 :=
  iprop(allK (Ps l c) ∗ allK (Fu l c) ∗ Rt l c ∗ ptA c Finset.univ fullShare (A l c) ∗ any cc0_scratch1 c Finset.univ ∗ ow c (oweK c l ord O))
/-- and what it leaves it with. -/
def LayPost (O : CellTallies nD τ sig ℕ) : sProp 𝕄 :=
  iprop(allK (Ps (l + 1) c) ∗ gv l (Rt (l + 1) c) ∗ kp l (Lb c) ∗ any cc0_scratch0 c Finset.univ ∗ ptH c Finset.univ fullShare (Hm (A l) c) ∗ ow c O)

set_option maxHeartbeats 1000000 in
theorem layer_ok (hl : l < 3) (O : CellTallies nD τ sig ℕ) (hO : Ab (2 + 10 * l + 9) O)
    {α : Type} {p : Prog (TpuEff nD τ sig (Elt F) Λ₀ .tc) α} {Φ : α → sProp 𝕄} :
    iprop(Ctx A K ∗ LayPre A c l O ∗ (LayPost A c l O -∗ WP c p Φ)) ⊢ WP c (redP c >>= fun _ => gatP c >>= fun _ => p) Φ := by
  unfold LayPre LayPost
  iintro ⟨#HC, ⟨HP, HF, HE, Ha, Hh, HO⟩, Hk⟩
  unfold allK
  icases HP with ⟨PR, PG⟩
  icases HF with ⟨FR, FG⟩
  ihave TR := ((allR_zip (Ps l c) (Fu l c)).trans (allR_mono fun k => tok_R c l k)) $$ [PR FR]
  · isplitl [PR] <;> iassumption
  ihave TG := (((allG_zip (Ps l c) (Fu l c)).trans (allG_mono fun k => tok_G c l k)).trans (allG_unzip _ _)) $$ [PG FG]
  · isplitl [PG] <;> iassumption
  ihave Hs := (any_H c) $$ Hh
  unfold Rt allR allG
  icases TR with ⟨Txa, Tyb, Tya, Tzb, Tza, Txb⟩
  icases TG with ⟨⟨Tgya, Tgzb, Tgxa, Tgyb⟩, Rgya, Rgzb, Rgxa, Rgyb⟩
  icases HE with ⟨Exa, Eyb, Eya, Ezb, Eza, Exb⟩
  icases Hs with ⟨⟨Dgxa, Ha1, Dgya⟩, ⟨Hb1, Dgzb⟩, Dgyb⟩
  ihave Fxa := ((mk_E c l .gxa).trans (fbo_xa c l)) $$ [Dgxa Rgxa]
  · isplitl [Dgxa] <;> iassumption
  ihave Fya := ((tri_E c l .gya).trans (fbo_ya c l)) $$ [Dgya Rgya]
  · isplitl [Dgya] <;> iassumption
  ihave Fzb := ((tri_E c l .gzb).trans (fbo_zb c l)) $$ [Dgzb Rgzb]
  · isplitl [Dgzb] <;> iassumption
  ihave Fyb := ((tri_E c l .gyb).trans (fbo_yb c l)) $$ [Dgyb Rgyb]
  · isplitl [Dgyb] <;> iassumption
  iapply (step (red_ok A K c l hl O hO)) $$ [Ha Ha1 Txa Tyb Tya Tzb Tza Txb Exa Eyb Eya Ezb Eza Exb Fxa Fyb Fya Fzb HO]
  · isplitr; · iexact HC
    isplitl [Ha]; · iexact Ha
    isplitl [Ha1]; · iexact Ha1
    isplitl [Txa]; · iexact Txa
    isplitl [Tyb]; · iexact Tyb
    isplitl [Tya]; · iexact Tya
    isplitl [Tzb]; · iexact Tzb
    isplitl [Tza]; · iexact Tza
    isplitl [Txb]; · iexact Txb
    isplitl [Exa]; · iexact Exa
    isplitl [Eyb]; · iexact Eyb
    isplitl [Eya]; · iexact Eya
    isplitl [Ezb]; · iexact Ezb
    isplitl [Eza]; · iexact Eza
    isplitl [Exb]; · iexact Exb
    isplitl [Fxa]; · iexact Fxa
    isplitl [Fyb]; · iexact Fyb
    isplitl [Fya]; · iexact Fya
    isplitl [Fzb]; · iexact Fzb
    iexact HO
  iintro ⟨Dxa, Dyb, Dya, Dzb, Dza, Mxb, Nxb, Bxa, Byb, Bya, Bzb, Rxa, Ryb, Rya, Rzb, Rza, Sxa, Syb, Sya, Szb, Pya, Sgya, HO⟩
  icases Dxa with ⟨Dsxa, Drxa⟩
  ihave Hs := (free (A l) .xa l c) $$ [Drxa Rxa]
  · isplitl [Drxa] <;> iassumption
  icases Hs with ⟨Drxa, Exa⟩
  ihave Hs := (tri_free A c l .yb) $$ [Dyb Ryb]
  · isplitl [Dyb] <;> iassumption
  icases Hs with ⟨Dyb, Eyb⟩
  ihave Hs := (tri_free A c l .ya) $$ [Dya Rya]
  · isplitl [Dya] <;> iassumption
  icases Hs with ⟨Dya, Eya⟩
  ihave Hs := (tri_free A c l .zb) $$ [Dzb Rzb]
  · isplitl [Dzb] <;> iassumption
  icases Hs with ⟨Dzb, Ezb⟩
  ihave Hs := (tri_free A c l .za) $$ [Dza Rza]
  · isplitl [Dza] <;> iassumption
  icases Hs with ⟨Dza, Eza⟩
  ihave Hs := (give_ya c l) $$ Eya
  icases Hs with ⟨Fgya, Kya⟩
  ihave Hs := (give_yb c l) $$ Eyb
  icases Hs with ⟨Fgyb, Kyb⟩
  ihave Hs := ((tri_sep (fun d => E (F := F) (.zb d) (l + 1) c) (fun d => E (.za d) (l + 1) c)).2.trans (give_z c l)) $$ [Ezb Eza]
  · isplitl [Ezb] <;> iassumption
  icases Hs with ⟨Fgzb, Kz⟩
  ihave Egya := (rr_ya c l) $$ Bya
  ihave Egzb := (rr_zb c l) $$ Bzb
  ihave Egyb := (rr_yb c l) $$ Byb
  ihave Egxa := (rr_xa c l) $$ Bxa
  iapply (step (gat_ok A K c l hl O hO)) $$ [Hb1 Mxb Nxb Sgya Tgya Tgzb Tgxa Tgyb Egya Egzb Egxa Egyb Fgya Fgzb Fgyb Exa HO]
  · isplitr; · iexact HC
    isplitl [Hb1]; · iexact Hb1
    isplitl [Mxb]; · iexact Mxb
    isplitl [Nxb]; · iexact Nxb
    isplitl [Sgya]; · iexact Sgya
    isplitl [Tgya]; · iexact Tgya
    isplitl [Tgzb]; · iexact Tgzb
    isplitl [Tgxa]; · iexact Tgxa
    isplitl [Tgyb]; · iexact Tgyb
    isplitl [Egya]; · iexact Egya
    isplitl [Egzb]; · iexact Egzb
    isplitl [Egxa]; · iexact Egxa
    isplitl [Egyb]; · iexact Egyb
    isplitl [Fgya]; · iexact Fgya
    isplitl [Fgzb]; · iexact Fgzb
    isplitl [Fgyb]; · iexact Fgyb
    isplitl [Exa]; · iexact Exa
    iexact HO
  iintro ⟨Dxb, Dgya, Dgzb, Dgxa, Dgyb, Pzb, Hw, Bgya, Bgzb, Bgxa, Bgyb, Kx, HO⟩
  iapply Hk
  isplitl [Dsxa Drxa Dyb Dya Dzb Dza Dxb Dgya Dgzb Dgxa Dgyb]
  · isplitl [Dsxa Drxa Dyb Dya Dzb Dza Dxb]
    · isplitl [Dsxa Drxa]
      · iapply (dn_ps c l .xa)
        isplitl [Dsxa] <;> iassumption
      isplitl [Dyb]; · iapply (tri_mono fun d => dn_ps (F := F) c l (.yb d)) $$ Dyb
      isplitl [Dya]; · iapply (tri_mono fun d => dn_ps (F := F) c l (.ya d)) $$ Dya
      isplitl [Dzb]; · iapply (tri_mono fun d => dn_ps (F := F) c l (.zb d)) $$ Dzb
      isplitl [Dza]; · iapply (tri_mono fun d => dn_ps (F := F) c l (.za d)) $$ Dza
      iapply (dn_ps c l .xb) $$ Dxb
    · isplitl [Dgya]; · iapply (tri_mono fun d => dn_ps (F := F) c l (.gya d)) $$ Dgya
      isplitl [Dgzb]; · iapply (tri_mono fun d => dn_ps (F := F) c l (.gzb d)) $$ Dgzb
      isplitl [Dgxa]; · iapply (dn_ps c l .gxa) $$ Dgxa
      iapply (tri_mono fun d => dn_ps (F := F) c l (.gyb d)) $$ Dgyb
  isplitl [Bgya Bgzb Bgxa Bgyb]
  · iapply (next_rt c l)
    isplitl [Bgya]; · iexact Bgya
    isplitl [Bgzb]; · iexact Bgzb
    isplitl [Bgxa] <;> iassumption
  isplitl [Kya Kyb Kz Kx]
  · iapply (kept c l)
    isplitl [Kya]; · iexact Kya
    isplitl [Kyb]; · iexact Kyb
    isplitl [Kz] <;> iassumption
  isplitl [Sxa Syb Sya Pya Szb Pzb]
  · iapply (joinA (A l) c)
    isplitl [Sxa Syb]
    · isplitl [Sxa] <;> iassumption
    isplitl [Sya]; · iexact Sya
    isplitl [Pya]; · iexact Pya
    isplitl [Szb] <;> iassumption
  isplitl [Hw] <;> iassumption

end Cert.MlpProof
end
-- ==== Proof.Bar.lean ====
/-
# The entry handshake

Every device signals the seven it will hear from, handing each the right to send into its landing buffers, and waits for
the same from them.
-/
module

public import proofs.«01_k».proof.Proof.Layer

@[expose] public section

noncomputable section

namespace Cert.MlpProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The devices signalled -/

/-- The device that device `c` signals with duty `j`; -/
def pj (j : Fin 7) (c : Dev nD) : Dev nD := match j with
  | 0 => xp c | 1 => yn 0 c | 2 => yn 1 c | 3 => yn 2 c | 4 => zn 0 c | 5 => zn 1 c | 6 => zn 2 c
/-- the device it is so signalled by; -/
def pji (j : Fin 7) (c : Dev nD) : Dev nD := match j with
  | 0 => xp c | 1 => yn 2 c | 2 => yn 1 c | 3 => yn 0 c | 4 => zn 2 c | 5 => zn 1 c | 6 => zn 0 c
/-- and the rights it hands over. -/
def ownPay (j : Fin 7) (c : Dev nD) : sProp 𝕄 := match j with
  | 0 => iprop(E .xa 0 c ∗ E .xb 0 c)
  | 1 => iprop(E (.ya 2) 0 c ∗ E (.yb 2) 0 c)
  | 2 => iprop(E (.ya 1) 0 c ∗ E (.yb 1) 0 c)
  | 3 => iprop(E (.ya 0) 0 c ∗ E (.yb 0) 0 c)
  | 4 => iprop(E (.zb 2) 0 c ∗ E (.za 2) 0 c)
  | 5 => iprop(E (.zb 1) 0 c ∗ E (.za 1) 0 c)
  | 6 => iprop(E (.zb 0) 0 c ∗ E (.za 0) 0 c)

theorem pj_pji (j : Fin 7) (c : Dev nD) : pj j (pji j c) = c := by
  fin_cases j
  · exact xp_xp c
  · exact yn_rev' 0 c
  · exact yn_rev' 1 c
  · exact yn_rev' 2 c
  · exact zn_rev' 0 c
  · exact zn_rev' 1 c
  · exact zn_rev' 2 c
theorem pji_pj (j : Fin 7) (c : Dev nD) : pji j (pj j c) = c := by
  fin_cases j
  · exact xp_xp c
  · exact yn_rev 0 c
  · exact yn_rev 1 c
  · exact yn_rev 2 c
  · exact zn_rev 0 c
  · exact zn_rev 1 c
  · exact zn_rev 2 c
theorem barPay_pj (j : Fin 7) (c : Dev nD) : barPay (F := F) j (pj j c) = ownPay j c := by
  have h := pji_pj j c
  fin_cases j
  all_goals
    dsimp only [barPay, ownPay, pj, pji] at h ⊢
    rw [h]

/-! ## What is owed at the start -/

/-- The copies of the layers from `l` on; -/
def oweL (c : Dev nD) : ℕ → CellTallies nD τ sig ℕ
  | 0 => oweK c 0 ord (oweK c 1 ord (oweK c 2 ord 0))
  | 1 => oweK c 1 ord (oweK c 2 ord 0)
  | 2 => oweK c 2 ord 0
  | _ => 0
/-- and the signals `js` on top of them. -/
def oweB (c : Dev nD) : List (Fin 7) → CellTallies nD τ sig ℕ
  | [] => oweL c 0
  | j :: js => oweB c js + tallyAt (barCell (pj j c)) 0 1
/-- The signals in the program's order. -/
def ordB : List (Fin 7) := [0, 1, 4, 2, 5, 3, 6]

theorem ab_oweL3 (c : Dev nD) : Ab 29 (oweL c 3) := Ab_zero _
theorem ab_oweL2 (c : Dev nD) : Ab 21 (oweL c 2) :=
  Ab_oweK c (by decide) (Ab_mono (by decide) (Ab_zero 29)) ord fun k _ => by omega
theorem ab_oweL1 (c : Dev nD) : Ab 11 (oweL c 1) :=
  Ab_oweK c (by decide) (Ab_mono (by decide) (ab_oweL2 c)) ord fun k _ => by omega
theorem ab_oweL0 (c : Dev nD) : Ab 1 (oweL c 0) :=
  Ab_oweK c (by decide) (Ab_mono (by decide) (ab_oweL1 c)) ord fun k _ => by omega

/-! ## The handshake -/

variable (A : ℕ → Dev nD → Acc F) (K : Dev nD × Fin 63 → ℕ) (c : Dev nD)

/-- The right to pay duty `j`. -/
def Bt (j : Fin 7) : sProp 𝕄 := iprop(dutyTok ER (barCell (pj j c)) 0 j ∗ reached ER (barCell (pj j c)) 0)

/-- A signal at the head of a program. -/
theorem sig1 (j : Fin 7) (n : Dev nD) (hn : n = pj j c) (O : CellTallies nD τ sig ℕ)
    {α : Type} {p : Prog (TpuEff nD τ sig (Elt F) Λ₀ .tc) α} {Φ : α → sProp 𝕄} :
    iprop(Ctx A K ∗ Bt c j ∗ ownPay j c ∗ ow c (O + tallyAt (barCell (pj j c)) 0 1))
      ⊢ iprop((ow c O -∗ WP c p Φ) -∗ WP c (semSignalWord n barS 1#32 >>= fun _ => p) Φ) := by
  subst hn
  unfold Bt ow
  iintro ⟨#HC, ⟨Ht, Hr⟩, HP, ⟨%W, HO⟩⟩ Hk
  ihave #HI := (ctx_bar A K (pj j c)) $$ HC
  simp only [semSignalWord, Prog.lift, Prog.bind_op, Prog.bind_ret]
  iapply (Rounds.wp_signal 𝒱₀ ER (sched A) (c : Thread nD τ) none (dst := (pj j c : Thread nD τ)) (κ := K (pj j c, barIx))
      (d := j) (by rw [duties_bar]; exact Finset.mem_univ _) ((amount_bar A (pj j c) 0 j).trans (by decide)) 0 O rfl)
    $$ [HO Ht HP Hr]
  · isplitr; · iexact HI
    isplitl [HO]; · iexact HO
    isplitl [Ht]; · iexact Ht
    isplitl [HP]; · rw [payload_bar, barPay_pj]; iexact HP
    iexact Hr
  iintro HO
  iapply Hk
  iexists _; iexact HO

/-- The wait. -/
theorem wait7 :
    iprop(Ctx A K ∗ cred (tallyAt (barCell c) 0 7) ∗ atPos ER (barCell c) 0 ∅ 0 ∗ ow c (oweL c 0))
      ⊢ WP c (semWaitWord barS 7#32) (fun _ => iprop(Rt 0 c ∗ atPos ER (barCell c) 1 ∅ 0 ∗ ow c (oweL c 0))) := by
  unfold ow
  iintro ⟨#HC, Hc, Hat, ⟨%W, HO⟩⟩
  ihave #HI := (ctx_bar A K c) $$ HC
  simp only [semWaitWord, Prog.lift]
  iapply (Rounds.wp_wait_rest_token 𝒱₀ ER (sched A) (c : Thread nD τ) none (κ := K (c, barIx))
      (wpE_semWait_eq 𝒱₀ (c : Thread nD τ) none Set.univ) (Set.mem_univ _) 0 (O := oweL c 0) (W := W) (R := 0) (m := 0) (T := ∅)
      (by rw [expect_bar]; decide)) $$ [Hc HO Hat]
  · isplitr; · iexact HI
    isplitl [Hc]; · iexact Hc
    isplitl [HO]; · iexact HO
    isplitr; · iapply (ctx_wait A K (ab_oweL0 c) c (.reg barS) 0 (by decide) (lv_bar c 0).le) $$ HC
    iexact Hat
  iintro ⟨HO, Hat, -, Hpay⟩
  ihave Hp := (Entails.of_eq (rest_bar A c)) $$ Hpay
  rw [wp_ret]; imodintro
  isplitl [Hp]
  · unfold barPay Rt allR tri
    icases Hp with ⟨⟨X, X'⟩, ⟨Y2, Y2'⟩, ⟨Y1, Y1'⟩, ⟨Y0, Y0'⟩, ⟨Z2, Z2'⟩, ⟨Z1, Z1'⟩, Z0, Z0'⟩
    isplitl [X]; · iexact X
    isplitl [Y0' Y1' Y2']; · isplitl [Y0']; · iexact Y0'
                             isplitl [Y1']; · iexact Y1'
                             iexact Y2'
    isplitl [Y0 Y1 Y2]; · isplitl [Y0]; · iexact Y0
                          isplitl [Y1]; · iexact Y1
                          iexact Y2
    isplitl [Z0 Z1 Z2]; · isplitl [Z0]; · iexact Z0
                          isplitl [Z1]; · iexact Z1
                          iexact Z2
    isplitl [Z0' Z1' Z2']; · isplitl [Z0']; · iexact Z0'
                             isplitl [Z1']; · iexact Z1'
                             iexact Z2'
    iexact X'
  isplitl [Hat]; · iexact Hat
  iexists _; iexact HO

/-- The rights of a device to send to it, as its signals hand them over. -/
theorem ownPay_all : (allR fun k => E (F := F) k 0 c) ⊢ iprop(ownPay 0 c ∗ ownPay 1 c ∗ ownPay 2 c ∗ ownPay 3 c ∗ ownPay 4 c ∗ ownPay 5 c ∗ ownPay 6 c) := by
  unfold allR tri ownPay
  iintro ⟨X, ⟨Y0', Y1', Y2'⟩, ⟨Y0, Y1, Y2⟩, ⟨Z0, Z1, Z2⟩, ⟨Z0', Z1', Z2'⟩, X'⟩
  isplitl [X X']; · isplitl [X] <;> iassumption
  isplitl [Y2 Y2']; · isplitl [Y2] <;> iassumption
  isplitl [Y1 Y1']; · isplitl [Y1] <;> iassumption
  isplitl [Y0 Y0']; · isplitl [Y0] <;> iassumption
  isplitl [Z2 Z2']; · isplitl [Z2] <;> iassumption
  isplitl [Z1 Z1']; · isplitl [Z1] <;> iassumption
  isplitl [Z0] <;> iassumption

/-- What the handshake takes. -/
def BarPre : sProp 𝕄 :=
  iprop((Bt c 0 ∗ Bt c 1 ∗ Bt c 2 ∗ Bt c 3 ∗ Bt c 4 ∗ Bt c 5 ∗ Bt c 6) ∗ cred (tallyAt (barCell c) 0 7) ∗ atPos ER (barCell c) 0 ∅ 0)

/-- The handshake. -/
theorem bar_ok : iprop(Ctx A K ∗ BarPre c ∗ (allR fun k => E k 0 c) ∗ ow c (oweB c ordB))
    ⊢ WP c (barP c) (fun _ => iprop(Rt 0 c ∗ atPos ER (barCell c) 1 ∅ 0 ∗ ow c (oweL c 0))) := by
  unfold BarPre barP
  iintro ⟨#HC, ⟨⟨T0, T1, T2, T3, T4, T5, T6⟩, Hc, Hat⟩, HE, HO⟩
  ihave HE := (ownPay_all c) $$ HE
  icases HE with ⟨P0, P1, P2, P3, P4, P5, P6⟩
  iapply (sig1 A K c 0 _ (dev1_eq c) (oweB c [1, 4, 2, 5, 3, 6])) $$ [T0 P0 HO]
  · isplitr; · iexact HC
    isplitl [T0]; · iexact T0
    isplitl [P0]; · iexact P0
    iexact HO
  iintro HO
  iapply (sig1 A K c 1 _ (dev2_eq c) (oweB c [4, 2, 5, 3, 6])) $$ [T1 P1 HO]
  · isplitr; · iexact HC
    isplitl [T1]; · iexact T1
    isplitl [P1]; · iexact P1
    iexact HO
  iintro HO
  iapply (sig1 A K c 4 _ (dev3_eq c) (oweB c [2, 5, 3, 6])) $$ [T4 P4 HO]
  · isplitr; · iexact HC
    isplitl [T4]; · iexact T4
    isplitl [P4]; · iexact P4
    iexact HO
  iintro HO
  iapply (sig1 A K c 2 _ (dev4_eq c) (oweB c [5, 3, 6])) $$ [T2 P2 HO]
  · isplitr; · iexact HC
    isplitl [T2]; · iexact T2
    isplitl [P2]; · iexact P2
    iexact HO
  iintro HO
  iapply (sig1 A K c 5 _ (dev5_eq c) (oweB c [3, 6])) $$ [T5 P5 HO]
  · isplitr; · iexact HC
    isplitl [T5]; · iexact T5
    isplitl [P5]; · iexact P5
    iexact HO
  iintro HO
  iapply (sig1 A K c 3 _ (dev6_eq c) (oweB c [6])) $$ [T3 P3 HO]
  · isplitr; · iexact HC
    isplitl [T3]; · iexact T3
    isplitl [P3]; · iexact P3
    iexact HO
  iintro HO
  iapply (sig1 A K c 6 _ (dev7_eq c) (oweB c [])) $$ [T6 P6 HO]
  · isplitr; · iexact HC
    isplitl [T6]; · iexact T6
    isplitl [P6]; · iexact P6
    iexact HO
  iintro HO
  iapply (wait7 A K c)
  isplitr; · iexact HC
  isplitl [Hc]; · iexact Hc
  isplitl [Hat]; · iexact Hat
  iexact HO

end Cert.MlpProof
end
-- ==== Proof.Dots.lean ====
/-
# The products

Each product reads whole buffers and writes one.
-/
module

public import proofs.«01_k».proof.Proof.Region

@[expose] public section

noncomputable section

namespace Cert.MlpProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem hz : (![0, 0] : Fin 2 → Nat) = fun _ => 0 := funext fun a => by fin_cases a <;> rfl

variable (c : Dev nD)

/-- A load of a whole part at the head of a program, by what it reads. -/
theorem ldw {s : Shape} {e : EltTy} {m : Memref sig .tc .vmem s e} {r : Rect s} {hl : m.view.LoadsAt r}
    {α : Type} {Kt : (r.shape.Idx → Elt F e) → Prog (TpuEff nD τ sig (Elt F) Λ₀ .tc) α} {Φ : α → sProp 𝕄}
    {q : PosShare TreeShare} {f : m.view.ty.Contents (Elt F)} (P : sProp 𝕄) (g : r.shape.Idx → Elt F e)
    (hP : P = ((m.access r).loc (c : Thread nD τ) ↦[(m.access r).set]{q} f)) (hg : (m.access r).read (Elt F) f = g) :
    P ⊢ iprop((P -∗ WP c (Kt g) Φ) -∗ WP c (Prog.lift (.load m r.toLoadRect hl) >>= Kt) Φ) := by
  subst hg
  exact ld P hP

/-- Every element of a square buffer, of one of the tall and of one of the wide. -/
theorem emb_S512x512 (x : (Rect.unit (s := S512x512) ![0, 0] S512x512.size inb_S512x512_S512x512_0_0).shape.Idx) :
    (Rect.unit (s := S512x512) ![0, 0] S512x512.size inb_S512x512_S512x512_0_0).emb x = x :=
  funext fun a => Fin.ext (by rw [Rect.emb_apply]; fin_cases a <;> (show 0 + 1 * _ = _; omega))
theorem set_S512x512 : (Rect.unit (s := S512x512) ![0, 0] S512x512.size inb_S512x512_S512x512_0_0).set = Finset.univ :=
  (set_at _ _ _ 0 0 rfl).trans bx_univ
theorem emb_S512x256 (x : (Rect.unit (s := S512x256) ![0, 0] S512x256.size inb_S512x256_S512x256_0_0).shape.Idx) :
    (Rect.unit (s := S512x256) ![0, 0] S512x256.size inb_S512x256_S512x256_0_0).emb x = x :=
  funext fun a => Fin.ext (by rw [Rect.emb_apply]; fin_cases a <;> (show 0 + 1 * _ = _; omega))
theorem set_S512x256 : (Rect.unit (s := S512x256) ![0, 0] S512x256.size inb_S512x256_S512x256_0_0).set = Finset.univ :=
  (set_at _ _ _ 0 0 rfl).trans bx_univ
theorem emb_S256x512 (x : (Rect.unit (s := S256x512) ![0, 0] S256x512.size inb_S256x512_S256x512_0_0).shape.Idx) :
    (Rect.unit (s := S256x512) ![0, 0] S256x512.size inb_S256x512_S256x512_0_0).emb x = x :=
  funext fun a => Fin.ext (by rw [Rect.emb_apply]; fin_cases a <;> (show 0 + 1 * _ = _; omega))
theorem set_S256x512 : (Rect.unit (s := S256x512) ![0, 0] S256x512.size inb_S256x512_S256x512_0_0).set = Finset.univ :=
  (set_at _ _ _ 0 0 rfl).trans bx_univ

theorem dot0_ok (x : S512x256.Idx → Elt F .f32) (w : S256x512.Idx → Elt F .f32) :
    iprop(pt cc0_stg0_0 c Finset.univ fullShare x ∗ pt cc0_stg1_0 c Finset.univ fullShare w ∗ any cc0_scratch0 c Finset.univ)
      ⊢ WP c dot0 (fun _ => iprop(pt cc0_stg0_0 c Finset.univ fullShare x ∗ pt cc0_stg1_0 c Finset.univ fullShare w
        ∗ pt cc0_scratch0 c Finset.univ fullShare (k0_pay2 x w))) := by
  have hMx : (Mx.access (Rect.unit (s := S512x256) ![0, 0] S512x256.size inb_S512x256_S512x256_0_0)).set = Finset.univ := (View.set_slice_whole _ _).trans set_S512x256
  have hMw0 : (Mw0.access (Rect.unit (s := S256x512) ![0, 0] S256x512.size inb_S256x512_S256x512_0_0)).set = Finset.univ := (View.set_slice_whole _ _).trans set_S256x512
  have hMa : (Ma.access (Rect.unit (s := S512x512) ![0, 0] S512x512.size inb_S512x512_S512x512_0_0)).set = Finset.univ := (View.set_slice_whole _ _).trans set_S512x512
  unfold dot0 any
  iintro ⟨Hx, Hw, ⟨%y, Ha⟩⟩
  iapply (ldw c (q := fullShare) (f := x) (pt cc0_stg0_0 c Finset.univ fullShare x) x (by rw [hMx]; rfl) (by exact Memref.read_access_unit_zero (Elt F) cc0_stg0_0 hz _ _)) $$ Hx; iintro Hx
  iapply (ldw c (q := fullShare) (f := w) (pt cc0_stg1_0 c Finset.univ fullShare w) w (by rw [hMw0]; rfl) (by exact Memref.read_access_unit_zero (Elt F) cc0_stg1_0 hz _ _)) $$ Hw; iintro Hw
  iapply (ld (q := fullShare) (f := y) (pt cc0_scratch0 c Finset.univ fullShare y) (by rw [hMa]; rfl)) $$ Ha; iintro Ha
  iapply (st (k0_pay2 x w) (pt cc0_scratch0 c Finset.univ fullShare y) (pt cc0_scratch0 c Finset.univ fullShare (k0_pay2 x w)) (by rw [hMa]; rfl) (by rw [hMa]; rfl)
    (fun j => by exact congrArg (k0_pay2 x w) (emb_S512x512 j).symm)) $$ Ha; iintro Ha
  isplitl [Hx]; · iexact Hx
  isplitl [Hw]; · iexact Hw
  iexact Ha

theorem dot1_ok (h : S512x512.Idx → Elt F .bf16) (o : S512x256.Idx → Elt F .f32) (w : S256x512.Idx → Elt F .f32) :
    iprop(pt cc0_scratch1 c Finset.univ fullShare h ∗ pt cc0_stg2_0 c Finset.univ fullShare o ∗ pt cc0_stg3_0 c Finset.univ fullShare w ∗ any cc0_scratch0 c Finset.univ)
      ⊢ WP c (dotN Mo0 Mw1) (fun _ => iprop(pt cc0_scratch1 c Finset.univ fullShare h ∗ pt cc0_stg2_0 c Finset.univ fullShare o ∗ pt cc0_stg3_0 c Finset.univ fullShare w
        ∗ pt cc0_scratch0 c Finset.univ fullShare (k0_pay9 h o w))) := by
  have hMh : (Mh.access (Rect.unit (s := S512x512) ![0, 0] S512x512.size inb_S512x512_S512x512_0_0)).set = Finset.univ := (View.set_slice_whole _ _).trans set_S512x512
  have hMo0 : (Mo0.access (Rect.unit (s := S512x256) ![0, 0] S512x256.size inb_S512x256_S512x256_0_0)).set = Finset.univ := (View.set_slice_whole _ _).trans set_S512x256
  have hMw1 : (Mw1.access (Rect.unit (s := S256x512) ![0, 0] S256x512.size inb_S256x512_S256x512_0_0)).set = Finset.univ := (View.set_slice_whole _ _).trans set_S256x512
  have hMa : (Ma.access (Rect.unit (s := S512x512) ![0, 0] S512x512.size inb_S512x512_S512x512_0_0)).set = Finset.univ := (View.set_slice_whole _ _).trans set_S512x512
  unfold dotN any
  iintro ⟨Hh, Ho, Hw, ⟨%y, Ha⟩⟩
  iapply (ldw c (q := fullShare) (f := h) (pt cc0_scratch1 c Finset.univ fullShare h) h (by rw [hMh]; rfl) (by exact Memref.read_access_unit_zero (Elt F) cc0_scratch1 hz _ _)) $$ Hh; iintro Hh
  iapply (ldw c (q := fullShare) (f := o) (pt cc0_stg2_0 c Finset.univ fullShare o) o (by rw [hMo0]; rfl) (by exact Memref.read_access_unit_zero (Elt F) cc0_stg2_0 hz _ _)) $$ Ho; iintro Ho
  iapply (ldw c (q := fullShare) (f := w) (pt cc0_stg3_0 c Finset.univ fullShare w) w (by rw [hMw1]; rfl) (by exact Memref.read_access_unit_zero (Elt F) cc0_stg3_0 hz _ _)) $$ Hw; iintro Hw
  iapply (ld (q := fullShare) (f := y) (pt cc0_scratch0 c Finset.univ fullShare y) (by rw [hMa]; rfl)) $$ Ha; iintro Ha
  iapply (st (k0_pay9 h o w) (pt cc0_scratch0 c Finset.univ fullShare y) (pt cc0_scratch0 c Finset.univ fullShare (k0_pay9 h o w)) (by rw [hMa]; rfl) (by rw [hMa]; rfl)
    (fun j => by exact congrArg (k0_pay9 h o w) (emb_S512x512 j).symm)) $$ Ha; iintro Ha
  isplitl [Hh]; · iexact Hh
  isplitl [Ho]; · iexact Ho
  isplitl [Hw]; · iexact Hw
  iexact Ha

theorem dot2_ok (h : S512x512.Idx → Elt F .bf16) (o : S512x256.Idx → Elt F .f32) (w : S256x512.Idx → Elt F .f32) :
    iprop(pt cc0_scratch1 c Finset.univ fullShare h ∗ pt cc0_stg4_0 c Finset.univ fullShare o ∗ pt cc0_stg5_0 c Finset.univ fullShare w ∗ any cc0_scratch0 c Finset.univ)
      ⊢ WP c (dotN Mo1 Mw2) (fun _ => iprop(pt cc0_scratch1 c Finset.univ fullShare h ∗ pt cc0_stg4_0 c Finset.univ fullShare o ∗ pt cc0_stg5_0 c Finset.univ fullShare w
        ∗ pt cc0_scratch0 c Finset.univ fullShare (k0_pay9 h o w))) := by
  have hMh : (Mh.access (Rect.unit (s := S512x512) ![0, 0] S512x512.size inb_S512x512_S512x512_0_0)).set = Finset.univ := (View.set_slice_whole _ _).trans set_S512x512
  have hMo1 : (Mo1.access (Rect.unit (s := S512x256) ![0, 0] S512x256.size inb_S512x256_S512x256_0_0)).set = Finset.univ := (View.set_slice_whole _ _).trans set_S512x256
  have hMw2 : (Mw2.access (Rect.unit (s := S256x512) ![0, 0] S256x512.size inb_S256x512_S256x512_0_0)).set = Finset.univ := (View.set_slice_whole _ _).trans set_S256x512
  have hMa : (Ma.access (Rect.unit (s := S512x512) ![0, 0] S512x512.size inb_S512x512_S512x512_0_0)).set = Finset.univ := (View.set_slice_whole _ _).trans set_S512x512
  unfold dotN any
  iintro ⟨Hh, Ho, Hw, ⟨%y, Ha⟩⟩
  iapply (ldw c (q := fullShare) (f := h) (pt cc0_scratch1 c Finset.univ fullShare h) h (by rw [hMh]; rfl) (by exact Memref.read_access_unit_zero (Elt F) cc0_scratch1 hz _ _)) $$ Hh; iintro Hh
  iapply (ldw c (q := fullShare) (f := o) (pt cc0_stg4_0 c Finset.univ fullShare o) o (by rw [hMo1]; rfl) (by exact Memref.read_access_unit_zero (Elt F) cc0_stg4_0 hz _ _)) $$ Ho; iintro Ho
  iapply (ldw c (q := fullShare) (f := w) (pt cc0_stg5_0 c Finset.univ fullShare w) w (by rw [hMw2]; rfl) (by exact Memref.read_access_unit_zero (Elt F) cc0_stg5_0 hz _ _)) $$ Hw; iintro Hw
  iapply (ld (q := fullShare) (f := y) (pt cc0_scratch0 c Finset.univ fullShare y) (by rw [hMa]; rfl)) $$ Ha; iintro Ha
  iapply (st (k0_pay9 h o w) (pt cc0_scratch0 c Finset.univ fullShare y) (pt cc0_scratch0 c Finset.univ fullShare (k0_pay9 h o w)) (by rw [hMa]; rfl) (by rw [hMa]; rfl)
    (fun j => by exact congrArg (k0_pay9 h o w) (emb_S512x512 j).symm)) $$ Ha; iintro Ha
  isplitl [Hh]; · iexact Hh
  isplitl [Ho]; · iexact Ho
  isplitl [Hw]; · iexact Hw
  iexact Ha

theorem dotF_ok (h : S512x512.Idx → Elt F .bf16) (o : S512x256.Idx → Elt F .f32) (y : S512x256.Idx → Elt F .f32) :
    iprop(pt cc0_scratch1 c Finset.univ fullShare h ∗ pt cc0_stg6_0 c Finset.univ fullShare o ∗ pt cc0_stg7_0 c Finset.univ fullShare y)
      ⊢ WP c dotF (fun _ => iprop(pt cc0_scratch1 c Finset.univ fullShare h ∗ pt cc0_stg6_0 c Finset.univ fullShare o
        ∗ pt cc0_stg7_0 c Finset.univ fullShare (k0_pay1 h o))) := by
  have hMh : (Mh.access (Rect.unit (s := S512x512) ![0, 0] S512x512.size inb_S512x512_S512x512_0_0)).set = Finset.univ := (View.set_slice_whole _ _).trans set_S512x512
  have hMo2 : (Mo2.access (Rect.unit (s := S512x256) ![0, 0] S512x256.size inb_S512x256_S512x256_0_0)).set = Finset.univ := (View.set_slice_whole _ _).trans set_S512x256
  have hMy : (My.access (Rect.unit (s := S512x256) ![0, 0] S512x256.size inb_S512x256_S512x256_0_0)).set = Finset.univ := (View.set_slice_whole _ _).trans set_S512x256
  unfold dotF
  iintro ⟨Hh, Ho, Ha⟩
  iapply (ldw c (q := fullShare) (f := h) (pt cc0_scratch1 c Finset.univ fullShare h) h (by rw [hMh]; rfl) (by exact Memref.read_access_unit_zero (Elt F) cc0_scratch1 hz _ _)) $$ Hh; iintro Hh
  iapply (ldw c (q := fullShare) (f := o) (pt cc0_stg6_0 c Finset.univ fullShare o) o (by rw [hMo2]; rfl) (by exact Memref.read_access_unit_zero (Elt F) cc0_stg6_0 hz _ _)) $$ Ho; iintro Ho
  iapply (ld (q := fullShare) (f := y) (pt cc0_stg7_0 c Finset.univ fullShare y) (by rw [hMy]; rfl)) $$ Ha; iintro Ha
  iapply (st (k0_pay1 h o) (pt cc0_stg7_0 c Finset.univ fullShare y) (pt cc0_stg7_0 c Finset.univ fullShare (k0_pay1 h o)) (by rw [hMy]; rfl) (by rw [hMy]; rfl)
    (fun j => by exact congrArg (k0_pay1 h o) (emb_S512x256 j).symm)) $$ Ha; iintro Ha
  isplitl [Hh]; · iexact Hh
  isplitl [Ho]; · iexact Ho
  iexact Ha

end Cert.MlpProof
end
-- ==== Proof.Body.lean ====
/-
# The body

The handshake, then three layers with a product before each and one after the last.
-/
module

public import proofs.«01_k».proof.Proof.Bar
public import proofs.«01_k».proof.Proof.Dots

@[expose] public section

noncomputable section

namespace Cert.MlpProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The landing buffers -/

/-- A buffer in three parts. -/
structure Trio {α : Type} [DecidableEq α] [Fintype α] (T : Fin 3 → Finset α) : Prop where
  eq : Finset.univ = T 0 ∪ (T 1 ∪ T 2)
  d0 : Disjoint (T 0) (T 1 ∪ T 2)
  d1 : Disjoint (T 1) (T 2)

theorem any_trio {b : Ref sig .tc} {c : Dev nD} {T : Fin 3 → Finset b.ty.Idx} (h : Trio T) :
    any (F := F) b c Finset.univ ⊣⊢ tri fun d => any b c (T d) := by
  constructor
  · rw [h.eq]
    unfold any pt tri
    iintro ⟨%f, H⟩
    ihave H := (pointsTo_union (ℓ := (c : Thread nD τ).loc b) (q := fullShare) (f := f) h.d0).1 $$ H
    icases H with ⟨H0, H⟩
    ihave H := (pointsTo_union (ℓ := (c : Thread nD τ).loc b) (q := fullShare) (f := f) h.d1).1 $$ H
    icases H with ⟨H1, H2⟩
    isplitl [H0]; · iexists f; iexact H0
    isplitl [H1]; · iexists f; iexact H1
    iexists f; iexact H2
  · rw [h.eq]
    exact (sep_mono_right (any_union h.d1)).trans (any_union h.d0)

theorem trio_bx {d : Fin 2 → ℕ} {n : ℕ} (h0 : d 0 = 3 * n) (h1 : d 1 = 256) :
    Trio (fun s : Fin 3 => (bx (n * s.rev.val) n 0 256 : Finset (Shape.Idx ⟨2, d⟩))) where
  eq := by
    ext i
    have ha : (i 0).val < d 0 := (i 0).isLt
    have hb : (i 1).val < d 1 := (i 1).isLt
    simp only [Finset.mem_union, mem_bx, Finset.mem_univ, true_iff]
    show ((n * 2 ≤ _ ∧ _ < n * 2 + n) ∧ _) ∨ ((n * 1 ≤ _ ∧ _ < n * 1 + n) ∧ _) ∨ ((n * 0 ≤ _ ∧ _ < n * 0 + n) ∧ _)
    omega
  d0 := Finset.disjoint_left.mpr fun i hi hi' => by
    simp only [Finset.mem_union, mem_bx] at hi hi'
    change (n * 2 ≤ _ ∧ _ < n * 2 + n) ∧ _ at hi
    change ((n * 1 ≤ _ ∧ _ < n * 1 + n) ∧ _) ∨ ((n * 0 ≤ _ ∧ _ < n * 0 + n) ∧ _) at hi'
    omega
  d1 := Finset.disjoint_left.mpr fun i hi hi' => by
    simp only [mem_bx] at hi hi'
    change (n * 1 ≤ _ ∧ _ < n * 1 + n) ∧ _ at hi
    change (n * 0 ≤ _ ∧ _ < n * 0 + n) ∧ _ at hi'
    omega

theorem one_bx {d : Fin 2 → ℕ} {n : ℕ} (h0 : d 0 = n) (h1 : d 1 = 256) : (bx 0 n 0 256 : Finset (Shape.Idx ⟨2, d⟩)) = Finset.univ := by
  ext i
  have ha : (i 0).val < d 0 := (i 0).isLt
  have hb : (i 1).val < d 1 := (i 1).isLt
  simp only [mem_bx, Finset.mem_univ, iff_true]
  omega

section Land
variable (c : Dev nD)

theorem land_xa : D (F := F) .xa c = any cc0_scratch2 c Finset.univ := by
  unfold any; rw [← one_bx (d := S256x256.size) (n := 256) rfl rfl]; rfl
theorem land_xb : D (F := F) .xb c = any cc0_scratch7 c Finset.univ := by
  unfold any; rw [← one_bx (d := S32x256.size) (n := 32) rfl rfl]; rfl
theorem land_yb : any (F := F) cc0_scratch5 c Finset.univ ⊣⊢ tri fun d => D (.yb d) c := any_trio (b := cc0_scratch5) (trio_bx (n := 128) rfl rfl)
theorem land_ya : any (F := F) cc0_scratch3 c Finset.univ ⊣⊢ tri fun d => D (.ya d) c := any_trio (b := cc0_scratch3) (trio_bx (n := 64) rfl rfl)
theorem land_zb : any (F := F) cc0_scratch6 c Finset.univ ⊣⊢ tri fun d => D (.zb d) c := any_trio (b := cc0_scratch6) (trio_bx (n := 32) rfl rfl)
theorem land_za : any (F := F) cc0_scratch4 c Finset.univ ⊣⊢ tri fun d => D (.za d) c := any_trio (b := cc0_scratch4) (trio_bx (n := 64) rfl rfl)

/-- The landing buffers whole. -/
def Lw : sProp 𝕄 :=
  iprop(any cc0_scratch2 c Finset.univ ∗ any cc0_scratch5 c Finset.univ ∗ any cc0_scratch3 c Finset.univ ∗ any cc0_scratch6 c Finset.univ
    ∗ any cc0_scratch4 c Finset.univ ∗ any cc0_scratch7 c Finset.univ)
theorem land : Lw (F := F) c ⊣⊢ Lb c := by
  unfold Lw Lb allR
  show _ ⊣⊢ iprop(D .xa c ∗ (tri fun d => D (.yb d) c) ∗ (tri fun d => D (.ya d) c) ∗ (tri fun d => D (.zb d) c) ∗ (tri fun d => D (.za d) c) ∗ D .xb c)
  rw [land_xa, land_xb]
  exact sep_congr_right (sep_congr (land_yb c) (sep_congr (land_ya c) (sep_congr (land_zb c) (sep_congr (land_za c) .rfl))))
end Land

/-! ## The body -/

theorem allR_unzip (P Q : Kd → sProp 𝕄) : (allR fun k => iprop(P k ∗ Q k)) ⊢ iprop(allR P ∗ allR Q) := by
  unfold allR
  iintro ⟨⟨A0, B0⟩, H1, H2, H3, H4, ⟨A5, B5⟩⟩
  ihave H1 := ((tri_sep (fun d => P (.yb d)) (fun d => Q (.yb d))).1) $$ H1
  icases H1 with ⟨A1, B1⟩
  ihave H2 := ((tri_sep (fun d => P (.ya d)) (fun d => Q (.ya d))).1) $$ H2
  icases H2 with ⟨A2, B2⟩
  ihave H3 := ((tri_sep (fun d => P (.zb d)) (fun d => Q (.zb d))).1) $$ H3
  icases H3 with ⟨A3, B3⟩
  ihave H4 := ((tri_sep (fun d => P (.za d)) (fun d => Q (.za d))).1) $$ H4
  icases H4 with ⟨A4, B4⟩
  isplitl [A0 A1 A2 A3 A4 A5]
  · isplitl [A0]; · iexact A0
    isplitl [A1]; · iexact A1
    isplitl [A2]; · iexact A2
    isplitl [A3]; · iexact A3
    isplitl [A4] <;> iassumption
  · isplitl [B0]; · iexact B0
    isplitl [B1]; · iexact B1
    isplitl [B2]; · iexact B2
    isplitl [B3]; · iexact B3
    isplitl [B4] <;> iassumption

variable (A : ℕ → Dev nD → Acc F) (K : Dev nD × Fin 63 → ℕ) (c : Dev nD)

theorem ps_read (k : Kd) : Ps (F := F) 0 c k ⊢ iprop(Ps 0 c k ∗ reached ER (rCell k c) 0) := by
  unfold Ps
  iintro ⟨⟨P, R⟩, P', #R'⟩
  isplitl
  · isplitl [P R]; · isplitl [P] <;> iassumption
    isplitl [P']; · iexact P'
    iexact R'
  iexact R'

/-- The rights to send to the device, at the start. -/
theorem start_E : iprop(allK (Ps (F := F) 0 c) ∗ Lw c) ⊢ iprop(allK (Ps 0 c) ∗ allR fun k => E k 0 c) := by
  unfold allK
  iintro ⟨⟨PR, PG⟩, HL⟩
  ihave HL := ((land c).1.trans (show Lb c ⊢ allR fun k => D k c from .rfl)) $$ HL
  ihave PR := ((allR_mono (ps_read c)).trans (allR_unzip (Ps 0 c) fun k => reached ER (rCell k c) 0)) $$ PR
  icases PR with ⟨PR, Rr⟩
  isplitl [PR PG]; · isplitl [PR] <;> iassumption
  iapply ((allR_zip (fun k => D k c) (fun k => reached ER (rCell k c) 0)).trans (allR_mono fun k => mk_E c 0 k))
  isplitl [HL]; · iexact HL
  iexact Rr

/-- The rights to use the tokens of all the layers. -/
def Fus : sProp 𝕄 := iprop(allK (Fu 0 c) ∗ allK (Fu 1 c) ∗ allK (Fu 2 c))

theorem gv0 (P : sProp 𝕄) : gv 0 P ⊢ P := .rfl
theorem gv1 (P : sProp 𝕄) : gv 1 P ⊢ P := .rfl
theorem kp2 (P : sProp 𝕄) : kp 2 P ⊢ P := .rfl

/-- The body after the device has learnt its number. -/
def mainP : Prog (TpuEff nD τ sig (Elt F) Λ₀ .tc) PUnit :=
  barP c >>= fun _ => dot0 >>= fun _ => redP c >>= fun _ => gatP c >>= fun _ => dotN Mo0 Mw1 >>= fun _ => redP c >>= fun _ => gatP c >>= fun _ =>
    dotN Mo1 Mw2 >>= fun _ => redP c >>= fun _ => gatP c >>= fun _ => dotF
theorem bodyP_eq : bodyP (F := F) = .op .deviceId fun c => mainP c := rfl
theorem wp_bodyP (Φ : PUnit → sProp 𝕄) : WP c bodyP Φ = WP c (mainP c) Φ := by
  unfold WP
  rw [bodyP_eq, wp_deviceId]

theorem body_ok (x : S512x256.Idx → Elt F .f32) (w0 w1 w2 : S256x512.Idx → Elt F .f32) (o0 o1 o2 y : S512x256.Idx → Elt F .f32)
    (h0 : A 0 c = k0_pay2 x w0) (h1 : A 1 c = k0_pay9 (Hm (A 0) c) o0 w1) (h2 : A 2 c = k0_pay9 (Hm (A 1) c) o1 w2) :
    iprop(Ctx A K ∗ BarPre c ∗ allK (Ps 0 c) ∗ Fus c ∗ any cc0_scratch0 c Finset.univ ∗ any cc0_scratch1 c Finset.univ ∗ Lw c
        ∗ (pt cc0_stg0_0 c Finset.univ fullShare x ∗ pt cc0_stg1_0 c Finset.univ fullShare w0 ∗ pt cc0_stg2_0 c Finset.univ fullShare o0
          ∗ pt cc0_stg3_0 c Finset.univ fullShare w1 ∗ pt cc0_stg4_0 c Finset.univ fullShare o1 ∗ pt cc0_stg5_0 c Finset.univ fullShare w2
          ∗ pt cc0_stg6_0 c Finset.univ fullShare o2 ∗ pt cc0_stg7_0 c Finset.univ fullShare y)
        ∗ ow c (oweB c ordB))
      ⊢ WP c bodyP (fun _ => iprop(allK (Ps 3 c) ∗ atPos ER (barCell c) 1 ∅ 0 ∗ (any cc0_scratch0 c Finset.univ ∗ any cc0_scratch1 c Finset.univ ∗ Lw c)
        ∗ (pt cc0_stg0_0 c Finset.univ fullShare x ∗ pt cc0_stg1_0 c Finset.univ fullShare w0 ∗ pt cc0_stg2_0 c Finset.univ fullShare o0
          ∗ pt cc0_stg3_0 c Finset.univ fullShare w1 ∗ pt cc0_stg4_0 c Finset.univ fullShare o1 ∗ pt cc0_stg5_0 c Finset.univ fullShare w2
          ∗ pt cc0_stg6_0 c Finset.univ fullShare o2 ∗ pt cc0_stg7_0 c Finset.univ fullShare (k0_pay1 (Hm (A 2) c) o2))
        ∗ ow c 0)) := by
  rw [wp_bodyP]
  unfold mainP Fus
  iintro ⟨#HC, HB, HP, ⟨F0, F1, F2⟩, Ha, Hh, HL, ⟨G0, G1, G2, G3, G4, G5, G6, G7⟩, HO⟩
  ihave HS := (start_E c) $$ [HP HL]
  · isplitl [HP] <;> iassumption
  icases HS with ⟨HP, HE⟩
  iapply (step (bar_ok A K c)) $$ [HB HE HO]
  · isplitr; · iexact HC
    isplitl [HB]; · iexact HB
    isplitl [HE]; · iexact HE
    iexact HO
  iintro ⟨HR, HB, HO⟩
  iapply (step (dot0_ok c x w0)) $$ [G0 G1 Ha]
  · isplitl [G0]; · iexact G0
    isplitl [G1] <;> iassumption
  iintro ⟨G0, G1, Ha⟩
  iapply (layer_ok A K c 0 (by decide) (oweL c 1) (ab_oweL1 c))
  isplitr; · iexact HC
  isplitl [HP F0 HR Ha Hh HO]
  · unfold LayPre
    isplitl [HP]; · iexact HP
    isplitl [F0]; · iexact F0
    isplitl [HR]; · iexact HR
    isplitl [Ha]; · rw [h0]; iexact Ha
    isplitl [Hh]; · iexact Hh
    iexact HO
  unfold LayPost
  iintro ⟨HP, HR, -, Ha, Hh, HO⟩
  ihave HR := (gv0 _) $$ HR
  iapply (step (dot1_ok c (Hm (A 0) c) o0 w1)) $$ [G2 G3 Ha Hh]
  · isplitl [Hh]; · iexact Hh
    isplitl [G2]; · iexact G2
    isplitl [G3] <;> iassumption
  iintro ⟨Hh, G2, G3, Ha⟩
  iapply (layer_ok A K c 1 (by decide) (oweL c 2) (Ab_mono (by decide) (ab_oweL2 c)))
  isplitr; · iexact HC
  isplitl [HP F1 HR Ha Hh HO]
  · unfold LayPre
    isplitl [HP]; · iexact HP
    isplitl [F1]; · iexact F1
    isplitl [HR]; · iexact HR
    isplitl [Ha]; · rw [h1]; iexact Ha
    isplitl [Hh]; · iapply (pt_any (b := cc0_scratch1)) $$ Hh
    iexact HO
  unfold LayPost
  iintro ⟨HP, HR, -, Ha, Hh, HO⟩
  ihave HR := (gv1 _) $$ HR
  iapply (step (dot2_ok c (Hm (A 1) c) o1 w2)) $$ [G4 G5 Ha Hh]
  · isplitl [Hh]; · iexact Hh
    isplitl [G4]; · iexact G4
    isplitl [G5] <;> iassumption
  iintro ⟨Hh, G4, G5, Ha⟩
  iapply (layer_ok A K c 2 (by decide) 0 (Ab_zero _))
  isplitr; · iexact HC
  isplitl [HP F2 HR Ha Hh HO]
  · unfold LayPre
    isplitl [HP]; · iexact HP
    isplitl [F2]; · iexact F2
    isplitl [HR]; · iexact HR
    isplitl [Ha]; · rw [h2]; iexact Ha
    isplitl [Hh]; · iapply (pt_any (b := cc0_scratch1)) $$ Hh
    iexact HO
  unfold LayPost
  iintro ⟨HP, -, HL, Ha, Hh, HO⟩
  ihave HL := (kp2 _) $$ HL
  ihave HL := ((land c).2) $$ HL
  iapply (wp_wand frame (wpE (defs₀ (F := F)) 𝒱₀ (c : Thread nD τ) none) Set.univ) $$ [G6 G7 Hh]
  · iapply (dotF_ok c (Hm (A 2) c) o2 y)
    isplitl [Hh]; · iexact Hh
    isplitl [G6] <;> iassumption
  iintro %_ ⟨Hh, G6, G7⟩
  isplitl [HP]; · iexact HP
  isplitl [HB]; · iexact HB
  isplitl [Ha Hh HL]
  · isplitl [Ha]; · iexact Ha
    isplitl [Hh]; · iapply (pt_any (b := cc0_scratch1)) $$ Hh
    iexact HL
  isplitr [HO]
  · isplitl [G0]; · iexact G0
    isplitl [G1]; · iexact G1
    isplitl [G2]; · iexact G2
    isplitl [G3]; · iexact G3
    isplitl [G4]; · iexact G4
    isplitl [G5]; · iexact G5
    isplitl [G6] <;> iassumption
  iexact HO

end Cert.MlpProof
end
-- ==== Proof.Cells.lean ====
/-
# The cells of a device

The cells sorted by what they count, and closed after the last layer.
-/
module

public import proofs.«01_k».proof.Proof.Body

@[expose] public section

noncomputable section

namespace Cert.MlpProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Over all copies -/

instance : Fintype Kd := ⟨⟨ord, by decide⟩, fun k => by
  cases k with
  | xa => decide
  | xb => decide
  | gxa => decide
  | yb d => revert d; decide
  | ya d => revert d; decide
  | zb d => revert d; decide
  | za d => revert d; decide
  | gya d => revert d; decide
  | gzb d => revert d; decide
  | gyb d => revert d; decide⟩

/-- One thing for each of a list of copies. -/
def lst (P : Kd → sProp 𝕄) : List Kd → sProp 𝕄
  | [] => iprop(emp)
  | k :: ks => iprop(P k ∗ lst P ks)
theorem lst_allK (P : Kd → sProp 𝕄) : lst P ord ⊢ allK P := by
  unfold ord allK allR allG tri
  simp only [lst]
  iintro ⟨H0, H1, H2, H3, H4, H5, H6, H7, H8, H9, HA, HB, HC, HD, HE, HF, HG, HH, HI, HJ, HK, HL, HM, HN, -⟩
  isplitl [H0 H1 H2 H3 H4 H5 H6 H7 H8 H9 HA HB HC HD]
  · isplitl [H0]; · iexact H0
    isplitl [H1 H2 H3]
    · isplitl [H1]; · iexact H1
      isplitl [H2] <;> iassumption
    isplitl [H4 H5 H6]
    · isplitl [H4]; · iexact H4
      isplitl [H5] <;> iassumption
    isplitl [H7 H8 H9]
    · isplitl [H7]; · iexact H7
      isplitl [H8] <;> iassumption
    isplitl [HA HB HC]
    · isplitl [HA]; · iexact HA
      isplitl [HB] <;> iassumption
    iexact HD
  · isplitl [HE HF HG]
    · isplitl [HE]; · iexact HE
      isplitl [HF] <;> iassumption
    isplitl [HH HI HJ]
    · isplitl [HH]; · iexact HH
      isplitl [HI] <;> iassumption
    isplitl [HK]; · iexact HK
    isplitl [HL]; · iexact HL
    isplitl [HM] <;> iassumption
theorem allK_lst (P : Kd → sProp 𝕄) : allK P ⊢ lst P ord := by
  unfold ord allK allR allG tri
  simp only [lst]
  iintro ⟨⟨H0, ⟨H1, H2, H3⟩, ⟨H4, H5, H6⟩, ⟨H7, H8, H9⟩, ⟨HA, HB, HC⟩, HD⟩, ⟨HE, HF, HG⟩, ⟨HH, HI, HJ⟩, HK, HL, HM, HN⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HA]; · iexact HA
  isplitl [HB]; · iexact HB
  isplitl [HC]; · iexact HC
  isplitl [HD]; · iexact HD
  isplitl [HE]; · iexact HE
  isplitl [HF]; · iexact HF
  isplitl [HG]; · iexact HG
  isplitl [HH]; · iexact HH
  isplitl [HI]; · iexact HI
  isplitl [HJ]; · iexact HJ
  isplitl [HK]; · iexact HK
  isplitl [HL]; · iexact HL
  isplitl [HM]; · iexact HM
  isplitl [HN]; · iexact HN
  iempintro
theorem lst_big (P : Kd → sProp 𝕄) : ∀ ks : List Kd, ks.Nodup → lst P ks = bigSep ks.toFinset P
  | [], _ => bigSep_empty.symm
  | k :: ks, h => by
      rw [List.toFinset_cons, bigSep_insert (fun hk => (List.nodup_cons.mp h).1 (List.mem_toFinset.mp hk))]
      show iprop(P k ∗ lst P ks) = _
      rw [lst_big P ks (List.nodup_cons.mp h).2]; rfl
theorem big_lst (P : Kd → sProp 𝕄) : bigSep Finset.univ P = lst P ord := by
  rw [lst_big P ord (by decide)]
  exact congrArg (fun s => bigSep s P) (by ext k; simp only [Finset.mem_univ, List.mem_toFinset, true_iff]; exact Finset.mem_univ (α := Kd) k)
theorem big_allK (P : Kd → sProp 𝕄) : bigSep Finset.univ P ⊣⊢ allK P := by
  rw [big_lst]; exact ⟨lst_allK P, allK_lst P⟩

/-! ## The cells by what they count -/

/-- The semaphores of the kernel's own that no copy uses. -/
def un (i : Fin 14) : Fin 62 := match i with
  | 0 => 2 | 1 => 6 | 2 => 10 | 3 => 14 | 4 => 20 | 5 => 24 | 6 => 30 | 7 => 34 | 8 => 38 | 9 => 42 | 10 => 46 | 11 => 50 | 12 => 54 | 13 => 58
theorem decN_un : ∀ i : Fin 14, decN (un i).val = none := by decide

def ixOf : Kd ⊕ (Kd ⊕ (Fin 14 ⊕ Unit)) → Fin 63
  | .inl k => ownIx (sNum k) | .inr (.inl k) => ownIx (rNum k) | .inr (.inr (.inl i)) => ownIx (un i) | .inr (.inr (.inr _)) => barIx
theorem ixOf_bij : Function.Bijective ixOf := by
  rw [Fintype.bijective_iff_surjective_and_card]
  exact ⟨by unfold Function.Surjective; decide +kernel, by decide⟩

theorem big63 (Φ : Fin 63 → sProp 𝕄) : bigSep Finset.univ Φ = iprop((bigSep Finset.univ fun k : Kd => Φ (ownIx (sNum k)))
    ∗ (bigSep Finset.univ fun k : Kd => Φ (ownIx (rNum k))) ∗ (bigSep Finset.univ fun i : Fin 14 => Φ (ownIx (un i))) ∗ Φ barIx) := by
  rw [bigSep_univ_equiv (Equiv.ofBijective ixOf ixOf_bij) Φ, bigSep_univ_sum, bigSep_univ_sum, bigSep_univ_sum,
    bigSep_univ_of_subsingleton ()]
  rfl

theorem kcell_own (c : Dev nD) (j : Fin 62) : kcell (c, ownIx j) = ((c : Thread nD τ), .dma (own j)) := by unfold kcell; rw [csem_own]
theorem kcell_bar (c : Dev nD) : kcell (c, barIx) = barCell c := by unfold kcell; rw [csem_bar]

/-! ## Closing the cells -/

variable (A : ℕ → Dev nD → Acc F) (K : Dev nD × Fin 63 → ℕ) (c : Dev nD)

/-- A position after which nothing is expected. -/
def Fin_ (g : GSem nD τ sig) : sProp 𝕄 := iprop(∃ R : ℕ, ⌜∀ r, R ≤ r → (sched A).duties g r = ∅⌝ ∗ atPos ER g R ∅ 0)

theorem close1 (j : Fin 63) : iprop(Ctx A K ∗ Fin_ A (kcell (c, j))) ⊢ |={Set.univ}=> semVal (kcell (c, j)) 0 := by
  unfold Fin_
  iintro ⟨#HC, ⟨%R, %hR, Hat⟩⟩
  ihave #HI := (ctx_inv A K c j) $$ HC
  iapply (Rounds.cell_close ER (sched A) (Set.mem_univ (K (c, j))) (fun h => h) (R := R) hR)
  isplitr; · iexact HI
  iexact Hat

theorem close_all : iprop(Ctx A K ∗ bigSep Finset.univ fun j : Fin 63 => Fin_ A (kcell (c, j)))
    ⊢ |={Set.univ}=> bigSep Finset.univ fun j : Fin 63 => semVal (kcell (c, j)) 0 :=
  ((sep_mono_left (BI.bigSep_of_persistent Finset.univ (Ctx A K))).trans
    (by rw [← bigSep_sep']; exact bigSep_mono fun j _ => close1 A K c j)).trans (bigSep_fupd _ _)

/-- The positions of the semaphores no copy uses. -/
def Un : sProp 𝕄 := bigSep Finset.univ fun i : Fin 14 => atPos ER (kcell (c, ownIx (un i))) 0 ∅ 0

theorem fin_s (k : Kd) : Ps (F := F) 3 c k ⊢ iprop(Fin_ A (kcell (c, ownIx (sNum k))) ∗ Fin_ A (kcell (c, ownIx (rNum k)))) := by
  unfold Ps Fin_
  rw [kcell_own, kcell_own]
  iintro ⟨⟨H, -⟩, H', -⟩
  isplitl [H]
  · iexists 3; isplitr; · ipureintro; exact duties_later A _
    iexact H
  · iexists 3; isplitr; · ipureintro; exact duties_later A _
    iexact H'

theorem un_fin1 (i : Fin 14) : atPos ER (kcell (c, ownIx (un i))) 0 ∅ 0 ⊢ Fin_ A (kcell (c, ownIx (un i))) := by
  unfold Fin_
  iintro H
  iexists 0; isplitr
  · ipureintro; exact fun r _ => by rw [kcell_own]; exact duties_none A c (un i) (decN_un i) r
  iexact H
theorem un_fin : Un (F := F) c ⊢ bigSep Finset.univ fun i : Fin 14 => Fin_ A (kcell (c, ownIx (un i))) := by
  unfold Un
  exact bigSep_mono fun i _ => un_fin1 A c i

theorem fin_all : iprop(allK (Ps (F := F) 3 c) ∗ Un c ∗ atPos ER (barCell c) 1 ∅ 0) ⊢ bigSep Finset.univ fun j : Fin 63 => Fin_ A (kcell (c, j)) := by
  rw [big63]
  iintro ⟨HP, HU, HB⟩
  ihave HP := ((big_allK _).2.trans ((bigSep_mono fun k _ => fin_s A c k).trans (Entails.of_eq (bigSep_sep' _ _ _)))) $$ HP
  icases HP with ⟨HS, HR⟩
  isplitl [HS]; · iexact HS
  isplitl [HR]; · iexact HR
  isplitl [HU]
  · iapply (un_fin A c) $$ HU
  · unfold Fin_
    rw [kcell_bar]
    iexists 1; isplitr; · ipureintro; exact duties_bar_later A c
    iexact HB

end Cert.MlpProof
end
-- ==== Proof.Deal.lean ====
/-
# What the launch deals out

The cells and their duties over all devices, the duties dealt to the devices that pay them, and the credits.
-/
module

public import proofs.«01_k».proof.Proof.Cells

@[expose] public section

noncomputable section

namespace Cert.MlpProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The cells and the tokens -/

theorem csem_inj : Function.Injective csem := by
  intro j j' h
  unfold csem at h
  have e (a b : Fin 62) (h : (SemLoc.dma (own a) : SemLoc sig) = .dma (own b)) : a.val = b.val := by
    injection h with h
    have h := congrArg Fin.val h
    change 8 + a.val = 8 + b.val at h
    omega
  split at h
  · split at h
    · exact Fin.ext (e _ _ h)
    · cases h
  · split at h
    · cases h
    · exact Fin.ext (by omega)

theorem kcell_injective : Function.Injective (kcell : Dev nD × Fin 63 → GSem nD τ sig) := by
  rintro ⟨c, j⟩ ⟨c', j'⟩ h
  have h1 : c = c' := congrArg (fun g : GSem nD τ sig => g.1.1) h
  have h2 : j = j' := csem_inj (congrArg Prod.snd h)
  rw [h1, h2]
def allCells : Finset (GSem nD τ sig) := Finset.univ.map ⟨kcell, kcell_injective⟩

/-- A device's duties: to count a copy sent, to count one received, and the signals of the handshake. -/
abbrev TokIx : Type := (Fin 3 × Kd) ⊕ ((Fin 3 × Kd) ⊕ Fin 7)
def tokOf (ci : Dev nD × TokIx) : GSem nD τ sig × ℕ × Fin 7 := match ci.2 with
  | .inl lk => (sCell lk.2 ci.1, lk.1.val, 0) | .inr (.inl lk) => (rCell lk.2 ci.1, lk.1.val, 0) | .inr (.inr j) => (barCell ci.1, 0, j)
theorem dec_bar : dec (.reg barS) = none := rfl
theorem tokOf_injective : Function.Injective tokOf := by
  rintro ⟨c, i⟩ ⟨c', i'⟩ h
  have h1 : c = c' := by
    have := congrArg (fun x : GSem nD τ sig × ℕ × Fin 7 => x.1.1.1) h
    rcases i with _ | _ | _ <;> rcases i' with _ | _ | _ <;> exact this
  subst h1
  have hd := congrArg (fun x : GSem nD τ sig × ℕ × Fin 7 => dec x.1.2) h
  have hl := congrArg (fun x : GSem nD τ sig × ℕ × Fin 7 => x.2.1) h
  have hj := congrArg (fun x : GSem nD τ sig × ℕ × Fin 7 => x.2.2) h
  rcases i with ⟨l, k⟩ | ⟨l, k⟩ | j <;> rcases i' with ⟨l', k'⟩ | ⟨l', k'⟩ | j' <;> dsimp only [tokOf] at hd hl hj <;>
    simp only [dec_s, dec_r, dec_bar, Option.some.injEq, Prod.mk.injEq, reduceCtorEq, false_and, true_and] at hd
  · rw [hd, Fin.ext hl]
  · rw [hd, Fin.ext hl]
  · rw [hj]
def allToks : Finset (GSem nD τ sig × ℕ × Fin 7) := Finset.univ.map ⟨tokOf, tokOf_injective⟩

variable (A : ℕ → Dev nD → Acc F)

/-- The duties of a device's own cells, -/
def toks (c : Dev nD) : sProp 𝕄 :=
  iprop((bigSep Finset.univ fun lk : Fin 3 × Kd => dutyTok ER (sCell lk.2 c) lk.1.val 0)
    ∗ (bigSep Finset.univ fun lk : Fin 3 × Kd => dutyTok ER (rCell lk.2 c) lk.1.val 0)
    ∗ bigSep Finset.univ fun j : Fin 7 => dutyTok ER (barCell c) 0 j)
/-- and those it pays. -/
def payToks (c : Dev nD) : sProp 𝕄 :=
  iprop((bigSep Finset.univ fun lk : Fin 3 × Kd => dutyTok ER (sCell lk.2 c) lk.1.val 0)
    ∗ (bigSep Finset.univ fun lk : Fin 3 × Kd => dutyTok ER (rCell lk.2 (dst lk.2 c)) lk.1.val 0)
    ∗ bigSep Finset.univ fun j : Fin 7 => dutyTok ER (barCell (pj j c)) 0 j)

def pjEquiv (j : Fin 7) : Dev nD ≃ Dev nD := ⟨pj j, pji j, pji_pj j, pj_pji j⟩

theorem deal {I : Type} [Fintype I] (P : I → Dev nD → sProp 𝕄) (e : I → Dev nD ≃ Dev nD) :
    (bigSep Finset.univ fun c : Dev nD => bigSep Finset.univ fun i : I => P i c)
      = bigSep Finset.univ fun c : Dev nD => bigSep Finset.univ fun i : I => P i (e i c) := by
  rw [bigSep_univ_comm, bigSep_univ_comm (fun c i => P i (e i c))]
  exact bigSep_congr fun i _ => bigSep_univ_equiv (e i) (P i)

theorem toks_around : (bigSep Finset.univ fun c : Dev nD => (toks c : sProp 𝕄)) ⊢ bigSep Finset.univ fun c : Dev nD => payToks c := by
  unfold toks payToks
  rw [bigSep_sep', bigSep_sep', bigSep_sep', bigSep_sep',
    deal (fun (lk : Fin 3 × Kd) c => (dutyTok ER (rCell lk.2 c) lk.1.val 0 : sProp 𝕄)) (fun lk => dstEquiv lk.2),
    deal (fun (j : Fin 7) c => (dutyTok ER (barCell c) 0 j : sProp 𝕄)) pjEquiv]
  exact .rfl

/-- What the launch deals device `c`. -/
def G (c : Dev nD) : sProp 𝕄 :=
  iprop((bigSep Finset.univ fun j : Fin 63 => roundState ER (sched A) (kcell (c, j)) 0)
    ∗ (bigSep Finset.univ fun j : Fin 63 => iprop(atPos ER (kcell (c, j)) 0 ∅ 0 ∗ reached ER (kcell (c, j)) 0)) ∗ toks c)

theorem fund_all : BI.own (ER (initOf allCells allToks)) ⊢ (|==> bigSep Finset.univ (G A) : sProp 𝕄) := by
  have hX (Φ : GSem nD τ sig → sProp 𝕄) : bigSep allCells Φ = bigSep Finset.univ fun c : Dev nD => bigSep Finset.univ fun j : Fin 63 => Φ (kcell (c, j)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (sched A) allCells allToks) $$ HX with ⟨Hst, Hr, Hat, Htok⟩
  imodintro
  ihave Hst := (Entails.of_eq (hX fun g => roundState ER (sched A) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores at zero -/

def osem : Fin 62 → SemLoc sig := fun j => .dma (own j)

theorem sems0_eq (c : Dev nD) :
    (bigSep Finset.univ fun j : Fin 63 => semVal (kcell (c, j)) 0 : sProp 𝕄)
      = iprop(Pipeline.ownSems0 (Ix := ℕ) (Name := ℕ) (U := UU) (Lvl := ℕ) (Val := Elt F) (τ := τ) osem c ∗ unscopedSems0 c) := by
  unfold unscopedSems0 Pipeline.ownSems0
  rw [bigSep_eq_bigSepL_of_eq [SemLoc.reg barS] (by decide) (by decide), bigSepL_singleton]
  rw [bigSep_univ_equiv (finSumFinEquiv (m := 62) (n := 1)), bigSep_univ_sum, bigSep_univ_of_subsingleton (0 : Fin 1)]
  have h1 (j : Fin 62) : kcell (c, finSumFinEquiv (Sum.inl j : Fin 62 ⊕ Fin 1)) = ((c.tc : Thread nD τ), osem j) := kcell_own c j
  have h2 : kcell (c, finSumFinEquiv (Sum.inr 0 : Fin 62 ⊕ Fin 1)) = barCell c := kcell_bar c
  simp only [h1, h2]
  rfl

theorem core_alloc (c : Dev nD) :
    iprop(Pipeline.ownSems0 (Ix := ℕ) (Name := ℕ) (U := UU) (Lvl := ℕ) (Val := Elt F) (τ := τ) osem c ∗ unscopedSems0 c ∗ G A c)
      ⊢ |={Set.univ}=> iprop((bigSep Finset.univ fun j => iprop(∃ κ : ℕ, cellInv ER (sched A) κ (kcell (c, j))))
          ∗ (bigSep Finset.univ fun j => iprop(atPos ER (kcell (c, j)) 0 ∅ 0 ∗ reached ER (kcell (c, j)) 0)) ∗ toks c) := by
  unfold G
  iintro ⟨Hos, Hus, Hst, Hat, Htok⟩
  ihave Hv := (Entails.of_eq (sems0_eq (F := F) c).symm) $$ [Hos Hus]
  · isplitl [Hos] <;> iassumption
  imod (show iprop((bigSep Finset.univ fun j : Fin 63 => semVal (kcell (c, j)) 0) ∗ bigSep Finset.univ fun j : Fin 63 => roundState ER (sched A) (kcell (c, j)) 0)
      ⊢ (|={Set.univ}=> bigSep Finset.univ fun j => iprop(∃ κ : ℕ, cellInv ER (sched A) κ (kcell (c, j))) : sProp 𝕄) from by
        rw [← bigSep_sep']
        exact (bigSep_mono fun j _ => (Rounds.body_intro ER (sched A) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-! ## What each device starts from -/

/-- The duties of layer `l` it pays. -/
def Dt (l : ℕ) (c : Dev nD) (k : Kd) : sProp 𝕄 := iprop(dutyTok ER (sCell k c) l 0 ∗ dutyTok ER (rCell k (dst k c)) l 0)
/-- Its positions and duties. -/
def Gh (c : Dev nD) : sProp 𝕄 :=
  iprop((Bt c 0 ∗ Bt c 1 ∗ Bt c 2 ∗ Bt c 3 ∗ Bt c 4 ∗ Bt c 5 ∗ Bt c 6) ∗ atPos ER (barCell c) 0 ∅ 0 ∗ allK (Ps 0 c) ∗ Un c
    ∗ allK (Dt 0 c) ∗ allK (Dt 1 c) ∗ allK (Dt 2 c))
/-- All cells' invariants. -/
def Invs (K : Dev nD × Fin 63 → ℕ) : sProp 𝕄 := bigSep Finset.univ fun cj : Dev nD × Fin 63 => cellInv ER (sched A) (K cj) (kcell cj)
instance Invs_persistent (K : Dev nD × Fin 63 → ℕ) : BI.Persistent (Invs A K) := by unfold Invs; infer_instance
def G' (c : Dev nD) : sProp 𝕄 := iprop(∃ K, Invs A K ∗ Gh c)

/-- That every cell is at its start. -/
def Reach : sProp 𝕄 := bigSep Finset.univ fun cj : Dev nD × Fin 63 => reached ER (kcell cj) 0
instance Reach_persistent : BI.Persistent (Reach (F := F)) := by unfold Reach; infer_instance
theorem reach_at (c : Dev nD) (j : Fin 63) : Reach (F := F) ⊢ reached ER (kcell (c, j)) 0 := bigSep_elim (Finset.mem_univ (c, j))
theorem reach_own (c : Dev nD) (j : Fin 62) : Reach (F := F) ⊢ reached ER ((c : Thread nD τ), .dma (own j)) 0 := by
  have h := reach_at (F := F) c (ownIx j)
  rwa [kcell_own] at h
theorem reach_bar (c : Dev nD) : Reach (F := F) ⊢ reached ER (barCell c) 0 := by
  have h := reach_at (F := F) c barIx
  rwa [kcell_bar] at h

theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ps_start (c : Dev nD) : iprop(Reach ∗ (bigSep Finset.univ fun k : Kd => atPos ER (kcell (c, ownIx (sNum k))) 0 ∅ 0)
      ∗ bigSep Finset.univ fun k : Kd => atPos ER (kcell (c, ownIx (rNum k))) 0 ∅ 0) ⊢ allK (Ps (F := F) 0 c) := by
  rw [← bigSep_sep']
  refine (with_all fun k _ => ?_).trans (big_allK _).1
  unfold Ps
  rw [kcell_own, kcell_own]
  iintro ⟨#HR, H, H'⟩
  isplitl [H]
  · isplitl [H]; · iexact H
    iapply (reach_own c (sNum k)) $$ HR
  isplitl [H']; · iexact H'
  iapply (reach_own c (rNum k)) $$ HR

theorem bt_start (c : Dev nD) : iprop(Reach ∗ bigSep Finset.univ fun j : Fin 7 => dutyTok ER (barCell (pj j c)) 0 j)
    ⊢ iprop(Bt (F := F) c 0 ∗ Bt c 1 ∗ Bt c 2 ∗ Bt c 3 ∗ Bt c 4 ∗ Bt c 5 ∗ Bt c 6) := by
  refine (with_all (Ψ := fun j => Bt c j) fun j _ => ?_).trans (Entails.of_eq ?_)
  · unfold Bt
    iintro ⟨#HR, H⟩
    isplitl [H]; · iexact H
    iapply (reach_bar (pj j c)) $$ HR
  · rw [bigSep_univ_eq_bigSepL [0, 1, 2, 3, 4, 5, 6] (by decide) (by decide)]
    simp only [bigSepL_cons_cons, bigSepL_singleton]
    rfl

theorem dt_start (c : Dev nD) : iprop((bigSep Finset.univ fun lk : Fin 3 × Kd => dutyTok ER (sCell lk.2 c) lk.1.val 0)
      ∗ bigSep Finset.univ fun lk : Fin 3 × Kd => dutyTok ER (rCell lk.2 (dst lk.2 c)) lk.1.val 0)
    ⊢ iprop(allK (Dt (F := F) 0 c) ∗ allK (Dt 1 c) ∗ allK (Dt 2 c)) := by
  rw [← bigSep_sep', bigSep_univ_prod, bigSep_univ_eq_bigSepL [0, 1, 2] (by decide) (by decide)]
  simp only [bigSepL_cons_cons, bigSepL_singleton]
  exact BIClass.sep_mono (big_allK (Dt 0 c)).1 (BIClass.sep_mono (big_allK (Dt 1 c)).1 (big_allK (Dt 2 c)).1)

theorem gh_start (c : Dev nD) : iprop(Reach ∗ (bigSep Finset.univ fun j : Fin 63 => atPos ER (kcell (c, j)) 0 ∅ 0) ∗ payToks c) ⊢ Gh (F := F) c := by
  unfold payToks Gh
  rw [big63]
  iintro ⟨#HR, ⟨Hs, Hr, Hu, Hb⟩, Ts, Tr, Tb⟩
  isplitl [Tb]
  · iapply (bt_start c)
    isplitr; · iexact HR
    iexact Tb
  isplitl [Hb]; · rw [kcell_bar]; iexact Hb
  isplitl [Hs Hr]
  · iapply (ps_start c)
    isplitr; · iexact HR
    isplitl [Hs]; · iexact Hs
    iexact Hr
  isplitl [Hu]; · unfold Un; iexact Hu
  iapply (dt_start c)
  isplitl [Ts]; · iexact Ts
  iexact Tr

theorem regroup :
    (bigSep Finset.univ fun c : Dev nD => iprop((bigSep Finset.univ fun j => iprop(∃ κ : ℕ, cellInv ER (sched A) κ (kcell (c, j))))
          ∗ (bigSep Finset.univ fun j => iprop(atPos ER (kcell (c, j)) 0 ∅ 0 ∗ reached ER (kcell (c, j)) 0)) ∗ toks c) : sProp 𝕄)
      ⊢ bigSep Finset.univ (G' A) := by
  rw [bigSep_sep', bigSep_sep', ← bigSep_univ_prod (fun cj : Dev nD × Fin 63 => iprop(∃ κ : ℕ, cellInv ER (sched A) κ (kcell cj))),
    bigSep_congr (s := Finset.univ) (fun (c : Dev nD) _ => bigSep_sep' Finset.univ (fun j : Fin 63 => (atPos ER (kcell (c, j)) 0 ∅ 0 : sProp 𝕄)) (fun j => reached ER (kcell (c, j)) 0)),
    bigSep_sep', ← bigSep_univ_prod (fun cj : Dev nD × Fin 63 => (reached ER (kcell cj) 0 : sProp 𝕄))]
  iintro ⟨HI, ⟨Hat, #HR⟩, Htok⟩
  ihave HK := (BI.bigSep_exists_pi Finset.univ (fun (cj : Dev nD × Fin 63) (κ : ℕ) => (cellInv ER (sched A) κ (kcell cj) : sProp 𝕄))) $$ HI
  icases HK with ⟨%K, #HI⟩
  ihave Htk := (toks_around (F := F)) $$ Htok
  iapply (with_all (R := iprop(Invs A K ∗ Reach)) (Φ := fun c => iprop((bigSep Finset.univ fun j : Fin 63 => atPos ER (kcell (c, j)) 0 ∅ 0) ∗ payToks c)) fun c _ => by
    unfold G'
    iintro ⟨⟨#HI, #HR⟩, H⟩
    iexists K
    isplitr; · iexact HI
    iapply (gh_start c)
    isplitr; · iexact HR
    iexact H)
  isplitr
  · isplitl
    · unfold Invs; iexact HI
    · unfold Reach; iexact HR
  · rw [bigSep_sep']
    isplitl [Hat]; · iexact Hat
    iexact Htk

theorem glob : (bigSep Finset.univ fun c => iprop(Pipeline.ownSems0 (Ix := ℕ) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

/-! ## The credits -/

/-- The credit of the copy received in layer `l`. -/
def Cd (l : ℕ) (c : Dev nD) (k : Kd) : sProp 𝕄 := cred (tallyAt (rCell k c) l (cr k))

theorem cred_K (l : ℕ) (O : Dev nD → CellTallies nD τ sig ℕ) (c : Dev nD) : ∀ ks : List Kd,
    (Pipeline.launchCred (fun d => oweK d l ks (O d)) c : sProp 𝕄) ⊢ iprop(lst (Cd l c) ks ∗ Pipeline.launchCred O c)
  | [] => by
      show (Pipeline.launchCred O c : sProp 𝕄) ⊢ iprop(emp ∗ Pipeline.launchCred O c)
      iintro H
      isplitr; · iempintro
      iexact H
  | k :: ks => by
      refine (Entails.of_eq (Pipeline.launchCred_add (fun d => oweK d l ks (O d)) (fun d => tallyAt (rCell k (dst k d)) l (cr k)) c)).trans ?_
      show _ ⊢ iprop((Cd l c k ∗ lst (Cd l c) ks) ∗ Pipeline.launchCred O c)
      iintro ⟨H, H'⟩
      ihave H := (cred_K l O c ks) $$ H
      icases H with ⟨H, HO⟩
      ihave H' := (Pipeline.launchCred_tallyAt (.dma (rSem k)) (dst k) (src k) (dst_src k) (src_dst k) l (cr k) c) $$ H'
      isplitr [HO]
      · isplitl [H']; · unfold Cd; iexact H'
        iexact H
      iexact HO

theorem cred_B (c : Dev nD) : ∀ js : List (Fin 7),
    (Pipeline.launchCred (fun d => oweB d js) c : sProp 𝕄) ⊢ iprop(cred (tallyAt (barCell c) 0 js.length) ∗ Pipeline.launchCred (fun d => oweL d 0) c)
  | [] => by
      show (Pipeline.launchCred (fun d => oweL d 0) c : sProp 𝕄) ⊢ iprop(cred (tallyAt (barCell c) 0 0) ∗ Pipeline.launchCred (fun d => oweL d 0) c)
      rw [show (tallyAt (barCell c) 0 0 : CellTallies nD τ sig ℕ) = 0 from by unfold tallyAt; simp, cred_zero]
      iintro H
      isplitr; · iempintro
      iexact H
  | j :: js => by
      refine (Entails.of_eq (Pipeline.launchCred_add (fun d => oweB d js) (fun d => tallyAt (barCell (pj j d)) 0 1) c)).trans ?_
      iintro ⟨H, H'⟩
      ihave H := (cred_B c js) $$ H
      icases H with ⟨H, HO⟩
      ihave H' := (Pipeline.launchCred_tallyAt (.reg barS) (pj j) (pji j) (pj_pji j) (pji_pj j) 0 1 c) $$ H'
      isplitr [HO]
      · rw [List.length_cons, ← tallyAt_add]
        iapply (cred_add _ _).2
        isplitl [H]; · iexact H
        iexact H'
      iexact HO

def O₀ (c : Dev nD) : CellTallies nD τ sig ℕ := oweB c ordB

/-- The credits a device starts with. -/
def Cr (c : Dev nD) : sProp 𝕄 := iprop(cred (tallyAt (barCell c) 0 7) ∗ allK (Cd 0 c) ∗ allK (Cd 1 c) ∗ allK (Cd 2 c))
theorem creds (c : Dev nD) : (Pipeline.launchCred O₀ c : sProp 𝕄) ⊢ Cr c := by
  show (Pipeline.launchCred (fun d => oweB d ordB) c : sProp 𝕄) ⊢ _
  unfold Cr
  iintro H
  ihave H := (cred_B c ordB) $$ H
  icases H with ⟨HB, H⟩
  ihave H := (show (Pipeline.launchCred (fun d => oweL d 0) c : sProp 𝕄) ⊢ _ from cred_K 0 (fun d => oweL d 1) c ord) $$ H
  icases H with ⟨H0, H⟩
  ihave H := (show (Pipeline.launchCred (fun d => oweL d 1) c : sProp 𝕄) ⊢ _ from cred_K 1 (fun d => oweL d 2) c ord) $$ H
  icases H with ⟨H1, H⟩
  ihave H := (show (Pipeline.launchCred (fun d => oweL d 2) c : sProp 𝕄) ⊢ _ from cred_K 2 (fun d => 0) c ord) $$ H
  icases H with ⟨H2, -⟩
  isplitl [HB]; · iexact HB
  isplitl [H0]; · iapply (lst_allK _) $$ H0
  isplitl [H1]; · iapply (lst_allK _) $$ H1
  iapply (lst_allK _) $$ H2

end Cert.MlpProof
end
-- ==== Proof.BodyEq.lean ====
/-
# The body of the kernel is the program in parts
-/
module

public import proofs.«01_k».proof.Proof.Ops

@[expose] public section
noncomputable section

namespace Cert.MlpProof

open Cert.KernelIdeal Cert.KernelIdeal.Gen
open Idealize.ShloMosaic Idealize.SL.Sem
open Idealize.ShloMosaic.TcCoe

variable {F : FTy → Type} [FloatOps F]

set_option maxRecDepth 100000 in
set_option maxHeartbeats 8000000 in
/-- Its operations one after the other, grouped. -/
theorem body_eq (t : Fin cfg0.N) : bodyAt0 (F := F) t = bodyP := by
  unfold bodyAt0
  rw [cc0_body_eq_skeleton]
  rfl
end Cert.MlpProof
end
-- ==== Proof.Run.lean ====
/-
# The launch

The run of the whole mesh: the proof data of the launch, the body's obligation, and the run.
-/
module

public import proofs.«01_k».proof.Proof.Deal
public import proofs.«01_k».proof.Proof.BodyEq
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Pipeline.CollectiveSegs

@[expose] public section

noncomputable section

namespace Cert.MlpProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.Pipeline (Dat Cfg Window BodyObligation cellOf)

variable (m : (ℓ : Loc nD τ sig) → Buf (Elt F) ℓ) (ρ : Dev nD → PrngReg)

/-! ## What a run computes -/

theorem N_one : cfg0.N = 1 := by decide
/-- The one point. -/
def t₀ : Fin cfg0.N := ⟨0, by rw [N_one]; decide⟩
theorem only_t (t : Fin cfg0.N) : t = t₀ := by
  obtain ⟨t, ht⟩ := t; have := N_one; exact Fin.ext (by simp only [t₀]; omega)

/-- The device's blocks of the arguments. -/
def inX (c : Dev nD) : S512x256.Idx → Elt F .f32 := iblk m c 0 t₀
def inW0 (c : Dev nD) : S256x512.Idx → Elt F .f32 := iblk m c 1 t₀
def inO0 (c : Dev nD) : S512x256.Idx → Elt F .f32 := iblk m c 2 t₀
def inW1 (c : Dev nD) : S256x512.Idx → Elt F .f32 := iblk m c 3 t₀
def inO1 (c : Dev nD) : S512x256.Idx → Elt F .f32 := iblk m c 4 t₀
def inW2 (c : Dev nD) : S256x512.Idx → Elt F .f32 := iblk m c 5 t₀
def inO2 (c : Dev nD) : S512x256.Idx → Elt F .f32 := iblk m c 6 t₀

/-- A device's share of the activation of each layer, before the sum over the devices. -/
def acc0 (c : Dev nD) : Acc F := k0_pay2 (inX m c) (inW0 m c)
def acc1 (c : Dev nD) : Acc F := k0_pay9 (Hm (acc0 m) c) (inO0 m c) (inW1 m c)
def acc2 (c : Dev nD) : Acc F := k0_pay9 (Hm (acc1 m) c) (inO1 m c) (inW2 m c)
def accs : ℕ → Dev nD → Acc F
  | 0 => acc0 m
  | 1 => acc1 m
  | _ => acc2 m
/-- The device's block of the result. -/
def outAt (c : Dev nD) : S512x256.Idx → Elt F .f32 := k0_pay1 (Hm (acc2 m) c) (inO2 m c)

/-! ## The proof data of the launch -/

/-- What a device's body starts from. -/
def start (c : Dev nD) : sProp 𝕄 := iprop(G' (accs m) c ∗ Cr c ∗ Lev)
/-- The device's own buffers, holding anything. -/
def Own (c : Dev nD) : sProp 𝕄 := iprop(any (F := F) cc0_scratch0 c Finset.univ ∗ any cc0_scratch1 c Finset.univ ∗ Lw c)
/-- The device's own semaphores and the barrier's, at zero. -/
def Zero (c : Dev nD) : sProp 𝕄 := bigSep Finset.univ fun j : Fin 63 => semVal (kcell (c, j)) 0
def Φ₀ (c : Dev nD) : sProp 𝕄 := iprop(start m c ∗ Own c)
def Φ₁ (c : Dev nD) : sProp 𝕄 := iprop(Own (F := F) c ∗ Zero c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => inX m c
    | ⟨1, _⟩ => inW0 m c
    | ⟨2, _⟩ => inO0 m c
    | ⟨3, _⟩ => inW1 m c
    | ⟨4, _⟩ => inO1 m c
    | ⟨5, _⟩ => inW2 m c
    | ⟨6, _⟩ => inO2 m c
    | ⟨7, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body -/

/-- A staging buffer at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

theorem stg_pt (c : Dev nD) (b : Ref sig .tc) (X : b.ty.Contents (Elt F)) : (stg c b X : sProp 𝕄) ⊢ pt b c Finset.univ fullShare X := by
  iintro ⟨%f, %h, H⟩
  subst h
  unfold pt
  iexact H
theorem pt_stg (c : Dev nD) (b : Ref sig .tc) (X : b.ty.Contents (Elt F)) : (pt b c Finset.univ fullShare X : sProp 𝕄) ⊢ stg c b X := by
  unfold pt
  iintro H
  iexists X
  isplitr; · ipureintro; rfl
  iexact H

/-- The eight staging buffers. -/
def Stg (c : Dev nD) (y : S512x256.Idx → Elt F .f32) : sProp 𝕄 :=
  iprop(pt cc0_stg0_0 c Finset.univ fullShare (inX m c) ∗ pt cc0_stg1_0 c Finset.univ fullShare (inW0 m c) ∗ pt cc0_stg2_0 c Finset.univ fullShare (inO0 m c)
    ∗ pt cc0_stg3_0 c Finset.univ fullShare (inW1 m c) ∗ pt cc0_stg4_0 c Finset.univ fullShare (inO1 m c) ∗ pt cc0_stg5_0 c Finset.univ fullShare (inW2 m c)
    ∗ pt cc0_stg6_0 c Finset.univ fullShare (inO2 m c) ∗ pt cc0_stg7_0 c Finset.univ fullShare y)

theorem fus_intro (c : Dev nD) (l : ℕ) : iprop(allK (Dt (F := F) l c) ∗ allK (Cd l c)) ⊢ allK (Fu l c) := by
  refine (allK_zip _ _).trans (Entails.of_eq ?_)
  congr 1

theorem body_run (c : Dev nD) (y : S512x256.Idx → Elt F .f32) :
    iprop(Φ₀ m c ∗ Stg m c y ∗ ow c (O₀ c)) ⊢ WP c bodyP (fun _ => iprop(Φ₁ c ∗ Stg m c (outAt m c) ∗ ow c 0)) := by
  unfold Φ₀ start G' Gh Cr Own
  iintro ⟨⟨⟨⟨%K, #HI, HB, Hp, HP, HU, D0, D1, D2⟩, ⟨Hb, C0, C1, C2⟩, #HL⟩, Ha, Hh, Hw⟩, HS, HO⟩
  ihave #HC := (show iprop(Invs (accs m) K ∗ Lev) ⊢ Ctx (accs m) K from .rfl) $$ []
  · isplitr; · iexact HI
    iexact HL
  ihave F0 := (fus_intro c 0) $$ [D0 C0]
  · isplitl [D0] <;> iassumption
  ihave F1 := (fus_intro c 1) $$ [D1 C1]
  · isplitl [D1] <;> iassumption
  ihave F2 := (fus_intro c 2) $$ [D2 C2]
  · isplitl [D2] <;> iassumption
  iapply (wp_fupd frame (wpE (defs₀ (F := F)) 𝒱₀ (c : Thread nD τ) none) Set.univ)
  ihave H := (body_ok (accs m) K c (inX m c) (inW0 m c) (inW1 m c) (inW2 m c) (inO0 m c) (inO1 m c) (inO2 m c) y rfl rfl rfl) $$ [HB Hp HP Hb F0 F1 F2 Ha Hh Hw HS HO]
  · isplitr; · iexact HC
    isplitl [HB Hp Hb]
    · unfold BarPre
      isplitl [HB]; · iexact HB
      isplitl [Hb] <;> iassumption
    isplitl [HP]; · iexact HP
    isplitl [F0 F1 F2]
    · unfold Fus
      isplitl [F0]; · iexact F0
      isplitl [F1] <;> iassumption
    isplitl [Ha]; · iexact Ha
    isplitl [Hh]; · iexact Hh
    isplitl [Hw]; · iexact Hw
    isplitl [HS]; · unfold Stg; iexact HS
    unfold O₀; iexact HO
  iapply (wp_wand frame (wpE (defs₀ (F := F)) 𝒱₀ (c : Thread nD τ) none) Set.univ) $$ H
  iintro %_ ⟨HP, HB, HW, HS, HO⟩
  ihave HF := (fin_all (accs m) c) $$ [HP HB HU]
  · isplitl [HP]; · iexact HP
    isplitl [HU] <;> iassumption
  imod (close_all (accs m) K c) $$ [HF] with HZ
  · isplitr; · iexact HC
    iexact HF
  imodintro
  unfold Φ₁ Own Zero
  isplitl [HW HZ]
  · isplitl [HW]; · iexact HW
    iexact HZ
  isplitl [HS]; · unfold Stg; iexact HS
  iexact HO

/-- What the body is entered with, and what it leaves. -/
def Pre (c : Dev nD) : sProp 𝕄 :=
  iprop(Φ₀ m c ∗ (dats m ρ 0 c).owesAt (0 : ℕ) t₀.castSucc
    ∗ (∃ d, stg c cc0_stg0_0 ((dats m ρ 0 c).before (0 : Fin 8) t₀ d)) ∗ (∃ d, stg c cc0_stg1_0 ((dats m ρ 0 c).before (1 : Fin 8) t₀ d))
    ∗ (∃ d, stg c cc0_stg2_0 ((dats m ρ 0 c).before (2 : Fin 8) t₀ d)) ∗ (∃ d, stg c cc0_stg3_0 ((dats m ρ 0 c).before (3 : Fin 8) t₀ d))
    ∗ (∃ d, stg c cc0_stg4_0 ((dats m ρ 0 c).before (4 : Fin 8) t₀ d)) ∗ (∃ d, stg c cc0_stg5_0 ((dats m ρ 0 c).before (5 : Fin 8) t₀ d))
    ∗ (∃ d, stg c cc0_stg6_0 ((dats m ρ 0 c).before (6 : Fin 8) t₀ d)) ∗ (∃ d, stg c cc0_stg7_0 ((dats m ρ 0 c).before (7 : Fin 8) t₀ d)))
def Post (c : Dev nD) : sProp 𝕄 :=
  iprop(Φ₁ c ∗ (dats m ρ 0 c).owesAt (0 : ℕ) t₀.succ ∗ stg c cc0_stg0_0 (inX m c) ∗ stg c cc0_stg1_0 (inW0 m c) ∗ stg c cc0_stg2_0 (inO0 m c)
    ∗ stg c cc0_stg3_0 (inW1 m c) ∗ stg c cc0_stg4_0 (inO1 m c) ∗ stg c cc0_stg5_0 (inW2 m c) ∗ stg c cc0_stg6_0 (inO2 m c) ∗ stg c cc0_stg7_0 (outAt m c))

theorem before0 (c : Dev nD) (d) : (dats m ρ 0 c).before (0 : Fin 8) t₀ d = inX m c := by
  unfold Dat.before; rw [if_pos (fetch0_0 t₀)]; rfl
theorem before1 (c : Dev nD) (d) : (dats m ρ 0 c).before (1 : Fin 8) t₀ d = inW0 m c := by
  unfold Dat.before; rw [if_pos (fetch0_1 t₀)]; rfl
theorem before2 (c : Dev nD) (d) : (dats m ρ 0 c).before (2 : Fin 8) t₀ d = inO0 m c := by
  unfold Dat.before; rw [if_pos (fetch0_2 t₀)]; rfl
theorem before3 (c : Dev nD) (d) : (dats m ρ 0 c).before (3 : Fin 8) t₀ d = inW1 m c := by
  unfold Dat.before; rw [if_pos (fetch0_3 t₀)]; rfl
theorem before4 (c : Dev nD) (d) : (dats m ρ 0 c).before (4 : Fin 8) t₀ d = inO1 m c := by
  unfold Dat.before; rw [if_pos (fetch0_4 t₀)]; rfl
theorem before5 (c : Dev nD) (d) : (dats m ρ 0 c).before (5 : Fin 8) t₀ d = inW2 m c := by
  unfold Dat.before; rw [if_pos (fetch0_5 t₀)]; rfl
theorem before6 (c : Dev nD) (d) : (dats m ρ 0 c).before (6 : Fin 8) t₀ d = inO2 m c := by
  unfold Dat.before; rw [if_pos (fetch0_6 t₀)]; rfl

theorem owes_in (c : Dev nD) : ((dats m ρ 0 c).owesAt (0 : ℕ) t₀.castSucc : sProp 𝕄) ⊢ ow c (O₀ c) := by
  unfold Dat.owesAt Pipeline.owesWithin ow
  rw [show (dats m ρ 0 c).owed t₀.castSucc = O₀ c from rfl]
  iintro ⟨%W, %hW, HO⟩
  iexists W
  iexact HO
theorem owes_out (c : Dev nD) : (ow c 0 : sProp 𝕄) ⊢ (dats m ρ 0 c).owesAt (0 : ℕ) t₀.succ := by
  unfold Dat.owesAt Pipeline.owesWithin ow
  rw [show (dats m ρ 0 c).owed t₀.succ = 0 from rfl]
  iintro ⟨%W, HO⟩
  iexists W
  isplitr; · ipureintro; exact fun _ _ => Or.inl trivial
  iexact HO

theorem body_pre (c : Dev nD) : Pre m ρ c ⊢ WP c bodyP (fun _ => Post m ρ c) := by
  unfold Pre
  simp only [before0 m ρ, before1 m ρ, before2 m ρ, before3 m ρ, before4 m ρ, before5 m ρ, before6 m ρ]
  iintro ⟨HΦ, HO, ⟨%_, G0⟩, ⟨%_, G1⟩, ⟨%_, G2⟩, ⟨%_, G3⟩, ⟨%_, G4⟩, ⟨%_, G5⟩, ⟨%_, G6⟩, ⟨%d7, G7⟩⟩
  ihave HO := (owes_in m ρ c) $$ HO
  ihave G0 := (stg_pt c _ _) $$ G0
  ihave G1 := (stg_pt c _ _) $$ G1
  ihave G2 := (stg_pt c _ _) $$ G2
  ihave G3 := (stg_pt c _ _) $$ G3
  ihave G4 := (stg_pt c _ _) $$ G4
  ihave G5 := (stg_pt c _ _) $$ G5
  ihave G6 := (stg_pt c _ _) $$ G6
  ihave G7 := (stg_pt c _ _) $$ G7
  ihave H := (body_run m c _) $$ [HΦ HO G0 G1 G2 G3 G4 G5 G6 G7]
  · isplitl [HΦ]; · iexact HΦ
    isplitr [HO]
    · unfold Stg
      isplitl [G0]; · iexact G0
      isplitl [G1]; · iexact G1
      isplitl [G2]; · iexact G2
      isplitl [G3]; · iexact G3
      isplitl [G4]; · iexact G4
      isplitl [G5]; · iexact G5
      isplitl [G6]; · iexact G6
      iexact G7
    iexact HO
  iapply (wp_wand frame (wpE (defs₀ (F := F)) 𝒱₀ (c : Thread nD τ) none) Set.univ) $$ H
  unfold Stg Post
  iintro %_ ⟨HΦ, ⟨G0, G1, G2, G3, G4, G5, G6, G7⟩, HO⟩
  isplitl [HΦ]; · iexact HΦ
  isplitl [HO]; · iapply (owes_out m ρ c) $$ HO
  isplitl [G0]; · iapply (pt_stg c _ _) $$ G0
  isplitl [G1]; · iapply (pt_stg c _ _) $$ G1
  isplitl [G2]; · iapply (pt_stg c _ _) $$ G2
  isplitl [G3]; · iapply (pt_stg c _ _) $$ G3
  isplitl [G4]; · iapply (pt_stg c _ _) $$ G4
  isplitl [G5]; · iapply (pt_stg c _ _) $$ G5
  isplitl [G6]; · iapply (pt_stg c _ _) $$ G6
  iapply (pt_stg c _ _) $$ G7

theorem bigSep_W (Φ : Fin cfg0.W → sProp 𝕄) : bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0 Φ

set_option maxRecDepth 60000 in
/-- The body's obligation on device `c`. -/
theorem body_obligation (c : Dev nD) : BodyObligation (dats (F := F) m ρ 0 c) (defs₀ (F := F)) 𝒱₀ (0 : ℕ) Set.univ := fun t => by
  rw [only_t t]
  rw [bigSep_W, bigSep_W]
  simp only [owns_stg]
  show Pre m ρ c ⊢ WP c (bodyAt0 t₀) (fun _ => Post m ρ c)
  rw [body_eq]
  exact body_pre m ρ c

/-! ## The conditions of the launch -/

theorem own_facts : Pipeline.OwnSemFacts cfg0.spec osem := by decide

theorem share_full (c : Dev nD) (w : Fin cfg0.W) : (dats m ρ 0 c).share w = fullShare := by unfold Dat.share; split <;> rfl

def u₀ : UU :=
  (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (accs m) c)
      ⊢ |={Set.univ}=> iprop(start m c ∗ emp) := by
  iintro ⟨-, Hl, Hc, -, HG⟩
  ihave Hc := (creds c) $$ Hc
  imodintro
  unfold start Lev
  isplitl
  · isplitl [HG]; · iexact HG
    isplitl [Hc]; · iexact Hc
    iexact Hl
  · iempintro

theorem own_eq (c : Dev nD) : (Pipeline.scopedRest (Ix := ℕ) (Name := ℕ) (U := UU) (Lvl := ℕ) (Val := Elt F) spec0 c : sProp 𝕄) ⊣⊢ Own c := by
  rw [scopedRest0_eq]
  unfold Own Lw any pt
  constructor
  · iintro ⟨H0, H1, H2, H3, H4, H5, H6, H7⟩
    isplitl [H0]; · iexact H0
    isplitl [H1]; · iexact H1
    isplitl [H2]; · iexact H2
    isplitl [H5]; · iexact H5
    isplitl [H3]; · iexact H3
    isplitl [H6]; · iexact H6
    isplitl [H4]; · iexact H4
    iexact H7
  · iintro ⟨H0, H1, H2, H5, H3, H6, H4, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem phi_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (own_eq c).1 $$ Hr

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁ Zero
  rw [sems0_eq]
  iintro ⟨Hr, HS, HB⟩
  isplitl [HB]; · iexact HB
  isplitl [HS]; · iexact HS
  iapply (own_eq c).2 $$ Hr

theorem ab_oweB (c : Dev nD) : ∀ js : List (Fin 7), Ab 0 (oweB c js)
  | [] => Ab_mono (by decide) (ab_oweL0 c)
  | j :: js => Ab_add (ab_oweB c js) (by rw [L_tc]; decide) (by rw [lv_bar]; decide)

theorem wait_stage (c : Dev nD) (sm : SemLoc sig) (h : lv ((c : Thread nD τ), sm) 0 = 0) (O : CellTallies nD τ sig ℕ) (hO : O = O₀ c ∨ O = 0) :
    (levAts L lv : sProp 𝕄) ⊢ MayWait (c : Thread nD τ) sm 0 O := by
  rcases hO with rfl | rfl
  · exact mayWait (ab_oweB c ordB) c sm 0 (by decide) (by rw [h])
  · exact mayWait (Ab_zero 0) c sm 0 (by decide) (by rw [h])

theorem waits (c : Dev nD) : (levAts L lv : sProp 𝕄) ⊢ Pipeline.cellsWaits cfgs (dats m ρ) (0 : ℕ) 0 c :=
  Pipeline.cellsWaits_intro cfgs (dats m ρ) (0 : ℕ) 0 c fun w s t =>
    wait_stage c _ (by fin_cases w <;> fin_cases s <;> rfl) _ (by
      rcases t with ⟨_ | _, ht⟩
      · exact Or.inl rfl
      · exact Or.inr rfl)

/-! ## The run -/

/-- The arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 60000 in
/-- From any memory with zero counters, every weakly fair execution on the mesh terminates, every semaphore back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ own_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G (accs m)) (G' := G' (accs m)) (u₀ := u₀)
    (hu₀ := by
      unfold u₀
      iintro Hu
      ihave H := (ownU_pair _ _) $$ Hu
      icases H with ⟨HP, HX⟩
      imod (fund_all (accs m)) $$ HX with HG
      imodintro
      isplitl [HP] <;> iassumption)
    (hglob := glob (accs m))
    (hA := fun _ _ => rfl) (hpf := fun _ k => k.elim0)
    (X := start m) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.MlpProof
end
-- ==== Proof.Sum.lean ====
/-
# The reduction at the ideal values

At the ideal values the reduction of a layer is the sum over the devices, and the products are sums of products.
-/
module

public import proofs.«01_k».proof.Proof.Data
public import Idealize.ShloMosaic.Lib.Layout
public import Idealize.ShloMosaic.Lib.ValueIdx
public import Idealize.ShloMosaic.Lib.MatmulPlain
public import Idealize.ShloMosaic.Lib.StackMember

@[expose] public section

noncomputable section

namespace Cert.MlpProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The reduction over the mesh is the sum over the devices -/

section Reduce
variable (f : Dev nD → EReal)

/-- The devices whose shares a device holds after the sums over x, y, z in that order. -/
def dx (c : Dev nD) : List (Dev nD) := [c, xp c]
def dy (c : Dev nD) : List (Dev nD) := [c, yn 0 c, yn 1 c, yn 2 c]
def dz (c : Dev nD) : List (Dev nD) := [c, zn 0 c, zn 1 c, zn 2 c]
def devsA (c : Dev nD) : List (Dev nD) := (dz c).flatMap fun c => (dy c).flatMap dx
def devsB (c : Dev nD) : List (Dev nD) := (dx c).flatMap fun c => (dz c).flatMap dy

theorem devsA_all : ∀ c : Dev nD, (devsA c).Perm (List.finRange 32) := by decide +kernel
theorem devsB_all : ∀ c : Dev nD, (devsB c).Perm (List.finRange 32) := by decide +kernel

theorem sum_perm {l : List (Dev nD)} (h : l.Perm (List.finRange 32)) : (l.map f).sum = ∑ d : Dev nD, f d := by
  rw [(h.map f).sum_eq]
  exact (Fin.sum_univ_def f).symm

end Reduce

section Layer
variable (A : Dev nD → Acc Ideal) (i : S512x512.Idx)

theorem a1_apply (c : Dev nD) : a1 A c i = A c i + A (xp c) i := rfl
theorem a2_apply (c : Dev nD) : a2 A c i = a1 A c i + a1 A (yn 0 c) i + a1 A (yn 1 c) i + a1 A (yn 2 c) i := rfl
theorem a3_apply (c : Dev nD) : a3 A c i = a2 A c i + a2 A (zn 0 c) i + a2 A (zn 1 c) i + a2 A (zn 2 c) i := rfl
theorem b1_apply (c : Dev nD) : b1 A c i = A c i + A (yn 0 c) i + A (yn 1 c) i + A (yn 2 c) i := rfl
theorem b2_apply (c : Dev nD) : b2 A c i = b1 A c i + b1 A (zn 0 c) i + b1 A (zn 1 c) i + b1 A (zn 2 c) i := rfl
theorem b3_apply (c : Dev nD) : b3 A c i = b2 A c i + b2 A (xp c) i := rfl

theorem a3_sum (c : Dev nD) : a3 A c i = ∑ d : Dev nD, A d i := by
  rw [← sum_perm (fun d => A d i) (devsA_all c)]
  simp only [a3_apply, a2_apply, a1_apply, devsA, dx, dy, dz, List.flatMap_cons, List.flatMap_nil, List.map_append, List.map_cons, List.map_nil,
    List.sum_append, List.sum_cons, List.sum_nil, add_zero, add_assoc]
theorem b3_sum (c : Dev nD) : b3 A c i = ∑ d : Dev nD, A d i := by
  rw [← sum_perm (fun d => A d i) (devsB_all c)]
  simp only [b3_apply, b2_apply, b1_apply, devsB, dx, dy, dz, List.flatMap_cons, List.flatMap_nil, List.map_append, List.map_cons, List.map_nil,
    List.sum_append, List.sum_cons, List.sum_nil, add_zero, add_assoc]

theorem rl_apply (v : Acc Ideal) : rl v i = max (v i) 0 := by
  show max (v i) (Ideal.ofBits .f32 0x00000000#32) = _
  rw [Ideal.ofBits_zero_f32]

theorem Hm_apply (c : Dev nD) : Hm A c i = max (∑ d : Dev nD, A d i) 0 := by
  unfold Hm
  split
  · rw [rl_apply, a3_sum]
  · rw [rl_apply, b3_sum]

end Layer

/-! ## The products -/

section Products
variable (h : S512x512.Idx → EReal) (x o : S512x256.Idx → EReal) (w : S256x512.Idx → EReal)

theorem pay2_apply (r k : Fin 512) :
    k0_pay2 (F := Ideal) x w (ValueIdx.ix2 r k) = ∑ j : Fin 256, x (ValueIdx.ix2 r j) * w (ValueIdx.ix2 j k) := by
  have e : k0_pay2 (F := Ideal) x w
      = FloatOps.matmul (F := Ideal) (φ₁ := .f32) (φ₂ := .f32) (DotDims.plain 512 256 512) none x w (constant S512x512 .f32 0x00000000#32) := by
    unfold k0_pay2
    erw [shapeCast_self, shapeCast_self]
    exact shapeCast_self _ _
  rw [e, Ideal.matmul_plain_apply]
  show Ideal.ofBits .f32 0x00000000#32 + _ = _
  rw [Ideal.ofBits_zero_f32, zero_add]

theorem pay1_apply (r : Fin 512) (j : Fin 256) :
    k0_pay1 (F := Ideal) h o (ValueIdx.ix2 r j) = ∑ k : Fin 512, h (ValueIdx.ix2 r k) * o (ValueIdx.ix2 k j) := by
  have e : k0_pay1 (F := Ideal) h o
      = FloatOps.matmul (F := Ideal) (φ₁ := .bf16) (φ₂ := .bf16) (DotDims.plain 512 512 256) none h o (constant S512x256 .f32 0x00000000#32) := by
    unfold k0_pay1
    erw [shapeCast_self]
    rfl
  rw [e, Ideal.matmul_plain_apply]
  show Ideal.ofBits .f32 0x00000000#32 + _ = _
  rw [Ideal.ofBits_zero_f32, zero_add]

theorem pay9_eq : k0_pay9 (F := Ideal) h o w = k0_pay2 (F := Ideal) (k0_pay1 (F := Ideal) h o) w := by
  unfold k0_pay9 k0_pay2 k0_pay1
  erw [shapeCast_self, shapeCast_self, shapeCast_self]

end Products

/-! ## The blocks of the whole arrays -/

abbrev WX : Shape := ⟨2, ![512, 8192]⟩
abbrev WI : Shape := ⟨2, ![8192, 512]⟩
/-- The columns of device `c` of an array cut along its columns, -/
def cols (c : Dev nD) (X : WX.Idx → EReal) : S512x256.Idx → EReal := Layout.block ⟨2, ![512, 256]⟩ ⟨2, ![512, 8192]⟩ 1 32 c X
/-- and the rows of device `c` of an array cut along its rows. -/
def rows (c : Dev nD) (W : WI.Idx → EReal) : S256x512.Idx → EReal := Layout.block ⟨2, ![256, 512]⟩ ⟨2, ![8192, 512]⟩ 0 32 c W

/-- Entry `j` of device `c`'s block is entry `256 * c + j` of the whole. -/
def at256 (c : Dev nD) (j : Fin 256) : Fin 8192 := ⟨c.val * 256 + j.val, by have := c.isLt; have := j.isLt; change c.val < 32 at *; omega⟩

theorem cols_apply (c : Dev nD) (X : WX.Idx → EReal) (r : Fin 512) (j : Fin 256) :
    cols c X (ValueIdx.ix2 r j) = X (ValueIdx.ix2 r (at256 c j)) := by
  unfold cols
  rw [Layout.block_apply]
  congr 1
  funext a
  match a with
  | ⟨0, _⟩ => rfl
  | ⟨1, _⟩ => rfl
theorem rows_apply (c : Dev nD) (W : WI.Idx → EReal) (j : Fin 256) (k : Fin 512) :
    rows c W (ValueIdx.ix2 j k) = W (ValueIdx.ix2 (at256 c j) k) := by
  unfold rows
  rw [Layout.block_apply]
  congr 1
  funext a
  match a with
  | ⟨0, _⟩ => rfl
  | ⟨1, _⟩ => rfl

theorem sum_at256 (g : Fin 8192 → EReal) : ∑ d : Dev nD, ∑ j : Fin 256, g (at256 d j) = ∑ l : Fin 8192, g l := by
  show ∑ d : Fin 32, ∑ j : Fin 256, g (at256 d j) = _
  rw [← Fintype.sum_prod_type' (fun (d : Fin 32) (j : Fin 256) => g (at256 d j))]
  refine Fintype.sum_equiv (finProdFinEquiv (m := 32) (n := 256)) _ _ fun p => congrArg g (Fin.ext ?_)
  show p.1.val * 256 + p.2.val = p.2.val + 256 * p.1.val
  omega

/-! ## A layer -/

/-- The first product of a layer, of the whole arrays. -/
def up (X : WX.Idx → EReal) (W : WI.Idx → EReal) : S512x512.Idx → EReal :=
  Host.dotGeneral (F := Ideal) (φ₁ := .f32) (φ₂ := .f32) (DotDims.plain 512 8192 512) none X W
/-- The second product of a layer, of the whole arrays. -/
def down (H : S512x512.Idx → EReal) (O : WX.Idx → EReal) : WX.Idx → EReal :=
  Host.dotGeneral (F := Ideal) (φ₁ := .f32) (φ₂ := .f32) (DotDims.plain 512 512 8192) none H O
/-- The positive part. -/
def pos (v : S512x512.Idx → EReal) : S512x512.Idx → EReal := fun i => max (v i) 0

theorem sum_pay2 (X : WX.Idx → EReal) (W : WI.Idx → EReal) (i : S512x512.Idx) :
    ∑ d : Dev nD, k0_pay2 (F := Ideal) (cols d X) (rows d W) i = up X W i := by
  obtain ⟨r, k, rfl⟩ : ∃ (r k : Fin 512), i = ValueIdx.ix2 r k := ⟨i 0, i 1, ValueIdx.eq_ix2 i⟩
  unfold up
  rw [StackMember.dotGeneral_plain_apply, ← sum_at256]
  refine Finset.sum_congr rfl fun d _ => ?_
  rw [pay2_apply]
  refine Finset.sum_congr rfl fun j _ => ?_
  rw [cols_apply, rows_apply]

theorem pay1_cols (H : S512x512.Idx → EReal) (O : WX.Idx → EReal) (c : Dev nD) :
    k0_pay1 (F := Ideal) H (cols c O) = cols c (down H O) := by
  funext i
  obtain ⟨r, j, rfl⟩ : ∃ (r : Fin 512) (j : Fin 256), i = ValueIdx.ix2 r j := ⟨i 0, i 1, ValueIdx.eq_ix2 i⟩
  rw [pay1_apply, cols_apply]
  unfold down
  rw [StackMember.dotGeneral_plain_apply]
  refine Finset.sum_congr rfl fun k _ => ?_
  rw [cols_apply]

/-- The activation every device gathers is the positive part of the first product of the whole arrays. -/
theorem Hm_up (X : WX.Idx → EReal) (W : WI.Idx → EReal) (c : Dev nD) :
    Hm (F := Ideal) (fun d => k0_pay2 (F := Ideal) (cols d X) (rows d W)) c = pos (up X W) := by
  funext i
  rw [Hm_apply, sum_pay2]
  rfl

end Cert.MlpProof
end
-- ==== Proof.Value.lean ====
/-
# What the run leaves

The arrays after the run, and at the ideal values the result of every device as its part of the reference's.
-/
module

public import proofs.«01_k».proof.Proof.Run
public import proofs.«01_k».proof.Proof.Sum
public import proofs.«01_k».proof.Proof.Gen.ReferenceIdeal.Run
public import Idealize.ShloMosaic.Lib.Pipeline.ValueKit

@[expose] public section

noncomputable section

namespace Cert.MlpProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline

/-! ## The arrays -/

section Arrays
variable  {F : FTy → Type} [FloatOps F]
variable (m : (ℓ : Loc nD τ sig) → Buf (Elt F) ℓ) (ρ : Dev nD → PrngReg)

/-- Every window is its whole array: the block of the one point starts at zero. -/
theorem emb0 (y : S512x256.Idx) : ((cfg0.win 0).blk t₀).view.emb y = y := by
  funext a; apply Fin.ext
  refine (ValueKit.rect_emb_unit_val ..).trans ?_
  match a with
  | ⟨0, _⟩ => exact Nat.zero_add _
  | ⟨1, _⟩ => exact Nat.zero_add _
theorem emb1 (y : S256x512.Idx) : ((cfg0.win 1).blk t₀).view.emb y = y := by
  funext a; apply Fin.ext
  refine (ValueKit.rect_emb_unit_val ..).trans ?_
  match a with
  | ⟨0, _⟩ => exact Nat.zero_add _
  | ⟨1, _⟩ => exact Nat.zero_add _
theorem emb2 (y : S512x256.Idx) : ((cfg0.win 2).blk t₀).view.emb y = y := by
  funext a; apply Fin.ext
  refine (ValueKit.rect_emb_unit_val ..).trans ?_
  match a with
  | ⟨0, _⟩ => exact Nat.zero_add _
  | ⟨1, _⟩ => exact Nat.zero_add _
theorem emb3 (y : S256x512.Idx) : ((cfg0.win 3).blk t₀).view.emb y = y := by
  funext a; apply Fin.ext
  refine (ValueKit.rect_emb_unit_val ..).trans ?_
  match a with
  | ⟨0, _⟩ => exact Nat.zero_add _
  | ⟨1, _⟩ => exact Nat.zero_add _
theorem emb4 (y : S512x256.Idx) : ((cfg0.win 4).blk t₀).view.emb y = y := by
  funext a; apply Fin.ext
  refine (ValueKit.rect_emb_unit_val ..).trans ?_
  match a with
  | ⟨0, _⟩ => exact Nat.zero_add _
  | ⟨1, _⟩ => exact Nat.zero_add _
theorem emb5 (y : S256x512.Idx) : ((cfg0.win 5).blk t₀).view.emb y = y := by
  funext a; apply Fin.ext
  refine (ValueKit.rect_emb_unit_val ..).trans ?_
  match a with
  | ⟨0, _⟩ => exact Nat.zero_add _
  | ⟨1, _⟩ => exact Nat.zero_add _
theorem emb6 (y : S512x256.Idx) : ((cfg0.win 6).blk t₀).view.emb y = y := by
  funext a; apply Fin.ext
  refine (ValueKit.rect_emb_unit_val ..).trans ?_
  match a with
  | ⟨0, _⟩ => exact Nat.zero_add _
  | ⟨1, _⟩ => exact Nat.zero_add _
theorem emb7 (y : S512x256.Idx) : ((cfg0.win 7).blk t₀).view.emb y = y := by
  funext a; apply Fin.ext
  refine (ValueKit.rect_emb_unit_val ..).trans ?_
  match a with
  | ⟨0, _⟩ => exact Nat.zero_add _
  | ⟨1, _⟩ => exact Nat.zero_add _

theorem inX_eq (c : Dev nD) : inX m c = m ((c.tc : Thread nD τ).loc main_arg0) :=
  funext fun i => congrArg (m ((c.tc : Thread nD τ).loc main_arg0)) (emb0 i)
theorem inW0_eq (c : Dev nD) : inW0 m c = m ((c.tc : Thread nD τ).loc main_arg1) :=
  funext fun i => congrArg (m ((c.tc : Thread nD τ).loc main_arg1)) (emb1 i)
theorem inO0_eq (c : Dev nD) : inO0 m c = m ((c.tc : Thread nD τ).loc main_arg2) :=
  funext fun i => congrArg (m ((c.tc : Thread nD τ).loc main_arg2)) (emb2 i)
theorem inW1_eq (c : Dev nD) : inW1 m c = m ((c.tc : Thread nD τ).loc main_arg3) :=
  funext fun i => congrArg (m ((c.tc : Thread nD τ).loc main_arg3)) (emb3 i)
theorem inO1_eq (c : Dev nD) : inO1 m c = m ((c.tc : Thread nD τ).loc main_arg4) :=
  funext fun i => congrArg (m ((c.tc : Thread nD τ).loc main_arg4)) (emb4 i)
theorem inW2_eq (c : Dev nD) : inW2 m c = m ((c.tc : Thread nD τ).loc main_arg5) :=
  funext fun i => congrArg (m ((c.tc : Thread nD τ).loc main_arg5)) (emb5 i)
theorem inO2_eq (c : Dev nD) : inO2 m c = m ((c.tc : Thread nD τ).loc main_arg6) :=
  funext fun i => congrArg (m ((c.tc : Thread nD τ).loc main_arg6)) (emb6 i)

theorem finalA_in (c : Dev nD) (w : Fin cfg0.W) (h : (cfg0.win w).isOut = false) :
    finalA m ρ c w = m ((cfg0.win w).arr.view.loc (c : Thread nD τ)) := (dats m ρ 0 c).arrAt_in w h _

theorem finalA_out (c : Dev nD) : finalA m ρ c 7 = outAt m c := by
  refine (dats m ρ 0 c).arrAt_eq_of_covers 7 (outAt m c) (by decide +kernel) fun t _ y => ?_
  obtain rfl := only_t t
  exact (congrArg (outAt m c) (emb7 y)).symm

end Arrays

/-! ## The result at the ideal values -/

section Result
variable (m : (ℓ : Loc nD τ sig) → Buf (Elt Ideal) ℓ)

/-- The activation of the reference's layer on the whole arrays, -/
def act (X : WX.Idx → EReal) (W : WI.Idx → EReal) : S512x512.Idx → EReal := pos (up X W)

variable (X O0 O1 O2 : WX.Idx → EReal) (W0 W1 W2 : WI.Idx → EReal)

/-- and the result of its three layers. -/
def ref3 : WX.Idx → EReal := down (act (down (act (down (act X W0) O0) W1) O1) W2) O2

theorem outAt_eq (hX : ∀ c : Dev nD, inX m c = cols c X) (hW0 : ∀ c : Dev nD, inW0 m c = rows c W0) (hO0 : ∀ c : Dev nD, inO0 m c = cols c O0)
    (hW1 : ∀ c : Dev nD, inW1 m c = rows c W1) (hO1 : ∀ c : Dev nD, inO1 m c = cols c O1)
    (hW2 : ∀ c : Dev nD, inW2 m c = rows c W2) (hO2 : ∀ c : Dev nD, inO2 m c = cols c O2) (c : Dev nD) :
    outAt m c = cols c (ref3 X O0 O1 O2 W0 W1 W2) := by
  have e0 : acc0 m = fun d => k0_pay2 (F := Ideal) (cols d X) (rows d W0) := by
    funext d; unfold acc0; rw [hX, hW0]
  have e1 : acc1 m = fun d => k0_pay2 (F := Ideal) (cols d (down (act X W0) O0)) (rows d W1) := by
    funext d; unfold acc1; rw [e0, Hm_up, hO0, hW1, pay9_eq, pay1_cols]; rfl
  have e2 : acc2 m = fun d => k0_pay2 (F := Ideal) (cols d (down (act (down (act X W0) O0) W1) O1)) (rows d W2) := by
    funext d; unfold acc2; rw [e1, Hm_up, hO1, hW2, pay9_eq, pay1_cols]; rfl
  unfold outAt
  rw [e2, Hm_up, hO2, pay1_cols]; rfl

end Result

/-! ## The reference's term -/

theorem relu_eq (v : Cert.ReferenceIdeal.S512x512.Idx → EReal) :
    maximumf (F := Ideal) (φ := .f32) v (broadcastInDim Cert.ReferenceIdeal.S512x512 ![] Cert.ReferenceIdeal.Gen.facts.bcast_S_S512x512 (constant Cert.ReferenceIdeal.S_ .f32 0x00000000#32)) = pos v := by
  funext i
  show max (v i) (Ideal.ofBits .f32 0x00000000#32) = _
  rw [Ideal.ofBits_zero_f32]; rfl

end Cert.MlpProof
end
-- ==== Proof.Same.lean ====
/-
# The two printed programs are one

The program read at the machine's floats and the program read at the extended reals are the same text, so a run of the
one is a run of the other.
-/
module

public import proofs.«01_k».proof.Proof.Gen.Kernel
public import proofs.«01_k».proof.Proof.Gen.KernelIdeal

@[expose] public section
noncomputable section
namespace Cert.MlpProof
open Idealize.ShloMosaic Idealize.SL.Sem

variable {F : FTy → Type} [FloatOps F]
set_option maxRecDepth 100000
/-- Their main functions, -/
theorem main_same : (Cert.Kernel.main (F := F)) = (Cert.KernelIdeal.main (F := F)) := rfl
/-- their windows, -/
theorem win_same : (Cert.Kernel.win0) = (Cert.KernelIdeal.win0) := rfl
/-- their pipelines, -/
theorem cfg_same : (Cert.Kernel.cfg0) = (Cert.KernelIdeal.cfg0) := rfl
/-- their bodies, -/
theorem body_same : (@Cert.Kernel.cc0_body F _ _) = (@Cert.KernelIdeal.cc0_body F _ _) := rfl
/-- and the tables of their functions agree. -/
theorem defs0_same : (Cert.Kernel.defs₀ (F := F)) = (Cert.KernelIdeal.defs₀ (F := F)) := by
  unfold Cert.Kernel.defs₀ Cert.KernelIdeal.defs₀
  refine congrArg Defs.onTc (funext fun l => funext fun a => ?_)
  match l, a with
  | ⟨0, _⟩, (t, s) => rfl
theorem defs_same : (Cert.Kernel.defs (F := F)) = (Cert.KernelIdeal.defs (F := F)) :=
  congrArg (Pipeline.defs Cert.KernelIdeal.pcfgs) defs0_same

end Cert.MlpProof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.SL.Sem
open Cert.MlpProof

/-! ## The frames -/

theorem frame_kernelIdeal : Cert.quiescent_KernelIdeal := fun m ρ _ =>
  (θ_run Cert.KernelIdeal.defs _ _).mono
    (fun _ h => ⟨fun c => ⟨(h.1 c 0).trans (finalA_in m ρ c 0 rfl), (h.1 c 1).trans (finalA_in m ρ c 1 rfl), (h.1 c 2).trans (finalA_in m ρ c 2 rfl), (h.1 c 3).trans (finalA_in m ρ c 3 rfl), (h.1 c 4).trans (finalA_in m ρ c 4 rfl), (h.1 c 5).trans (finalA_in m ρ c 5 rfl), (h.1 c 6).trans (finalA_in m ρ c 6 rfl)⟩, h.2⟩)
    (run_main (F := Ideal) m ρ)

theorem frame_kernel : Cert.quiescent_Kernel := by
  intro m ρ _
  rw [defs_same, main_same]
  exact (θ_run (Cert.KernelIdeal.defs (F := Bits)) _ _).mono
    (fun _ h => ⟨fun c => ⟨(h.1 c 0).trans (finalA_in m ρ c 0 rfl), (h.1 c 1).trans (finalA_in m ρ c 1 rfl), (h.1 c 2).trans (finalA_in m ρ c 2 rfl), (h.1 c 3).trans (finalA_in m ρ c 3 rfl), (h.1 c 4).trans (finalA_in m ρ c 4 rfl), (h.1 c 5).trans (finalA_in m ρ c 5 rfl), (h.1 c 6).trans (finalA_in m ρ c 6 rfl)⟩, h.2⟩)
    (run_main (F := Bits) m ρ)

theorem frame_reference : Cert.quiescent_ReferenceIdeal := fun m ρ _ =>
  (θ_run Cert.ReferenceIdeal.defs _ _).mono
    (fun r h => ⟨fun c => (h c).2, sem_eq_zero_of_no_sems rfl r.2⟩)
    (Cert.ReferenceIdeal.Value.run (F := Ideal) m ρ)

/-! ## The value -/

open Cert.ReferenceIdeal in
/-- The reference's result is the three layers of the whole arrays. -/
theorem reference_value (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v11)
        = ref3 (m' ((c.tc : Thread nD τ).loc main_arg0)) (m' ((c.tc : Thread nD τ).loc main_arg2)) (m' ((c.tc : Thread nD τ).loc main_arg4))
            (m' ((c.tc : Thread nD τ).loc main_arg6)) (m' ((c.tc : Thread nD τ).loc main_arg1)) (m' ((c.tc : Thread nD τ).loc main_arg3))
            (m' ((c.tc : Thread nD τ).loc main_arg5)) ∧
      r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6) :=
  (θ_run defs _ _).mono
    (fun _ h c => ⟨(h c).1.trans (by
      rw [relu_eq]; erw [relu_eq]; erw [relu_eq]; rfl), (h c).2⟩)
    (Cert.ReferenceIdeal.Value.run (F := Ideal) m' g')

theorem algebraic : Cert.algebraic_KernelIdeal_ReferenceIdeal := fun m ρ m' g' _ hin =>
  ⟨_, (θ_run Cert.KernelIdeal.defs _ _).mono
    (fun _ h c => ⟨((h.1 c 7).trans (finalA_out m ρ c)).trans
      (outAt_eq m _ _ _ _ _ _ _ (fun d => (inX_eq m d).trans (hin d).1) (fun d => (inW0_eq m d).trans (hin d).2.1)
        (fun d => (inO0_eq m d).trans (hin d).2.2.1) (fun d => (inW1_eq m d).trans (hin d).2.2.2.1)
        (fun d => (inO1_eq m d).trans (hin d).2.2.2.2.1) (fun d => (inW2_eq m d).trans (hin d).2.2.2.2.2.1)
        (fun d => (inO2_eq m d).trans (hin d).2.2.2.2.2.2) c), (h.1 c 0).trans (finalA_in m ρ c 0 rfl), (h.1 c 1).trans (finalA_in m ρ c 1 rfl), (h.1 c 2).trans (finalA_in m ρ c 2 rfl), (h.1 c 3).trans (finalA_in m ρ c 3 rfl), (h.1 c 4).trans (finalA_in m ρ c 4 rfl), (h.1 c 5).trans (finalA_in m ρ c 5 rfl), (h.1 c 6).trans (finalA_in m ρ c 6 rfl)⟩)
    (run_main (F := Ideal) m ρ),
   (θ_run Cert.ReferenceIdeal.defs _ _).mono (fun _ h => h 0) (reference_value m' g')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
